-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Expert [hPre_sent : Cert.Pre_sent.Facts] (m : (ℓ : Loc Cert.Expert.nD Cert.Expert.τ Cert.Expert.sig) → Buf (Elt Bits) ℓ) : Prop :=
  ∀ c : Dev Cert.Expert.nD,
    (Cert.Pre_sent.fn (F := Bits) (m ((c.tc : Thread Cert.Expert.nD Cert.Expert.τ).loc Cert.Expert.main_arg0)) (m ((c.tc : Thread Cert.Expert.nD Cert.Expert.τ).loc Cert.Expert.main_arg1)) (m ((c.tc : Thread Cert.Expert.nD Cert.Expert.τ).loc Cert.Expert.main_arg2)) (m ((c.tc : Thread Cert.Expert.nD Cert.Expert.τ).loc Cert.Expert.main_arg3)) (m ((c.tc : Thread Cert.Expert.nD Cert.Expert.τ).loc Cert.Expert.main_arg4))) = (fun _ => 1#1)

def Pre_ExpertIdeal [hPre_sent : Cert.Pre_sent.Facts] (m : (ℓ : Loc Cert.ExpertIdeal.nD Cert.ExpertIdeal.τ Cert.ExpertIdeal.sig) → Buf (Elt Ideal) ℓ) : Prop :=
  ∀ c : Dev Cert.ExpertIdeal.nD,
    (Cert.Pre_sent.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4))) = (fun _ => 1#1)

def Pre_ExpertReferenceIdeal [hPre_sent : Cert.Pre_sent.Facts] (m : (ℓ : Loc Cert.ExpertReferenceIdeal.nD Cert.ExpertReferenceIdeal.τ Cert.ExpertReferenceIdeal.sig) → Buf (Elt Ideal) ℓ) : Prop :=
  ∀ c : Dev Cert.ExpertReferenceIdeal.nD,
    (Cert.Pre_sent.fn (F := Ideal) (m ((c.tc : Thread Cert.ExpertReferenceIdeal.nD Cert.ExpertReferenceIdeal.τ).loc Cert.ExpertReferenceIdeal.main_arg0)) (m ((c.tc : Thread Cert.ExpertReferenceIdeal.nD Cert.ExpertReferenceIdeal.τ).loc Cert.ExpertReferenceIdeal.main_arg1)) (m ((c.tc : Thread Cert.ExpertReferenceIdeal.nD Cert.ExpertReferenceIdeal.τ).loc Cert.ExpertReferenceIdeal.main_arg2)) (m ((c.tc : Thread Cert.ExpertReferenceIdeal.nD Cert.ExpertReferenceIdeal.τ).loc Cert.ExpertReferenceIdeal.main_arg3)) (m ((c.tc : Thread Cert.ExpertReferenceIdeal.nD Cert.ExpertReferenceIdeal.τ).loc Cert.ExpertReferenceIdeal.main_arg4))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Expert [hExpert : Cert.Expert.Facts] [hPre_sent : Cert.Pre_sent.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3)
      ∧ r.2.mem ((c.tc : Thread Cert.Expert.nD Cert.Expert.τ).loc Cert.Expert.main_arg4) = m ((c.tc : Thread Cert.Expert.nD Cert.Expert.τ).loc Cert.Expert.main_arg4))
      ∧ r.2.sem = fun _ => 0)

def quiescent_ExpertIdeal [hExpertIdeal : Cert.ExpertIdeal.Facts] [hPre_sent : Cert.Pre_sent.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4))
      ∧ r.2.sem = fun _ => 0)

def quiescent_ExpertReferenceIdeal [hExpertReferenceIdeal : Cert.ExpertReferenceIdeal.Facts] [hPre_sent : Cert.Pre_sent.Facts] : Prop :=
  ∀ (m : (ℓ : Loc Cert.ExpertReferenceIdeal.nD Cert.ExpertReferenceIdeal.τ Cert.ExpertReferenceIdeal.sig) → Buf (Elt Ideal) ℓ) (g : Dev Cert.ExpertReferenceIdeal.nD → PrngReg), Pre_ExpertReferenceIdeal m →
    θ_run (Cert.ExpertReferenceIdeal.defs (F := Ideal)) (onTc (τ := Cert.ExpertReferenceIdeal.τ) (Cert.ExpertReferenceIdeal.main (F := Ideal))) ⟨m, fun _ => 0, g⟩ (fun r => (∀ c : Dev Cert.ExpertReferenceIdeal.nD,
      r.2.mem ((c.tc : Thread Cert.ExpertReferenceIdeal.nD Cert.ExpertReferenceIdeal.τ).loc Cert.ExpertReferenceIdeal.main_arg0) = m ((c.tc : Thread Cert.ExpertReferenceIdeal.nD Cert.ExpertReferenceIdeal.τ).loc Cert.ExpertReferenceIdeal.main_arg0)
      ∧ r.2.mem ((c.tc : Thread Cert.ExpertReferenceIdeal.nD Cert.ExpertReferenceIdeal.τ).loc Cert.ExpertReferenceIdeal.main_arg1) = m ((c.tc : Thread Cert.ExpertReferenceIdeal.nD Cert.ExpertReferenceIdeal.τ).loc Cert.ExpertReferenceIdeal.main_arg1)
      ∧ r.2.mem ((c.tc : Thread Cert.ExpertReferenceIdeal.nD Cert.ExpertReferenceIdeal.τ).loc Cert.ExpertReferenceIdeal.main_arg2) = m ((c.tc : Thread Cert.ExpertReferenceIdeal.nD Cert.ExpertReferenceIdeal.τ).loc Cert.ExpertReferenceIdeal.main_arg2)
      ∧ r.2.mem ((c.tc : Thread Cert.ExpertReferenceIdeal.nD Cert.ExpertReferenceIdeal.τ).loc Cert.ExpertReferenceIdeal.main_arg3) = m ((c.tc : Thread Cert.ExpertReferenceIdeal.nD Cert.ExpertReferenceIdeal.τ).loc Cert.ExpertReferenceIdeal.main_arg3)
      ∧ r.2.mem ((c.tc : Thread Cert.ExpertReferenceIdeal.nD Cert.ExpertReferenceIdeal.τ).loc Cert.ExpertReferenceIdeal.main_arg4) = m ((c.tc : Thread Cert.ExpertReferenceIdeal.nD Cert.ExpertReferenceIdeal.τ).loc Cert.ExpertReferenceIdeal.main_arg4))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def preserves_Kernel_KernelIdeal : Prop :=
  IdealRules.named_const.Statement Cert.KernelIdeal.κ "nlog2e" .f32 0xBFB8AA3B#32 ((-((Real.log 2)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Expert_ExpertIdeal : Prop :=
  True

def algebraic_ExpertIdeal_ExpertReferenceIdeal_on_sent_rows [hExpertIdeal : Cert.ExpertIdeal.Facts] [hExpertReferenceIdeal : Cert.ExpertReferenceIdeal.Facts] [hPre_sent : Cert.Pre_sent.Facts] [hOn_sent_rows : Cert.On_sent_rows.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertReferenceIdeal.nD Cert.ExpertReferenceIdeal.τ Cert.ExpertReferenceIdeal.sig) → Buf (Elt Ideal) ℓ) (g' : Dev Cert.ExpertReferenceIdeal.nD → PrngReg), Pre_ExpertIdeal m →
    (∀ c : Dev Cert.ExpertIdeal.nD,
      m' ((c.tc : Thread Cert.ExpertReferenceIdeal.nD Cert.ExpertReferenceIdeal.τ).loc Cert.ExpertReferenceIdeal.main_arg0) = m ((c.tc : Thread Cert.ExpertIdeal.nD Cert.ExpertIdeal.τ).loc Cert.ExpertIdeal.main_arg0)
      ∧ m' ((c.tc : Thread Cert.ExpertReferenceIdeal.nD Cert.ExpertReferenceIdeal.τ).loc Cert.ExpertReferenceIdeal.main_arg1) = m ((c.tc : Thread Cert.ExpertIdeal.nD Cert.ExpertIdeal.τ).loc Cert.ExpertIdeal.main_arg1)
      ∧ m' ((c.tc : Thread Cert.ExpertReferenceIdeal.nD Cert.ExpertReferenceIdeal.τ).loc Cert.ExpertReferenceIdeal.main_arg2) = m ((c.tc : Thread Cert.ExpertIdeal.nD Cert.ExpertIdeal.τ).loc Cert.ExpertIdeal.main_arg2)
      ∧ m' ((c.tc : Thread Cert.ExpertReferenceIdeal.nD Cert.ExpertReferenceIdeal.τ).loc Cert.ExpertReferenceIdeal.main_arg3) = m ((c.tc : Thread Cert.ExpertIdeal.nD Cert.ExpertIdeal.τ).loc Cert.ExpertIdeal.main_arg3)
      ∧ m' ((c.tc : Thread Cert.ExpertReferenceIdeal.nD Cert.ExpertReferenceIdeal.τ).loc Cert.ExpertReferenceIdeal.main_arg4) = m ((c.tc : Thread Cert.ExpertIdeal.nD Cert.ExpertIdeal.τ).loc Cert.ExpertIdeal.main_arg4)) →
    ∃ (v0 : (c : Dev Cert.ExpertIdeal.nD) → Buf (Elt Ideal) ((c.tc : Thread Cert.ExpertIdeal.nD Cert.ExpertIdeal.τ).loc Cert.ExpertIdeal.main_v27)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          (∀ i : (⟨2, ![35072, 1024]⟩ : Shape).Idx, (Cert.On_sent_rows.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4))) i = 1#1 → r.2.mem ((c.tc : Thread Cert.ExpertIdeal.nD Cert.ExpertIdeal.τ).loc Cert.ExpertIdeal.main_v27) i = v0 c i)
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
          ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4))
      ∧ θ_run (Cert.ExpertReferenceIdeal.defs (F := Ideal)) (onTc (τ := Cert.ExpertReferenceIdeal.τ) (Cert.ExpertReferenceIdeal.main (F := Ideal))) ⟨m', fun _ => 0, g'⟩ (fun r => ∀ c : Dev Cert.ExpertReferenceIdeal.nD,
          (∀ i : (⟨2, ![35072, 1024]⟩ : Shape).Idx, (Cert.On_sent_rows.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4))) i = 1#1 → r.2.mem ((c.tc : Thread Cert.ExpertReferenceIdeal.nD Cert.ExpertReferenceIdeal.τ).loc Cert.ExpertReferenceIdeal.main_v141) i = v0 c i)
          ∧ r.2.mem ((c.tc : Thread Cert.ExpertReferenceIdeal.nD Cert.ExpertReferenceIdeal.τ).loc Cert.ExpertReferenceIdeal.main_arg0) = m' ((c.tc : Thread Cert.ExpertReferenceIdeal.nD Cert.ExpertReferenceIdeal.τ).loc Cert.ExpertReferenceIdeal.main_arg0)
          ∧ r.2.mem ((c.tc : Thread Cert.ExpertReferenceIdeal.nD Cert.ExpertReferenceIdeal.τ).loc Cert.ExpertReferenceIdeal.main_arg1) = m' ((c.tc : Thread Cert.ExpertReferenceIdeal.nD Cert.ExpertReferenceIdeal.τ).loc Cert.ExpertReferenceIdeal.main_arg1)
          ∧ r.2.mem ((c.tc : Thread Cert.ExpertReferenceIdeal.nD Cert.ExpertReferenceIdeal.τ).loc Cert.ExpertReferenceIdeal.main_arg2) = m' ((c.tc : Thread Cert.ExpertReferenceIdeal.nD Cert.ExpertReferenceIdeal.τ).loc Cert.ExpertReferenceIdeal.main_arg2)
          ∧ r.2.mem ((c.tc : Thread Cert.ExpertReferenceIdeal.nD Cert.ExpertReferenceIdeal.τ).loc Cert.ExpertReferenceIdeal.main_arg3) = m' ((c.tc : Thread Cert.ExpertReferenceIdeal.nD Cert.ExpertReferenceIdeal.τ).loc Cert.ExpertReferenceIdeal.main_arg3)
          ∧ r.2.mem ((c.tc : Thread Cert.ExpertReferenceIdeal.nD Cert.ExpertReferenceIdeal.τ).loc Cert.ExpertReferenceIdeal.main_arg4) = m' ((c.tc : Thread Cert.ExpertReferenceIdeal.nD Cert.ExpertReferenceIdeal.τ).loc Cert.ExpertReferenceIdeal.main_arg4))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v10)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v10) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v24) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4))

def preserves_Project_ProjectIdeal : Prop :=
  True

def algebraic_ProjectIdeal_ProjectReferenceIdeal_on_layer_0 [hProjectIdeal : Cert.ProjectIdeal.Facts] [hProjectReferenceIdeal : Cert.ProjectReferenceIdeal.Facts] [hOn_layer_0 : Cert.On_layer_0.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v7_0)) (v1 : (c : Dev Cert.ProjectIdeal.nD) → Buf (Elt Ideal) ((c.tc : Thread Cert.ProjectIdeal.nD Cert.ProjectIdeal.τ).loc Cert.ProjectIdeal.main_v7_1)) (v2 : (c : Dev Cert.ProjectIdeal.nD) → Buf (Elt Ideal) ((c.tc : Thread Cert.ProjectIdeal.nD Cert.ProjectIdeal.τ).loc Cert.ProjectIdeal.main_v7_2)) (v3 : (c : Dev Cert.ProjectIdeal.nD) → Buf (Elt Ideal) ((c.tc : Thread Cert.ProjectIdeal.nD Cert.ProjectIdeal.τ).loc Cert.ProjectIdeal.main_v7_3)) (v4 : (c : Dev Cert.ProjectIdeal.nD) → Buf (Elt Ideal) ((c.tc : Thread Cert.ProjectIdeal.nD Cert.ProjectIdeal.τ).loc Cert.ProjectIdeal.main_v7_4)) (v5 : (c : Dev Cert.ProjectIdeal.nD) → Buf (Elt Ideal) ((c.tc : Thread Cert.ProjectIdeal.nD Cert.ProjectIdeal.τ).loc Cert.ProjectIdeal.main_v7_5)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          (∀ i : (⟨2, ![16384, 512]⟩ : Shape).Idx, (Cert.On_layer_0.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2))).1 i = 1#1 → r.2.mem ((c.tc : Thread Cert.ProjectIdeal.nD Cert.ProjectIdeal.τ).loc Cert.ProjectIdeal.main_v7_0) i = v0 c i)
          ∧ (∀ i : (⟨2, ![16384, 512]⟩ : Shape).Idx, (Cert.On_layer_0.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2))).2.1 i = 1#1 → r.2.mem ((c.tc : Thread Cert.ProjectIdeal.nD Cert.ProjectIdeal.τ).loc Cert.ProjectIdeal.main_v7_1) i = v1 c i)
          ∧ (∀ i : (⟨4, ![2, 8, 512, 2048]⟩ : Shape).Idx, (Cert.On_layer_0.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2))).2.2.1 i = 1#1 → r.2.mem ((c.tc : Thread Cert.ProjectIdeal.nD Cert.ProjectIdeal.τ).loc Cert.ProjectIdeal.main_v7_2) i = v2 c i)
          ∧ (∀ i : (⟨4, ![2, 8, 512, 2048]⟩ : Shape).Idx, (Cert.On_layer_0.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2))).2.2.2.1 i = 1#1 → r.2.mem ((c.tc : Thread Cert.ProjectIdeal.nD Cert.ProjectIdeal.τ).loc Cert.ProjectIdeal.main_v7_3) i = v3 c i)
          ∧ (∀ i : (⟨2, ![16384, 512]⟩ : Shape).Idx, (Cert.On_layer_0.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2))).2.2.2.2.1 i = 1#1 → r.2.mem ((c.tc : Thread Cert.ProjectIdeal.nD Cert.ProjectIdeal.τ).loc Cert.ProjectIdeal.main_v7_4) i = v4 c i)
          ∧ (∀ i : (⟨2, ![16384, 3072]⟩ : Shape).Idx, (Cert.On_layer_0.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2))).2.2.2.2.2 i = 1#1 → r.2.mem ((c.tc : Thread Cert.ProjectIdeal.nD Cert.ProjectIdeal.τ).loc Cert.ProjectIdeal.main_v7_5) i = v5 c i)
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          (∀ i : (⟨2, ![16384, 512]⟩ : Shape).Idx, (Cert.On_layer_0.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2))).1 i = 1#1 → r.2.mem ((c.tc : Thread Cert.ProjectReferenceIdeal.nD Cert.ProjectReferenceIdeal.τ).loc Cert.ProjectReferenceIdeal.main_v33) i = v0 c i)
          ∧ (∀ i : (⟨2, ![16384, 512]⟩ : Shape).Idx, (Cert.On_layer_0.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2))).2.1 i = 1#1 → r.2.mem ((c.tc : Thread Cert.ProjectReferenceIdeal.nD Cert.ProjectReferenceIdeal.τ).loc Cert.ProjectReferenceIdeal.main_v37) i = v1 c i)
          ∧ (∀ i : (⟨4, ![2, 8, 512, 2048]⟩ : Shape).Idx, (Cert.On_layer_0.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2))).2.2.1 i = 1#1 → r.2.mem ((c.tc : Thread Cert.ProjectReferenceIdeal.nD Cert.ProjectReferenceIdeal.τ).loc Cert.ProjectReferenceIdeal.main_v39) i = v2 c i)
          ∧ (∀ i : (⟨4, ![2, 8, 512, 2048]⟩ : Shape).Idx, (Cert.On_layer_0.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2))).2.2.2.1 i = 1#1 → r.2.mem ((c.tc : Thread Cert.ProjectReferenceIdeal.nD Cert.ProjectReferenceIdeal.τ).loc Cert.ProjectReferenceIdeal.main_v41) i = v3 c i)
          ∧ (∀ i : (⟨2, ![16384, 512]⟩ : Shape).Idx, (Cert.On_layer_0.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2))).2.2.2.2.1 i = 1#1 → r.2.mem ((c.tc : Thread Cert.ProjectReferenceIdeal.nD Cert.ProjectReferenceIdeal.τ).loc Cert.ProjectReferenceIdeal.main_v42) i = v4 c i)
          ∧ (∀ i : (⟨2, ![16384, 3072]⟩ : Shape).Idx, (Cert.On_layer_0.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2))).2.2.2.2.2 i = 1#1 → r.2.mem ((c.tc : Thread Cert.ProjectReferenceIdeal.nD Cert.ProjectReferenceIdeal.τ).loc Cert.ProjectReferenceIdeal.main_v50) i = v5 c i)
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def Claim : Prop :=
  ∃ (hKernel : Cert.Kernel.Facts) (hKernelIdeal : Cert.KernelIdeal.Facts) (hReferenceIdeal : Cert.ReferenceIdeal.Facts) (hExpert : Cert.Expert.Facts) (hExpertIdeal : Cert.ExpertIdeal.Facts) (hExpertReferenceIdeal : Cert.ExpertReferenceIdeal.Facts) (hDense : Cert.Dense.Facts) (hDenseIdeal : Cert.DenseIdeal.Facts) (hDenseReferenceIdeal : Cert.DenseReferenceIdeal.Facts) (hProject : Cert.Project.Facts) (hProjectIdeal : Cert.ProjectIdeal.Facts) (hProjectReferenceIdeal : Cert.ProjectReferenceIdeal.Facts) (hPre_sent : Cert.Pre_sent.Facts) (hOn_sent_rows : Cert.On_sent_rows.Facts) (hOn_layer_0 : Cert.On_layer_0.Facts),
    quiescent_Kernel (hKernel := hKernel)
    ∧ quiescent_KernelIdeal (hKernelIdeal := hKernelIdeal)
    ∧ quiescent_ReferenceIdeal (hReferenceIdeal := hReferenceIdeal)
    ∧ quiescent_Expert (hExpert := hExpert) (hPre_sent := hPre_sent)
    ∧ quiescent_ExpertIdeal (hExpertIdeal := hExpertIdeal) (hPre_sent := hPre_sent)
    ∧ quiescent_ExpertReferenceIdeal (hExpertReferenceIdeal := hExpertReferenceIdeal) (hPre_sent := hPre_sent)
    ∧ quiescent_Dense (hDense := hDense)
    ∧ quiescent_DenseIdeal (hDenseIdeal := hDenseIdeal)
    ∧ quiescent_DenseReferenceIdeal (hDenseReferenceIdeal := hDenseReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ preserves_Kernel_KernelIdeal
    ∧ algebraic_KernelIdeal_ReferenceIdeal (hKernelIdeal := hKernelIdeal) (hReferenceIdeal := hReferenceIdeal)
    ∧ preserves_Expert_ExpertIdeal
    ∧ algebraic_ExpertIdeal_ExpertReferenceIdeal_on_sent_rows (hExpertIdeal := hExpertIdeal) (hExpertReferenceIdeal := hExpertReferenceIdeal) (hPre_sent := hPre_sent) (hOn_sent_rows := hOn_sent_rows)
    ∧ preserves_Dense_DenseIdeal
    ∧ algebraic_DenseIdeal_DenseReferenceIdeal (hDenseIdeal := hDenseIdeal) (hDenseReferenceIdeal := hDenseReferenceIdeal)
    ∧ preserves_Project_ProjectIdeal
    ∧ algebraic_ProjectIdeal_ProjectReferenceIdeal_on_layer_0 (hProjectIdeal := hProjectIdeal) (hProjectReferenceIdeal := hProjectReferenceIdeal) (hOn_layer_0 := hOn_layer_0)
-- ==== On_layer_0.lean ====
abbrev S8x2048x1024 : Shape := ⟨3, ![8, 2048, 1024]⟩
abbrev S2x1024 : Shape := ⟨2, ![2, 1024]⟩
abbrev S2x1024x6144 : Shape := ⟨3, ![2, 1024, 6144]⟩
abbrev S2x8x512x2048 : Shape := ⟨4, ![2, 8, 512, 2048]⟩
abbrev S_ : Shape := ⟨0, ![]⟩
abbrev S16384x512 : Shape := ⟨2, ![16384, 512]⟩
abbrev S16384x3072 : Shape := ⟨2, ![16384, 3072]⟩

class Facts : Prop where
  bcast_S_S2x8x512x2048 : S_.BroadcastsInDim S2x8x512x2048 (![] : Fin 0 → Fin S2x8x512x2048.rank)
  bcast_S_S16384x512 : S_.BroadcastsInDim S16384x512 (![] : Fin 0 → Fin S16384x512.rank)
  bcast_S_S16384x3072 : S_.BroadcastsInDim S16384x3072 (![] : Fin 0 → Fin S16384x3072.rank)

variable [Facts]

def fn {F : FTy → Type} [FloatOps F] (main_arg0 : FVec F S8x2048x1024 .f32) (main_arg1 : FVec F S2x1024 .f32) (main_arg2 : FVec F S2x1024x6144 .f32) : IVec S16384x512 1 × IVec S16384x512 1 × IVec S2x8x512x2048 1 × IVec S2x8x512x2048 1 × IVec S16384x512 1 × IVec S16384x3072 1 :=
  let main_v0 : IVec S2x8x512x2048 32 := iotaInDim S2x8x512x2048 32 0
  let main_c : IVec S_ 32 := constantI S_ 32 1#32
  let main_v1 : IVec S2x8x512x2048 32 := broadcastInDim S2x8x512x2048 ![] bcast_S_S2x8x512x2048 main_c
  let main_v2 : IVec S2x8x512x2048 1 := cmpi .slt main_v0 main_v1
  let main_v3 : IVec S16384x512 32 := iotaInDim S16384x512 32 0
  let main_c_0 : IVec S_ 32 := constantI S_ 32 0#32
  let main_v4 : IVec S16384x512 32 := broadcastInDim S16384x512 ![] bcast_S_S16384x512 main_c_0
  let main_v5 : IVec S16384x512 1 := cmpi .sge main_v3 main_v4
  let main_v6 : IVec S16384x512 32 := iotaInDim S16384x512 32 0
  let main_c_1 : IVec S_ 32 := constantI S_ 32 0#32
  let main_v7 : IVec S16384x512 32 := broadcastInDim S16384x512 ![] bcast_S_S16384x512 main_c_1
  let main_v8 : IVec S16384x512 1 := cmpi .sge main_v6 main_v7
  let main_v9 : IVec S16384x512 32 := iotaInDim S16384x512 32 0
  let main_c_2 : IVec S_ 32 := constantI S_ 32 0#32
  let main_v10 : IVec S16384x512 32 := broadcastInDim S16384x512 ![] bcast_S_S16384x512 main_c_2
  let main_v11 : IVec S16384x512 1 := cmpi .sge main_v9 main_v10
  let main_v12 : IVec S16384x3072 32 := iotaInDim S16384x3072 32 0
  let main_c_3 : IVec S_ 32 := constantI S_ 32 0#32
  let main_v13 : IVec S16384x3072 32 := broadcastInDim S16384x3072 ![] bcast_S_S16384x3072 main_c_3
  let main_v14 : IVec S16384x3072 1 := cmpi .sge main_v12 main_v13
  (main_v5, main_v8, main_v2, main_v2, main_v11, main_v14)
-- ==== On_sent_rows.lean ====
abbrev S35072x1024 : Shape := ⟨2, ![35072, 1024]⟩
abbrev S8 : Shape := ⟨1, ![8]⟩
abbrev S1x8x1024x2816 : Shape := ⟨4, ![1, 8, 1024, 2816]⟩
abbrev S1x8x2816x1024 : Shape := ⟨4, ![1, 8, 2816, 1024]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S35072x1024 : S_.BroadcastsInDim S35072x1024 (![] : Fin 0 → Fin S35072x1024.rank)

variable [Facts]

def fn_where {F : FTy → Type} [FloatOps F] (arg0 : IVec S8 1) (arg1 : IVec S8 32) (arg2 : IVec S8 32) : IVec S8 32 :=
  let v0 : IVec S8 32 := select arg0 arg1 arg2
  v0

def fn_floor_divide {F : FTy → Type} [FloatOps F] (arg0 : IVec S8 32) (arg1 : IVec S_ 32) : IVec S8 32 :=
  let v0 : IVec S_ 32 := id arg1
  let v1 : IVec S8 32 := broadcastInDim S8 ![] bcast_S_S8 v0
  let v2 : IVec S8 32 := Host.divsi arg0 v1
  let v3 : IVec S8 32 := signi arg0
  let v4 : IVec S_ 32 := signi v0
  let v5 : IVec S8 32 := broadcastInDim S8 ![] bcast_S_S8 v4
  let v6 : IVec S8 1 := cmpi .ne v3 v5
  let v7 : IVec S8 32 := broadcastInDim S8 ![] bcast_S_S8 v0
  let v8 : IVec S8 32 := Host.remsi arg0 v7
  let c : IVec S_ 32 := constantI S_ 32 0#32
  let v9 : IVec S8 32 := broadcastInDim S8 ![] bcast_S_S8 c
  let v10 : IVec S8 1 := cmpi .ne v8 v9
  let v11 : IVec S8 1 := andi v6 v10
  let c_0 : IVec S_ 32 := constantI S_ 32 1#32
  let v12 : IVec S8 32 := broadcastInDim S8 ![] bcast_S_S8 c_0
  let v13 : IVec S8 32 := subi v2 v12
  let v14 : IVec S8 32 := fn_where (F := F) v11 v13 v2
  v14

def fn {F : FTy → Type} [FloatOps F] (main_arg0 : FVec F S35072x1024 .f32) (main_arg1 : IVec S8 32) (main_arg2 : FVec F S1x8x1024x2816 .f32) (main_arg3 : FVec F S1x8x1024x2816 .f32) (main_arg4 : FVec F S1x8x2816x1024 .f32) : IVec S35072x1024 1 :=
  let main_c : IVec S_ 32 := constantI S_ 32 256#32
  let main_v0 : IVec S8 32 := broadcastInDim S8 ![] bcast_S_S8 main_c
  let main_v1 : IVec S8 32 := addi main_arg1 main_v0
  let main_c_0 : IVec S_ 32 := constantI S_ 32 1#32
  let main_v2 : IVec S8 32 := broadcastInDim S8 ![] bcast_S_S8 main_c_0
  let main_v3 : IVec S8 32 := subi main_v1 main_v2
  let main_c_1 : IVec S_ 32 := constantI S_ 32 256#32
  let main_v4 : IVec S8 32 := fn_floor_divide (F := F) main_v3 main_c_1
  let main_c_2 : IVec S_ 32 := constantI S_ 32 0#32
  let main_v5 : IVec S_ 32 := (fun x v => Host.reduce IntOp.addi x v reducesTo_S8_S_d0 h_S_) main_v4 main_c_2
  let main_c_3 : IVec S_ 32 := constantI S_ 32 256#32
  let main_v6 : IVec S_ 32 := muli main_v5 main_c_3
  let main_v7 : IVec S35072x1024 32 := iotaInDim S35072x1024 32 0
  let main_v8 : IVec S35072x1024 32 := broadcastInDim S35072x1024 ![] bcast_S_S35072x1024 main_v6
  let main_v9 : IVec S35072x1024 1 := cmpi .slt main_v7 main_v8
  main_v9
-- ==== Pre_sent.lean ====
abbrev S35072x1024 : Shape := ⟨2, ![35072, 1024]⟩
abbrev S8 : Shape := ⟨1, ![8]⟩
abbrev S1x8x1024x2816 : Shape := ⟨4, ![1, 8, 1024, 2816]⟩
abbrev S1x8x2816x1024 : Shape := ⟨4, ![1, 8, 2816, 1024]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S35072x1024 .f32) (main_arg1 : IVec S8 32) (main_arg2 : FVec F S1x8x1024x2816 .f32) (main_arg3 : FVec F S1x8x1024x2816 .f32) (main_arg4 : FVec F S1x8x2816x1024 .f32) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 33280#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_c_2 : IVec S_ 32 := constantI S_ 32 0#32
  let main_v6 : IVec S8 32 := broadcastInDim S8 ![] bcast_S_S8 main_c_2
  let main_v7 : IVec S8 1 := cmpi .sgt main_arg1 main_v6
  let main_c_3 : IVec S_ 1 := constantI S_ 1 0#1
  let main_v8 : IVec S_ 1 := (fun x v => Host.reduce IntOp.ori x v reducesTo_S8_S_d0 h_S_) main_v7 main_c_3
  let main_v9 : IVec S_ 1 := andi main_v5 main_v8
  main_v9
-- ==== Kernel.lean ====
abbrev S8x2048x8x64 : Shape := ⟨4, ![8, 2048, 8, 64]⟩
abbrev S2x8x2048x8x64 : Shape := ⟨5, ![2, 8, 2048, 8, 64]⟩
abbrev S8 : Shape := ⟨1, ![8]⟩
abbrev S_ : Shape := ⟨0, ![]⟩
abbrev S8x2048x512 : Shape := ⟨3, ![8, 2048, 512]⟩
abbrev S2x8x8x64x2048 : Shape := ⟨5, ![2, 8, 8, 64, 2048]⟩
abbrev S2x8x512x2048 : Shape := ⟨4, ![2, 8, 512, 2048]⟩
abbrev S1x2048x512 : Shape := ⟨3, ![1, 2048, 512]⟩
abbrev S1x1x512x2048 : Shape := ⟨4, ![1, 1, 512, 2048]⟩
abbrev S8x256x512 : Shape := ⟨3, ![8, 256, 512]⟩
abbrev S8x512x256 : Shape := ⟨3, ![8, 512, 256]⟩
abbrev S1x1x512x256 : Shape := ⟨4, ![1, 1, 512, 256]⟩
abbrev S512x256 : Shape := ⟨2, ![512, 256]⟩
abbrev S256x512 : Shape := ⟨2, ![256, 512]⟩
abbrev S1x256x512 : Shape := ⟨3, ![1, 256, 512]⟩
abbrev S1x512x256 : Shape := ⟨3, ![1, 512, 256]⟩
abbrev S256x256 : Shape := ⟨2, ![256, 256]⟩
abbrev S1 : Shape := ⟨1, ![1]⟩
abbrev S1x256 : Shape := ⟨2, ![1, 256]⟩
abbrev S1x256x64 : Shape := ⟨3, ![1, 256, 64]⟩
abbrev S256x64 : Shape := ⟨2, ![256, 64]⟩
abbrev S1x64x256 : Shape := ⟨3, ![1, 64, 256]⟩
abbrev S64x256 : Shape := ⟨2, ![64, 256]⟩

abbrev nBuf : Space → Nat
  | .hbm => 14
  | .vmem => 11
  | .smem => 1
  | _ => 0

abbrev bufTy : (tb : Table) → Fin (tcTables nBuf tb) → BufTy
  | .hbm, ⟨0, _⟩ => ⟨S8x2048x8x64, .f32⟩
  | .hbm, ⟨1, _⟩ => ⟨S2x8x2048x8x64, .f32⟩
  | .hbm, ⟨2, _⟩ => ⟨S2x8x2048x8x64, .f32⟩
  | .hbm, ⟨3, _⟩ => ⟨S8, .f32⟩
  | .hbm, ⟨4, _⟩ => ⟨S_, .f32⟩
  | .hbm, ⟨5, _⟩ => ⟨S8x2048x8x64, .f32⟩
  | .hbm, ⟨6, _⟩ => ⟨S8x2048x8x64, .f32⟩
  | .hbm, ⟨7, _⟩ => ⟨S8x2048x8x64, .bf16⟩
  | .hbm, ⟨8, _⟩ => ⟨S8x2048x512, .bf16⟩
  | .hbm, ⟨9, _⟩ => ⟨S2x8x8x64x2048, .f32⟩
  | .hbm, ⟨10, _⟩ => ⟨S2x8x512x2048, .f32⟩
  | .hbm, ⟨11, _⟩ => ⟨S2x8x8x64x2048, .f32⟩
  | .hbm, ⟨12, _⟩ => ⟨S2x8x512x2048, .f32⟩
  | .hbm, ⟨13, _⟩ => ⟨S8x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x1x512x2048, .f32⟩
  | .local _ .vmem, ⟨3, _⟩ => ⟨S1x1x512x2048, .f32⟩
  | .local _ .vmem, ⟨4, _⟩ => ⟨S1x1x512x2048, .f32⟩
  | .local _ .vmem, ⟨5, _⟩ => ⟨S1x1x512x2048, .f32⟩
  | .local _ .vmem, ⟨6, _⟩ => ⟨S1x2048x512, .bf16⟩
  | .local _ .vmem, ⟨7, _⟩ => ⟨S1x2048x512, .bf16⟩
  | .local _ .vmem, ⟨8, _⟩ => ⟨S8x256x512, .bf16⟩
  | .local _ .vmem, ⟨9, _⟩ => ⟨S8x512x256, .bf16⟩
  | .local _ .vmem, ⟨10, _⟩ => ⟨S8x512x256, .f32⟩
  | .local _ .smem, ⟨0, _⟩ => ⟨S8, .f32⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 1], ![false, false]⟩

def k0_off1 (i : grid0.Coords) (c0_i32 : BitVec 32) : Fin 1 → Nat :=
  let arg1 : BitVec 32 := BitVec.ofNat 32 (i 1).val
  let c8_i32 : BitVec 32 := 8#32
  let v111 : BitVec 32 := Scalar.muli arg1 c8_i32
  let v112 : BitVec 32 := Scalar.addi v111 c0_i32
  let v113 : Index := Scalar.indexCast v112
  ![v113.toNat]
@[reducible] def k0_t1_loop : Scf.Loop 32 :=
  let c0_i32_104 : BitVec 32 := 0#32
  let c8_i32_105 : BitVec 32 := 8#32
  let v143 : BitVec 32 := Scalar.addi c0_i32_104 c8_i32_105
  let c1_i32_106 : BitVec 32 := 1#32
  ⟨c0_i32_104, v143, c1_i32_106⟩
def k0_mult1 (k0_t1 : Fin k0_t1_loop.trips) : BitVec 32 :=
  let c0_i32_104 : BitVec 32 := 0#32
  let c1_i32_106 : BitVec 32 := 1#32
  let arg10 : BitVec 32 := Scf.iv c0_i32_104 c1_i32_106 k0_t1
  let c256_i32 : BitVec 32 := 256#32
  let v201 : BitVec 32 := Scalar.muli arg10 c256_i32
  v201
def k0_off2 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v203 : Index := Scalar.indexCast arg10
  let c0_156 : Index := 0#32
  let c0_157 : Index := 0#32
  ![v203.toNat, 0, 0]
def k0_off3 (k0_t1 : Fin k0_t1_loop.trips) : Fin 3 → Nat :=
  let c0_158 : Index := 0#32
  let c0_i32_104 : BitVec 32 := 0#32
  let c1_i32_106 : BitVec 32 := 1#32
  let arg10 : BitVec 32 := Scf.iv c0_i32_104 c1_i32_106 k0_t1
  let c256_i32 : BitVec 32 := 256#32
  let v201 : BitVec 32 := Scalar.muli arg10 c256_i32
  let v202 : BitVec 32 := v201
  let v206 : Index := Scalar.indexCast v202
  let c0_159 : Index := 0#32
  ![0, v206.toNat, 0]
def k0_off4 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v212 : Index := Scalar.indexCast arg10
  let c0_161 : Index := 0#32
  let c64 : Index := 64#32
  ![v212.toNat, 0, 64]
def k0_off5 (k0_t1 : Fin k0_t1_loop.trips) : Fin 3 → Nat :=
  let c0_162 : Index := 0#32
  let c0_i32_104 : BitVec 32 := 0#32
  let c1_i32_106 : BitVec 32 := 1#32
  let arg10 : BitVec 32 := Scf.iv c0_i32_104 c1_i32_106 k0_t1
  let c256_i32 : BitVec 32 := 256#32
  let v201 : BitVec 32 := Scalar.muli arg10 c256_i32
  let v202 : BitVec 32 := v201
  let v215 : Index := Scalar.indexCast v202
  let c64_163 : Index := 64#32
  ![0, v215.toNat, 64]
def k0_off6 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v221 : Index := Scalar.indexCast arg10
  let c0_165 : Index := 0#32
  let c128 : Index := 128#32
  ![v221.toNat, 0, 128]
def k0_off7 (k0_t1 : Fin k0_t1_loop.trips) : Fin 3 → Nat :=
  let c0_166 : Index := 0#32
  let c0_i32_104 : BitVec 32 := 0#32
  let c1_i32_106 : BitVec 32 := 1#32
  let arg10 : BitVec 32 := Scf.iv c0_i32_104 c1_i32_106 k0_t1
  let c256_i32 : BitVec 32 := 256#32
  let v201 : BitVec 32 := Scalar.muli arg10 c256_i32
  let v202 : BitVec 32 := v201
  let v224 : Index := Scalar.indexCast v202
  let c128_167 : Index := 128#32
  ![0, v224.toNat, 128]
def k0_off8 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v230 : Index := Scalar.indexCast arg10
  let c0_169 : Index := 0#32
  let c192 : Index := 192#32
  ![v230.toNat, 0, 192]
def k0_off9 (k0_t1 : Fin k0_t1_loop.trips) : Fin 3 → Nat :=
  let c0_170 : Index := 0#32
  let c0_i32_104 : BitVec 32 := 0#32
  let c1_i32_106 : BitVec 32 := 1#32
  let arg10 : BitVec 32 := Scf.iv c0_i32_104 c1_i32_106 k0_t1
  let c256_i32 : BitVec 32 := 256#32
  let v201 : BitVec 32 := Scalar.muli arg10 c256_i32
  let v202 : BitVec 32 := v201
  let v233 : Index := Scalar.indexCast v202
  let c192_171 : Index := 192#32
  ![0, v233.toNat, 192]
def k0_off10 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v239 : Index := Scalar.indexCast arg10
  let c0_173 : Index := 0#32
  let c256_174 : Index := 256#32
  ![v239.toNat, 0, 256]
def k0_off11 (k0_t1 : Fin k0_t1_loop.trips) : Fin 3 → Nat :=
  let c0_175 : Index := 0#32
  let c0_i32_104 : BitVec 32 := 0#32
  let c1_i32_106 : BitVec 32 := 1#32
  let arg10 : BitVec 32 := Scf.iv c0_i32_104 c1_i32_106 k0_t1
  let c256_i32 : BitVec 32 := 256#32
  let v201 : BitVec 32 := Scalar.muli arg10 c256_i32
  let v202 : BitVec 32 := v201
  let v242 : Index := Scalar.indexCast v202
  let c256_176 : Index := 256#32
  ![0, v242.toNat, 256]
def k0_off12 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v248 : Index := Scalar.indexCast arg10
  let c0_178 : Index := 0#32
  let c320 : Index := 320#32
  ![v248.toNat, 0, 320]
def k0_off13 (k0_t1 : Fin k0_t1_loop.trips) : Fin 3 → Nat :=
  let c0_179 : Index := 0#32
  let c0_i32_104 : BitVec 32 := 0#32
  let c1_i32_106 : BitVec 32 := 1#32
  let arg10 : BitVec 32 := Scf.iv c0_i32_104 c1_i32_106 k0_t1
  let c256_i32 : BitVec 32 := 256#32
  let v201 : BitVec 32 := Scalar.muli arg10 c256_i32
  let v202 : BitVec 32 := v201
  let v251 : Index := Scalar.indexCast v202
  let c320_180 : Index := 320#32
  ![0, v251.toNat, 320]
def k0_off14 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v257 : Index := Scalar.indexCast arg10
  let c0_182 : Index := 0#32
  let c384 : Index := 384#32
  ![v257.toNat, 0, 384]
def k0_off15 (k0_t1 : Fin k0_t1_loop.trips) : Fin 3 → Nat :=
  let c0_183 : Index := 0#32
  let c0_i32_104 : BitVec 32 := 0#32
  let c1_i32_106 : BitVec 32 := 1#32
  let arg10 : BitVec 32 := Scf.iv c0_i32_104 c1_i32_106 k0_t1
  let c256_i32 : BitVec 32 := 256#32
  let v201 : BitVec 32 := Scalar.muli arg10 c256_i32
  let v202 : BitVec 32 := v201
  let v260 : Index := Scalar.indexCast v202
  let c384_184 : Index := 384#32
  ![0, v260.toNat, 384]
def k0_off16 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v266 : Index := Scalar.indexCast arg10
  let c0_186 : Index := 0#32
  let c448 : Index := 448#32
  ![v266.toNat, 0, 448]
def k0_off17 (k0_t1 : Fin k0_t1_loop.trips) : Fin 3 → Nat :=
  let c0_187 : Index := 0#32
  let c0_i32_104 : BitVec 32 := 0#32
  let c1_i32_106 : BitVec 32 := 1#32
  let arg10 : BitVec 32 := Scf.iv c0_i32_104 c1_i32_106 k0_t1
  let c256_i32 : BitVec 32 := 256#32
  let v201 : BitVec 32 := Scalar.muli arg10 c256_i32
  let v202 : BitVec 32 := v201
  let v269 : Index := Scalar.indexCast v202
  let c448_188 : Index := 448#32
  ![0, v269.toNat, 448]
def k0_off18 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v435 : Index := Scalar.indexCast arg10
  let c0_238 : Index := 0#32
  let c0_239 : Index := 0#32
  ![v435.toNat, 0, 0]
def k0_off19 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v440 : Index := Scalar.indexCast arg10
  let c64_241 : Index := 64#32
  let c0_242 : Index := 0#32
  ![v440.toNat, 64, 0]
def k0_off20 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v445 : Index := Scalar.indexCast arg10
  let c128_244 : Index := 128#32
  let c0_245 : Index := 0#32
  ![v445.toNat, 128, 0]
def k0_off21 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v450 : Index := Scalar.indexCast arg10
  let c192_247 : Index := 192#32
  let c0_248 : Index := 0#32
  ![v450.toNat, 192, 0]
def k0_off22 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v455 : Index := Scalar.indexCast arg10
  let c256_250 : Index := 256#32
  let c0_251 : Index := 0#32
  ![v455.toNat, 256, 0]
def k0_off23 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v460 : Index := Scalar.indexCast arg10
  let c320_253 : Index := 320#32
  let c0_254 : Index := 0#32
  ![v460.toNat, 320, 0]
def k0_off24 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v465 : Index := Scalar.indexCast arg10
  let c384_256 : Index := 384#32
  let c0_257 : Index := 0#32
  ![v465.toNat, 384, 0]
def k0_off25 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v470 : Index := Scalar.indexCast arg10
  let c448_259 : Index := 448#32
  let c0_260 : Index := 0#32
  ![v470.toNat, 448, 0]
@[reducible] def k0_t2_loop (k0_t1 : Fin k0_t1_loop.trips) : Scf.Loop 32 :=
  let c0_i32_278 : BitVec 32 := 0#32
  let c0_i32_104 : BitVec 32 := 0#32
  let c1_i32_106 : BitVec 32 := 1#32
  let arg10 : BitVec 32 := Scf.iv c0_i32_104 c1_i32_106 k0_t1
  let v523 : BitVec 32 := Scalar.subi arg10 c0_i32_278
  let c1_i32_279 : BitVec 32 := 1#32
  let v525 : BitVec 32 := Scalar.divsi v523 c1_i32_279
  let v526 : BitVec 32 := Scalar.muli v525 c1_i32_279
  let v527 : BitVec 32 := Scalar.addi c0_i32_278 v526
  let c1_i32_280 : BitVec 32 := 1#32
  ⟨c0_i32_278, v527, c1_i32_280⟩
def k0_mult2 (k0_t1 : Fin k0_t1_loop.trips) : BitVec 32 :=
  let c0_i32_104 : BitVec 32 := 0#32
  let c1_i32_106 : BitVec 32 := 1#32
  let arg10 : BitVec 32 := Scf.iv c0_i32_104 c1_i32_106 k0_t1
  let c256_i32_283 : BitVec 32 := 256#32
  let v532 : BitVec 32 := Scalar.muli arg10 c256_i32_283
  v532
def k0_off26 (k0_t1 : Fin k0_t1_loop.trips) (k0_t2 : Fin (k0_t2_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let c1_i32_280 : BitVec 32 := 1#32
  let arg11 : BitVec 32 := Scf.iv c0_i32_278 c1_i32_280 k0_t2
  let v531 : BitVec 32 := Scalar.subi v530 arg11
  let v534 : Index := Scalar.indexCast v531
  let c0_284 : Index := 0#32
  let c0_285 : Index := 0#32
  ![v534.toNat, 0, 0]
def k0_off27 (k0_t1 : Fin k0_t1_loop.trips) : Fin 3 → Nat :=
  let c0_286 : Index := 0#32
  let c0_i32_104 : BitVec 32 := 0#32
  let c1_i32_106 : BitVec 32 := 1#32
  let arg10 : BitVec 32 := Scf.iv c0_i32_104 c1_i32_106 k0_t1
  let c256_i32_283 : BitVec 32 := 256#32
  let v532 : BitVec 32 := Scalar.muli arg10 c256_i32_283
  let v533 : BitVec 32 := v532
  let v537 : Index := Scalar.indexCast v533
  let c0_287 : Index := 0#32
  ![0, v537.toNat, 0]
def k0_off28 (k0_t1 : Fin k0_t1_loop.trips) (k0_t2 : Fin (k0_t2_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let c1_i32_280 : BitVec 32 := 1#32
  let arg11 : BitVec 32 := Scf.iv c0_i32_278 c1_i32_280 k0_t2
  let v531 : BitVec 32 := Scalar.subi v530 arg11
  let v543 : Index := Scalar.indexCast v531
  let c0_289 : Index := 0#32
  let c64_290 : Index := 64#32
  ![v543.toNat, 0, 64]
def k0_off29 (k0_t1 : Fin k0_t1_loop.trips) : Fin 3 → Nat :=
  let c0_291 : Index := 0#32
  let c0_i32_104 : BitVec 32 := 0#32
  let c1_i32_106 : BitVec 32 := 1#32
  let arg10 : BitVec 32 := Scf.iv c0_i32_104 c1_i32_106 k0_t1
  let c256_i32_283 : BitVec 32 := 256#32
  let v532 : BitVec 32 := Scalar.muli arg10 c256_i32_283
  let v533 : BitVec 32 := v532
  let v546 : Index := Scalar.indexCast v533
  let c64_292 : Index := 64#32
  ![0, v546.toNat, 64]
def k0_off30 (k0_t1 : Fin k0_t1_loop.trips) (k0_t2 : Fin (k0_t2_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let c1_i32_280 : BitVec 32 := 1#32
  let arg11 : BitVec 32 := Scf.iv c0_i32_278 c1_i32_280 k0_t2
  let v531 : BitVec 32 := Scalar.subi v530 arg11
  let v552 : Index := Scalar.indexCast v531
  let c0_294 : Index := 0#32
  let c128_295 : Index := 128#32
  ![v552.toNat, 0, 128]
def k0_off31 (k0_t1 : Fin k0_t1_loop.trips) : Fin 3 → Nat :=
  let c0_296 : Index := 0#32
  let c0_i32_104 : BitVec 32 := 0#32
  let c1_i32_106 : BitVec 32 := 1#32
  let arg10 : BitVec 32 := Scf.iv c0_i32_104 c1_i32_106 k0_t1
  let c256_i32_283 : BitVec 32 := 256#32
  let v532 : BitVec 32 := Scalar.muli arg10 c256_i32_283
  let v533 : BitVec 32 := v532
  let v555 : Index := Scalar.indexCast v533
  let c128_297 : Index := 128#32
  ![0, v555.toNat, 128]
def k0_off32 (k0_t1 : Fin k0_t1_loop.trips) (k0_t2 : Fin (k0_t2_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let c1_i32_280 : BitVec 32 := 1#32
  let arg11 : BitVec 32 := Scf.iv c0_i32_278 c1_i32_280 k0_t2
  let v531 : BitVec 32 := Scalar.subi v530 arg11
  let v561 : Index := Scalar.indexCast v531
  let c0_299 : Index := 0#32
  let c192_300 : Index := 192#32
  ![v561.toNat, 0, 192]
def k0_off33 (k0_t1 : Fin k0_t1_loop.trips) : Fin 3 → Nat :=
  let c0_301 : Index := 0#32
  let c0_i32_104 : BitVec 32 := 0#32
  let c1_i32_106 : BitVec 32 := 1#32
  let arg10 : BitVec 32 := Scf.iv c0_i32_104 c1_i32_106 k0_t1
  let c256_i32_283 : BitVec 32 := 256#32
  let v532 : BitVec 32 := Scalar.muli arg10 c256_i32_283
  let v533 : BitVec 32 := v532
  let v564 : Index := Scalar.indexCast v533
  let c192_302 : Index := 192#32
  ![0, v564.toNat, 192]
def k0_off34 (k0_t1 : Fin k0_t1_loop.trips) (k0_t2 : Fin (k0_t2_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let c1_i32_280 : BitVec 32 := 1#32
  let arg11 : BitVec 32 := Scf.iv c0_i32_278 c1_i32_280 k0_t2
  let v531 : BitVec 32 := Scalar.subi v530 arg11
  let v570 : Index := Scalar.indexCast v531
  let c0_304 : Index := 0#32
  let c256_305 : Index := 256#32
  ![v570.toNat, 0, 256]
def k0_off35 (k0_t1 : Fin k0_t1_loop.trips) : Fin 3 → Nat :=
  let c0_306 : Index := 0#32
  let c0_i32_104 : BitVec 32 := 0#32
  let c1_i32_106 : BitVec 32 := 1#32
  let arg10 : BitVec 32 := Scf.iv c0_i32_104 c1_i32_106 k0_t1
  let c256_i32_283 : BitVec 32 := 256#32
  let v532 : BitVec 32 := Scalar.muli arg10 c256_i32_283
  let v533 : BitVec 32 := v532
  let v573 : Index := Scalar.indexCast v533
  let c256_307 : Index := 256#32
  ![0, v573.toNat, 256]
def k0_off36 (k0_t1 : Fin k0_t1_loop.trips) (k0_t2 : Fin (k0_t2_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let c1_i32_280 : BitVec 32 := 1#32
  let arg11 : BitVec 32 := Scf.iv c0_i32_278 c1_i32_280 k0_t2
  let v531 : BitVec 32 := Scalar.subi v530 arg11
  let v579 : Index := Scalar.indexCast v531
  let c0_309 : Index := 0#32
  let c320_310 : Index := 320#32
  ![v579.toNat, 0, 320]
def k0_off37 (k0_t1 : Fin k0_t1_loop.trips) : Fin 3 → Nat :=
  let c0_311 : Index := 0#32
  let c0_i32_104 : BitVec 32 := 0#32
  let c1_i32_106 : BitVec 32 := 1#32
  let arg10 : BitVec 32 := Scf.iv c0_i32_104 c1_i32_106 k0_t1
  let c256_i32_283 : BitVec 32 := 256#32
  let v532 : BitVec 32 := Scalar.muli arg10 c256_i32_283
  let v533 : BitVec 32 := v532
  let v582 : Index := Scalar.indexCast v533
  let c320_312 : Index := 320#32
  ![0, v582.toNat, 320]
def k0_off38 (k0_t1 : Fin k0_t1_loop.trips) (k0_t2 : Fin (k0_t2_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let c1_i32_280 : BitVec 32 := 1#32
  let arg11 : BitVec 32 := Scf.iv c0_i32_278 c1_i32_280 k0_t2
  let v531 : BitVec 32 := Scalar.subi v530 arg11
  let v588 : Index := Scalar.indexCast v531
  let c0_314 : Index := 0#32
  let c384_315 : Index := 384#32
  ![v588.toNat, 0, 384]
def k0_off39 (k0_t1 : Fin k0_t1_loop.trips) : Fin 3 → Nat :=
  let c0_316 : Index := 0#32
  let c0_i32_104 : BitVec 32 := 0#32
  let c1_i32_106 : BitVec 32 := 1#32
  let arg10 : BitVec 32 := Scf.iv c0_i32_104 c1_i32_106 k0_t1
  let c256_i32_283 : BitVec 32 := 256#32
  let v532 : BitVec 32 := Scalar.muli arg10 c256_i32_283
  let v533 : BitVec 32 := v532
  let v591 : Index := Scalar.indexCast v533
  let c384_317 : Index := 384#32
  ![0, v591.toNat, 384]
def k0_off40 (k0_t1 : Fin k0_t1_loop.trips) (k0_t2 : Fin (k0_t2_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let c1_i32_280 : BitVec 32 := 1#32
  let arg11 : BitVec 32 := Scf.iv c0_i32_278 c1_i32_280 k0_t2
  let v531 : BitVec 32 := Scalar.subi v530 arg11
  let v597 : Index := Scalar.indexCast v531
  let c0_319 : Index := 0#32
  let c448_320 : Index := 448#32
  ![v597.toNat, 0, 448]
def k0_off41 (k0_t1 : Fin k0_t1_loop.trips) : Fin 3 → Nat :=
  let c0_321 : Index := 0#32
  let c0_i32_104 : BitVec 32 := 0#32
  let c1_i32_106 : BitVec 32 := 1#32
  let arg10 : BitVec 32 := Scf.iv c0_i32_104 c1_i32_106 k0_t1
  let c256_i32_283 : BitVec 32 := 256#32
  let v532 : BitVec 32 := Scalar.muli arg10 c256_i32_283
  let v533 : BitVec 32 := v532
  let v600 : Index := Scalar.indexCast v533
  let c448_322 : Index := 448#32
  ![0, v600.toNat, 448]
def k0_off42 (k0_t1 : Fin k0_t1_loop.trips) (k0_t2 : Fin (k0_t2_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let c1_i32_280 : BitVec 32 := 1#32
  let arg11 : BitVec 32 := Scf.iv c0_i32_278 c1_i32_280 k0_t2
  let v531 : BitVec 32 := Scalar.subi v530 arg11
  let v734 : Index := Scalar.indexCast v531
  let c0_356 : Index := 0#32
  let c0_357 : Index := 0#32
  ![v734.toNat, 0, 0]
def k0_off43 (k0_t1 : Fin k0_t1_loop.trips) (k0_t2 : Fin (k0_t2_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let c1_i32_280 : BitVec 32 := 1#32
  let arg11 : BitVec 32 := Scf.iv c0_i32_278 c1_i32_280 k0_t2
  let v531 : BitVec 32 := Scalar.subi v530 arg11
  let v739 : Index := Scalar.indexCast v531
  let c64_359 : Index := 64#32
  let c0_360 : Index := 0#32
  ![v739.toNat, 64, 0]
def k0_off44 (k0_t1 : Fin k0_t1_loop.trips) (k0_t2 : Fin (k0_t2_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let c1_i32_280 : BitVec 32 := 1#32
  let arg11 : BitVec 32 := Scf.iv c0_i32_278 c1_i32_280 k0_t2
  let v531 : BitVec 32 := Scalar.subi v530 arg11
  let v744 : Index := Scalar.indexCast v531
  let c128_362 : Index := 128#32
  let c0_363 : Index := 0#32
  ![v744.toNat, 128, 0]
def k0_off45 (k0_t1 : Fin k0_t1_loop.trips) (k0_t2 : Fin (k0_t2_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let c1_i32_280 : BitVec 32 := 1#32
  let arg11 : BitVec 32 := Scf.iv c0_i32_278 c1_i32_280 k0_t2
  let v531 : BitVec 32 := Scalar.subi v530 arg11
  let v749 : Index := Scalar.indexCast v531
  let c192_365 : Index := 192#32
  let c0_366 : Index := 0#32
  ![v749.toNat, 192, 0]
def k0_off46 (k0_t1 : Fin k0_t1_loop.trips) (k0_t2 : Fin (k0_t2_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let c1_i32_280 : BitVec 32 := 1#32
  let arg11 : BitVec 32 := Scf.iv c0_i32_278 c1_i32_280 k0_t2
  let v531 : BitVec 32 := Scalar.subi v530 arg11
  let v754 : Index := Scalar.indexCast v531
  let c256_368 : Index := 256#32
  let c0_369 : Index := 0#32
  ![v754.toNat, 256, 0]
def k0_off47 (k0_t1 : Fin k0_t1_loop.trips) (k0_t2 : Fin (k0_t2_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let c1_i32_280 : BitVec 32 := 1#32
  let arg11 : BitVec 32 := Scf.iv c0_i32_278 c1_i32_280 k0_t2
  let v531 : BitVec 32 := Scalar.subi v530 arg11
  let v759 : Index := Scalar.indexCast v531
  let c320_371 : Index := 320#32
  let c0_372 : Index := 0#32
  ![v759.toNat, 320, 0]
def k0_off48 (k0_t1 : Fin k0_t1_loop.trips) (k0_t2 : Fin (k0_t2_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let c1_i32_280 : BitVec 32 := 1#32
  let arg11 : BitVec 32 := Scf.iv c0_i32_278 c1_i32_280 k0_t2
  let v531 : BitVec 32 := Scalar.subi v530 arg11
  let v764 : Index := Scalar.indexCast v531
  let c384_374 : Index := 384#32
  let c0_375 : Index := 0#32
  ![v764.toNat, 384, 0]
def k0_off49 (k0_t1 : Fin k0_t1_loop.trips) (k0_t2 : Fin (k0_t2_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let c1_i32_280 : BitVec 32 := 1#32
  let arg11 : BitVec 32 := Scf.iv c0_i32_278 c1_i32_280 k0_t2
  let v531 : BitVec 32 := Scalar.subi v530 arg11
  let v769 : Index := Scalar.indexCast v531
  let c448_377 : Index := 448#32
  let c0_378 : Index := 0#32
  ![v769.toNat, 448, 0]
def k0_off50 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v774 : Index := Scalar.indexCast arg10
  let c0_380 : Index := 0#32
  let c0_381 : Index := 0#32
  ![v774.toNat, 0, 0]
def k0_off51 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v782 : Index := Scalar.indexCast arg10
  let c64_384 : Index := 64#32
  let c0_385 : Index := 0#32
  ![v782.toNat, 64, 0]
def k0_off52 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v790 : Index := Scalar.indexCast arg10
  let c128_388 : Index := 128#32
  let c0_389 : Index := 0#32
  ![v790.toNat, 128, 0]
def k0_off53 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v798 : Index := Scalar.indexCast arg10
  let c192_392 : Index := 192#32
  let c0_393 : Index := 0#32
  ![v798.toNat, 192, 0]
def k0_off54 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v806 : Index := Scalar.indexCast arg10
  let c256_396 : Index := 256#32
  let c0_397 : Index := 0#32
  ![v806.toNat, 256, 0]
def k0_off55 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v814 : Index := Scalar.indexCast arg10
  let c320_400 : Index := 320#32
  let c0_401 : Index := 0#32
  ![v814.toNat, 320, 0]
def k0_off56 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v822 : Index := Scalar.indexCast arg10
  let c384_404 : Index := 384#32
  let c0_405 : Index := 0#32
  ![v822.toNat, 384, 0]
def k0_off57 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v830 : Index := Scalar.indexCast arg10
  let c448_408 : Index := 448#32
  let c0_409 : Index := 0#32
  ![v830.toNat, 448, 0]
@[reducible] def k0_t3_loop (k0_t1 : Fin k0_t1_loop.trips) : Scf.Loop 32 :=
  let c0_i32_278 : BitVec 32 := 0#32
  let c0_i32_104 : BitVec 32 := 0#32
  let c1_i32_106 : BitVec 32 := 1#32
  let arg10 : BitVec 32 := Scf.iv c0_i32_104 c1_i32_106 k0_t1
  let v523 : BitVec 32 := Scalar.subi arg10 c0_i32_278
  let c1_i32_279 : BitVec 32 := 1#32
  let v525 : BitVec 32 := Scalar.divsi v523 c1_i32_279
  let v526 : BitVec 32 := Scalar.muli v525 c1_i32_279
  let v527 : BitVec 32 := Scalar.addi c0_i32_278 v526
  let v524 : BitVec 32 := Scalar.addi c0_i32_278 v523
  let c1_i32_281 : BitVec 32 := 1#32
  ⟨v527, v524, c1_i32_281⟩
def k0_mult3 (k0_t1 : Fin k0_t1_loop.trips) : BitVec 32 :=
  let c0_i32_104 : BitVec 32 := 0#32
  let c1_i32_106 : BitVec 32 := 1#32
  let arg10 : BitVec 32 := Scf.iv c0_i32_104 c1_i32_106 k0_t1
  let c256_i32_283 : BitVec 32 := 256#32
  let v532 : BitVec 32 := Scalar.muli arg10 c256_i32_283
  v532
def k0_off58 (k0_t1 : Fin k0_t1_loop.trips) (k0_t3 : Fin (k0_t3_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let v523 : BitVec 32 := Scalar.subi arg10 c0_i32_278
  let c1_i32_279 : BitVec 32 := 1#32
  let v525 : BitVec 32 := Scalar.divsi v523 c1_i32_279
  let v526 : BitVec 32 := Scalar.muli v525 c1_i32_279
  let v527 : BitVec 32 := Scalar.addi c0_i32_278 v526
  let c1_i32_281 : BitVec 32 := 1#32
  let arg11 : BitVec 32 := Scf.iv v527 c1_i32_281 k0_t3
  let v531 : BitVec 32 := Scalar.subi v530 arg11
  let v534 : Index := Scalar.indexCast v531
  let c0_284 : Index := 0#32
  let c0_285 : Index := 0#32
  ![v534.toNat, 0, 0]
def k0_off59 (k0_t1 : Fin k0_t1_loop.trips) : Fin 3 → Nat :=
  let c0_286 : Index := 0#32
  let c0_i32_104 : BitVec 32 := 0#32
  let c1_i32_106 : BitVec 32 := 1#32
  let arg10 : BitVec 32 := Scf.iv c0_i32_104 c1_i32_106 k0_t1
  let c256_i32_283 : BitVec 32 := 256#32
  let v532 : BitVec 32 := Scalar.muli arg10 c256_i32_283
  let v533 : BitVec 32 := v532
  let v537 : Index := Scalar.indexCast v533
  let c0_287 : Index := 0#32
  ![0, v537.toNat, 0]
def k0_off60 (k0_t1 : Fin k0_t1_loop.trips) (k0_t3 : Fin (k0_t3_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let v523 : BitVec 32 := Scalar.subi arg10 c0_i32_278
  let c1_i32_279 : BitVec 32 := 1#32
  let v525 : BitVec 32 := Scalar.divsi v523 c1_i32_279
  let v526 : BitVec 32 := Scalar.muli v525 c1_i32_279
  let v527 : BitVec 32 := Scalar.addi c0_i32_278 v526
  let c1_i32_281 : BitVec 32 := 1#32
  let arg11 : BitVec 32 := Scf.iv v527 c1_i32_281 k0_t3
  let v531 : BitVec 32 := Scalar.subi v530 arg11
  let v543 : Index := Scalar.indexCast v531
  let c0_289 : Index := 0#32
  let c64_290 : Index := 64#32
  ![v543.toNat, 0, 64]
def k0_off61 (k0_t1 : Fin k0_t1_loop.trips) : Fin 3 → Nat :=
  let c0_291 : Index := 0#32
  let c0_i32_104 : BitVec 32 := 0#32
  let c1_i32_106 : BitVec 32 := 1#32
  let arg10 : BitVec 32 := Scf.iv c0_i32_104 c1_i32_106 k0_t1
  let c256_i32_283 : BitVec 32 := 256#32
  let v532 : BitVec 32 := Scalar.muli arg10 c256_i32_283
  let v533 : BitVec 32 := v532
  let v546 : Index := Scalar.indexCast v533
  let c64_292 : Index := 64#32
  ![0, v546.toNat, 64]
def k0_off62 (k0_t1 : Fin k0_t1_loop.trips) (k0_t3 : Fin (k0_t3_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let v523 : BitVec 32 := Scalar.subi arg10 c0_i32_278
  let c1_i32_279 : BitVec 32 := 1#32
  let v525 : BitVec 32 := Scalar.divsi v523 c1_i32_279
  let v526 : BitVec 32 := Scalar.muli v525 c1_i32_279
  let v527 : BitVec 32 := Scalar.addi c0_i32_278 v526
  let c1_i32_281 : BitVec 32 := 1#32
  let arg11 : BitVec 32 := Scf.iv v527 c1_i32_281 k0_t3
  let v531 : BitVec 32 := Scalar.subi v530 arg11
  let v552 : Index := Scalar.indexCast v531
  let c0_294 : Index := 0#32
  let c128_295 : Index := 128#32
  ![v552.toNat, 0, 128]
def k0_off63 (k0_t1 : Fin k0_t1_loop.trips) : Fin 3 → Nat :=
  let c0_296 : Index := 0#32
  let c0_i32_104 : BitVec 32 := 0#32
  let c1_i32_106 : BitVec 32 := 1#32
  let arg10 : BitVec 32 := Scf.iv c0_i32_104 c1_i32_106 k0_t1
  let c256_i32_283 : BitVec 32 := 256#32
  let v532 : BitVec 32 := Scalar.muli arg10 c256_i32_283
  let v533 : BitVec 32 := v532
  let v555 : Index := Scalar.indexCast v533
  let c128_297 : Index := 128#32
  ![0, v555.toNat, 128]
def k0_off64 (k0_t1 : Fin k0_t1_loop.trips) (k0_t3 : Fin (k0_t3_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let v523 : BitVec 32 := Scalar.subi arg10 c0_i32_278
  let c1_i32_279 : BitVec 32 := 1#32
  let v525 : BitVec 32 := Scalar.divsi v523 c1_i32_279
  let v526 : BitVec 32 := Scalar.muli v525 c1_i32_279
  let v527 : BitVec 32 := Scalar.addi c0_i32_278 v526
  let c1_i32_281 : BitVec 32 := 1#32
  let arg11 : BitVec 32 := Scf.iv v527 c1_i32_281 k0_t3
  let v531 : BitVec 32 := Scalar.subi v530 arg11
  let v561 : Index := Scalar.indexCast v531
  let c0_299 : Index := 0#32
  let c192_300 : Index := 192#32
  ![v561.toNat, 0, 192]
def k0_off65 (k0_t1 : Fin k0_t1_loop.trips) : Fin 3 → Nat :=
  let c0_301 : Index := 0#32
  let c0_i32_104 : BitVec 32 := 0#32
  let c1_i32_106 : BitVec 32 := 1#32
  let arg10 : BitVec 32 := Scf.iv c0_i32_104 c1_i32_106 k0_t1
  let c256_i32_283 : BitVec 32 := 256#32
  let v532 : BitVec 32 := Scalar.muli arg10 c256_i32_283
  let v533 : BitVec 32 := v532
  let v564 : Index := Scalar.indexCast v533
  let c192_302 : Index := 192#32
  ![0, v564.toNat, 192]
def k0_off66 (k0_t1 : Fin k0_t1_loop.trips) (k0_t3 : Fin (k0_t3_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let v523 : BitVec 32 := Scalar.subi arg10 c0_i32_278
  let c1_i32_279 : BitVec 32 := 1#32
  let v525 : BitVec 32 := Scalar.divsi v523 c1_i32_279
  let v526 : BitVec 32 := Scalar.muli v525 c1_i32_279
  let v527 : BitVec 32 := Scalar.addi c0_i32_278 v526
  let c1_i32_281 : BitVec 32 := 1#32
  let arg11 : BitVec 32 := Scf.iv v527 c1_i32_281 k0_t3
  let v531 : BitVec 32 := Scalar.subi v530 arg11
  let v570 : Index := Scalar.indexCast v531
  let c0_304 : Index := 0#32
  let c256_305 : Index := 256#32
  ![v570.toNat, 0, 256]
def k0_off67 (k0_t1 : Fin k0_t1_loop.trips) : Fin 3 → Nat :=
  let c0_306 : Index := 0#32
  let c0_i32_104 : BitVec 32 := 0#32
  let c1_i32_106 : BitVec 32 := 1#32
  let arg10 : BitVec 32 := Scf.iv c0_i32_104 c1_i32_106 k0_t1
  let c256_i32_283 : BitVec 32 := 256#32
  let v532 : BitVec 32 := Scalar.muli arg10 c256_i32_283
  let v533 : BitVec 32 := v532
  let v573 : Index := Scalar.indexCast v533
  let c256_307 : Index := 256#32
  ![0, v573.toNat, 256]
def k0_off68 (k0_t1 : Fin k0_t1_loop.trips) (k0_t3 : Fin (k0_t3_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let v523 : BitVec 32 := Scalar.subi arg10 c0_i32_278
  let c1_i32_279 : BitVec 32 := 1#32
  let v525 : BitVec 32 := Scalar.divsi v523 c1_i32_279
  let v526 : BitVec 32 := Scalar.muli v525 c1_i32_279
  let v527 : BitVec 32 := Scalar.addi c0_i32_278 v526
  let c1_i32_281 : BitVec 32 := 1#32
  let arg11 : BitVec 32 := Scf.iv v527 c1_i32_281 k0_t3
  let v531 : BitVec 32 := Scalar.subi v530 arg11
  let v579 : Index := Scalar.indexCast v531
  let c0_309 : Index := 0#32
  let c320_310 : Index := 320#32
  ![v579.toNat, 0, 320]
def k0_off69 (k0_t1 : Fin k0_t1_loop.trips) : Fin 3 → Nat :=
  let c0_311 : Index := 0#32
  let c0_i32_104 : BitVec 32 := 0#32
  let c1_i32_106 : BitVec 32 := 1#32
  let arg10 : BitVec 32 := Scf.iv c0_i32_104 c1_i32_106 k0_t1
  let c256_i32_283 : BitVec 32 := 256#32
  let v532 : BitVec 32 := Scalar.muli arg10 c256_i32_283
  let v533 : BitVec 32 := v532
  let v582 : Index := Scalar.indexCast v533
  let c320_312 : Index := 320#32
  ![0, v582.toNat, 320]
def k0_off70 (k0_t1 : Fin k0_t1_loop.trips) (k0_t3 : Fin (k0_t3_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let v523 : BitVec 32 := Scalar.subi arg10 c0_i32_278
  let c1_i32_279 : BitVec 32 := 1#32
  let v525 : BitVec 32 := Scalar.divsi v523 c1_i32_279
  let v526 : BitVec 32 := Scalar.muli v525 c1_i32_279
  let v527 : BitVec 32 := Scalar.addi c0_i32_278 v526
  let c1_i32_281 : BitVec 32 := 1#32
  let arg11 : BitVec 32 := Scf.iv v527 c1_i32_281 k0_t3
  let v531 : BitVec 32 := Scalar.subi v530 arg11
  let v588 : Index := Scalar.indexCast v531
  let c0_314 : Index := 0#32
  let c384_315 : Index := 384#32
  ![v588.toNat, 0, 384]
def k0_off71 (k0_t1 : Fin k0_t1_loop.trips) : Fin 3 → Nat :=
  let c0_316 : Index := 0#32
  let c0_i32_104 : BitVec 32 := 0#32
  let c1_i32_106 : BitVec 32 := 1#32
  let arg10 : BitVec 32 := Scf.iv c0_i32_104 c1_i32_106 k0_t1
  let c256_i32_283 : BitVec 32 := 256#32
  let v532 : BitVec 32 := Scalar.muli arg10 c256_i32_283
  let v533 : BitVec 32 := v532
  let v591 : Index := Scalar.indexCast v533
  let c384_317 : Index := 384#32
  ![0, v591.toNat, 384]
def k0_off72 (k0_t1 : Fin k0_t1_loop.trips) (k0_t3 : Fin (k0_t3_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let v523 : BitVec 32 := Scalar.subi arg10 c0_i32_278
  let c1_i32_279 : BitVec 32 := 1#32
  let v525 : BitVec 32 := Scalar.divsi v523 c1_i32_279
  let v526 : BitVec 32 := Scalar.muli v525 c1_i32_279
  let v527 : BitVec 32 := Scalar.addi c0_i32_278 v526
  let c1_i32_281 : BitVec 32 := 1#32
  let arg11 : BitVec 32 := Scf.iv v527 c1_i32_281 k0_t3
  let v531 : BitVec 32 := Scalar.subi v530 arg11
  let v597 : Index := Scalar.indexCast v531
  let c0_319 : Index := 0#32
  let c448_320 : Index := 448#32
  ![v597.toNat, 0, 448]
def k0_off73 (k0_t1 : Fin k0_t1_loop.trips) : Fin 3 → Nat :=
  let c0_321 : Index := 0#32
  let c0_i32_104 : BitVec 32 := 0#32
  let c1_i32_106 : BitVec 32 := 1#32
  let arg10 : BitVec 32 := Scf.iv c0_i32_104 c1_i32_106 k0_t1
  let c256_i32_283 : BitVec 32 := 256#32
  let v532 : BitVec 32 := Scalar.muli arg10 c256_i32_283
  let v533 : BitVec 32 := v532
  let v600 : Index := Scalar.indexCast v533
  let c448_322 : Index := 448#32
  ![0, v600.toNat, 448]
def k0_off74 (k0_t1 : Fin k0_t1_loop.trips) (k0_t3 : Fin (k0_t3_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let v523 : BitVec 32 := Scalar.subi arg10 c0_i32_278
  let c1_i32_279 : BitVec 32 := 1#32
  let v525 : BitVec 32 := Scalar.divsi v523 c1_i32_279
  let v526 : BitVec 32 := Scalar.muli v525 c1_i32_279
  let v527 : BitVec 32 := Scalar.addi c0_i32_278 v526
  let c1_i32_281 : BitVec 32 := 1#32
  let arg11 : BitVec 32 := Scf.iv v527 c1_i32_281 k0_t3
  let v531 : BitVec 32 := Scalar.subi v530 arg11
  let v734 : Index := Scalar.indexCast v531
  let c0_356 : Index := 0#32
  let c0_357 : Index := 0#32
  ![v734.toNat, 0, 0]
def k0_off75 (k0_t1 : Fin k0_t1_loop.trips) (k0_t3 : Fin (k0_t3_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let v523 : BitVec 32 := Scalar.subi arg10 c0_i32_278
  let c1_i32_279 : BitVec 32 := 1#32
  let v525 : BitVec 32 := Scalar.divsi v523 c1_i32_279
  let v526 : BitVec 32 := Scalar.muli v525 c1_i32_279
  let v527 : BitVec 32 := Scalar.addi c0_i32_278 v526
  let c1_i32_281 : BitVec 32 := 1#32
  let arg11 : BitVec 32 := Scf.iv v527 c1_i32_281 k0_t3
  let v531 : BitVec 32 := Scalar.subi v530 arg11
  let v739 : Index := Scalar.indexCast v531
  let c64_359 : Index := 64#32
  let c0_360 : Index := 0#32
  ![v739.toNat, 64, 0]
def k0_off76 (k0_t1 : Fin k0_t1_loop.trips) (k0_t3 : Fin (k0_t3_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let v523 : BitVec 32 := Scalar.subi arg10 c0_i32_278
  let c1_i32_279 : BitVec 32 := 1#32
  let v525 : BitVec 32 := Scalar.divsi v523 c1_i32_279
  let v526 : BitVec 32 := Scalar.muli v525 c1_i32_279
  let v527 : BitVec 32 := Scalar.addi c0_i32_278 v526
  let c1_i32_281 : BitVec 32 := 1#32
  let arg11 : BitVec 32 := Scf.iv v527 c1_i32_281 k0_t3
  let v531 : BitVec 32 := Scalar.subi v530 arg11
  let v744 : Index := Scalar.indexCast v531
  let c128_362 : Index := 128#32
  let c0_363 : Index := 0#32
  ![v744.toNat, 128, 0]
def k0_off77 (k0_t1 : Fin k0_t1_loop.trips) (k0_t3 : Fin (k0_t3_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let v523 : BitVec 32 := Scalar.subi arg10 c0_i32_278
  let c1_i32_279 : BitVec 32 := 1#32
  let v525 : BitVec 32 := Scalar.divsi v523 c1_i32_279
  let v526 : BitVec 32 := Scalar.muli v525 c1_i32_279
  let v527 : BitVec 32 := Scalar.addi c0_i32_278 v526
  let c1_i32_281 : BitVec 32 := 1#32
  let arg11 : BitVec 32 := Scf.iv v527 c1_i32_281 k0_t3
  let v531 : BitVec 32 := Scalar.subi v530 arg11
  let v749 : Index := Scalar.indexCast v531
  let c192_365 : Index := 192#32
  let c0_366 : Index := 0#32
  ![v749.toNat, 192, 0]
def k0_off78 (k0_t1 : Fin k0_t1_loop.trips) (k0_t3 : Fin (k0_t3_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let v523 : BitVec 32 := Scalar.subi arg10 c0_i32_278
  let c1_i32_279 : BitVec 32 := 1#32
  let v525 : BitVec 32 := Scalar.divsi v523 c1_i32_279
  let v526 : BitVec 32 := Scalar.muli v525 c1_i32_279
  let v527 : BitVec 32 := Scalar.addi c0_i32_278 v526
  let c1_i32_281 : BitVec 32 := 1#32
  let arg11 : BitVec 32 := Scf.iv v527 c1_i32_281 k0_t3
  let v531 : BitVec 32 := Scalar.subi v530 arg11
  let v754 : Index := Scalar.indexCast v531
  let c256_368 : Index := 256#32
  let c0_369 : Index := 0#32
  ![v754.toNat, 256, 0]
def k0_off79 (k0_t1 : Fin k0_t1_loop.trips) (k0_t3 : Fin (k0_t3_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let v523 : BitVec 32 := Scalar.subi arg10 c0_i32_278
  let c1_i32_279 : BitVec 32 := 1#32
  let v525 : BitVec 32 := Scalar.divsi v523 c1_i32_279
  let v526 : BitVec 32 := Scalar.muli v525 c1_i32_279
  let v527 : BitVec 32 := Scalar.addi c0_i32_278 v526
  let c1_i32_281 : BitVec 32 := 1#32
  let arg11 : BitVec 32 := Scf.iv v527 c1_i32_281 k0_t3
  let v531 : BitVec 32 := Scalar.subi v530 arg11
  let v759 : Index := Scalar.indexCast v531
  let c320_371 : Index := 320#32
  let c0_372 : Index := 0#32
  ![v759.toNat, 320, 0]
def k0_off80 (k0_t1 : Fin k0_t1_loop.trips) (k0_t3 : Fin (k0_t3_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let v523 : BitVec 32 := Scalar.subi arg10 c0_i32_278
  let c1_i32_279 : BitVec 32 := 1#32
  let v525 : BitVec 32 := Scalar.divsi v523 c1_i32_279
  let v526 : BitVec 32 := Scalar.muli v525 c1_i32_279
  let v527 : BitVec 32 := Scalar.addi c0_i32_278 v526
  let c1_i32_281 : BitVec 32 := 1#32
  let arg11 : BitVec 32 := Scf.iv v527 c1_i32_281 k0_t3
  let v531 : BitVec 32 := Scalar.subi v530 arg11
  let v764 : Index := Scalar.indexCast v531
  let c384_374 : Index := 384#32
  let c0_375 : Index := 0#32
  ![v764.toNat, 384, 0]
def k0_off81 (k0_t1 : Fin k0_t1_loop.trips) (k0_t3 : Fin (k0_t3_loop k0_t1).trips) : Fin 3 → Nat :=
  let c0_i32_104 : BitVec 32 := 0#32
  let c1_i32_106 : BitVec 32 := 1#32
  let arg10 : BitVec 32 := Scf.iv c0_i32_104 c1_i32_106 k0_t1
  let c1_i32_282 : BitVec 32 := 1#32
  let v530 : BitVec 32 := Scalar.subi arg10 c1_i32_282
  let c0_i32_278 : BitVec 32 := 0#32
  let v523 : BitVec 32 := Scalar.subi arg10 c0_i32_278
  let c1_i32_279 : BitVec 32 := 1#32
  let v525 : BitVec 32 := Scalar.divsi v523 c1_i32_279
  let v526 : BitVec 32 := Scalar.muli v525 c1_i32_279
  let v527 : BitVec 32 := Scalar.addi c0_i32_278 v526
  let c1_i32_281 : BitVec 32 := 1#32
  let arg11 : BitVec 32 := Scf.iv v527 c1_i32_281 k0_t3
  let v531 : BitVec 32 := Scalar.subi v530 arg11
  let v769 : Index := Scalar.indexCast v531
  let c448_377 : Index := 448#32
  let c0_378 : Index := 0#32
  ![v769.toNat, 448, 0]
def k0_off82 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v774 : Index := Scalar.indexCast arg10
  let c0_380 : Index := 0#32
  let c0_381 : Index := 0#32
  ![v774.toNat, 0, 0]
def k0_off83 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v782 : Index := Scalar.indexCast arg10
  let c64_384 : Index := 64#32
  let c0_385 : Index := 0#32
  ![v782.toNat, 64, 0]
def k0_off84 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v790 : Index := Scalar.indexCast arg10
  let c128_388 : Index := 128#32
  let c0_389 : Index := 0#32
  ![v790.toNat, 128, 0]
def k0_off85 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v798 : Index := Scalar.indexCast arg10
  let c192_392 : Index := 192#32
  let c0_393 : Index := 0#32
  ![v798.toNat, 192, 0]
def k0_off86 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v806 : Index := Scalar.indexCast arg10
  let c256_396 : Index := 256#32
  let c0_397 : Index := 0#32
  ![v806.toNat, 256, 0]
def k0_off87 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v814 : Index := Scalar.indexCast arg10
  let c320_400 : Index := 320#32
  let c0_401 : Index := 0#32
  ![v814.toNat, 320, 0]
def k0_off88 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v822 : Index := Scalar.indexCast arg10
  let c384_404 : Index := 384#32
  let c0_405 : Index := 0#32
  ![v822.toNat, 384, 0]
def k0_off89 (k0_t1 : Fin k0_t1_loop.trips) : Fin 3 → Nat :=
  let c0_i32_104 : BitVec 32 := 0#32
  let c1_i32_106 : BitVec 32 := 1#32
  let arg10 : BitVec 32 := Scf.iv c0_i32_104 c1_i32_106 k0_t1
  let v830 : Index := Scalar.indexCast arg10
  let c448_408 : Index := 448#32
  let c0_409 : Index := 0#32
  ![v830.toNat, 448, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "nlog2e" => some ((-((Real.log 2)⁻¹) : ℝ) : EReal)
  | _ => none
-- ==== ReferenceIdeal.lean ====
abbrev S8x2048x8x64 : Shape := ⟨4, ![8, 2048, 8, 64]⟩
abbrev S2x8x2048x8x64 : Shape := ⟨5, ![2, 8, 2048, 8, 64]⟩
abbrev S8 : Shape := ⟨1, ![8]⟩
abbrev S1x8x2048x8x64 : Shape := ⟨5, ![1, 8, 2048, 8, 64]⟩
abbrev S2048 : Shape := ⟨1, ![2048]⟩
abbrev S1x8x1x1 : Shape := ⟨4, ![1, 8, 1, 1]⟩
abbrev S8x8x2048x2048 : Shape := ⟨4, ![8, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x8x64x2048 : Shape := ⟨4, ![8, 8, 64, 2048]⟩
abbrev S8x2048x512 : Shape := ⟨3, ![8, 2048, 512]⟩

abbrev nBuf : Space → Nat
  | .hbm => 74
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S2x8x2048x8x64, .f32⟩
  | .hbm, ⟨2, _⟩ => ⟨S2x8x2048x8x64, .f32⟩
  | .hbm, ⟨3, _⟩ => ⟨S8, .f32⟩
  | .hbm, ⟨4, _⟩ => ⟨S1x8x2048x8x64, .f32⟩
  | .hbm, ⟨5, _⟩ => ⟨S8x2048x8x64, .f32⟩
  | .hbm, ⟨6, _⟩ => ⟨S1x8x2048x8x64, .f32⟩
  | .hbm, ⟨7, _⟩ => ⟨S8x2048x8x64, .f32⟩
  | .hbm, ⟨8, _⟩ => ⟨S2048, .i32⟩
  | .hbm, ⟨9, _⟩ => ⟨S1x8x1x1, .f32⟩
  | .hbm, ⟨10, _⟩ => ⟨S8x8x2048x2048, .f32⟩
  | .hbm, ⟨11, _⟩ => ⟨S_, .f32⟩
  | .hbm, ⟨12, _⟩ => ⟨S8x8x2048x2048, .f32⟩
  | .hbm, ⟨13, _⟩ => ⟨S8x8x2048x2048, .f32⟩
  | .hbm, ⟨14, _⟩ => ⟨S8x8x2048x2048, .f32⟩
  | .hbm, ⟨15, _⟩ => ⟨S8x8x2048x2048, .f32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S8x8x2048x2048, .f32⟩
  | .hbm, ⟨22, _⟩ => ⟨S8x8x2048x2048, .f32⟩
  | .hbm, ⟨23, _⟩ => ⟨S_, .f32⟩
  | .hbm, ⟨24, _⟩ => ⟨S8x8x2048x2048, .f32⟩
  | .hbm, ⟨25, _⟩ => ⟨S8x8x2048x2048, .f32⟩
  | .hbm, ⟨26, _⟩ => ⟨S8x8x2048x2048, .f32⟩
  | .hbm, ⟨27, _⟩ => ⟨S8x8x2048x2048, .f32⟩
  | .hbm, ⟨28, _⟩ => ⟨S8x8x2048x2048, .i1⟩
  | .hbm, ⟨29, _⟩ => ⟨S8x8x2048x2048, .f32⟩
  | .hbm, ⟨30, _⟩ => ⟨S8x8x2048x2048, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S8x8x2048x2048, .f32⟩
  | .hbm, ⟨37, _⟩ => ⟨S8x8x2048x2048, .f32⟩
  | .hbm, ⟨38, _⟩ => ⟨S_, .f32⟩
  | .hbm, ⟨39, _⟩ => ⟨S_, .f32⟩
  | .hbm, ⟨40, _⟩ => ⟨S8x8x2048x2048, .i1⟩
  | .hbm, ⟨41, _⟩ => ⟨S8x8x2048x2048, .f32⟩
  | .hbm, ⟨42, _⟩ => ⟨S8x8x2048x2048, .f32⟩
  | .hbm, ⟨43, _⟩ => ⟨S_, .f32⟩
  | .hbm, ⟨44, _⟩ => ⟨S_, .f32⟩
  | .hbm, ⟨45, _⟩ => ⟨S8x8x2048x2048, .f32⟩
  | .hbm, ⟨46, _⟩ => ⟨S8x8x2048x2048, .f32⟩
  | .hbm, ⟨47, _⟩ => ⟨S8x8x2048x2048, .f32⟩
  | .hbm, ⟨48, _⟩ => ⟨S_, .f32⟩
  | .hbm, ⟨49, _⟩ => ⟨S8x8x2048x2048, .f32⟩
  | .hbm, ⟨50, _⟩ => ⟨S8x8x2048x2048, .f32⟩
  | .hbm, ⟨51, _⟩ => ⟨S8x8x2048x2048, .f32⟩
  | .hbm, ⟨52, _⟩ => ⟨S8x8x2048x2048, .f32⟩
  | .hbm, ⟨53, _⟩ => ⟨S8x8x2048x2048, .i1⟩
  | .hbm, ⟨54, _⟩ => ⟨S8x8x2048x2048, .f32⟩
  | .hbm, ⟨55, _⟩ => ⟨S8x8x2048x2048, .f32⟩
  | .hbm, ⟨56, _⟩ => ⟨S8x8x2048x2048, .f32⟩
  | .hbm, ⟨57, _⟩ => ⟨S8x8x2048x2048, .f32⟩
  | .hbm, ⟨58, _⟩ => ⟨S8x8x2048x2048, .f32⟩
  | .hbm, ⟨59, _⟩ => ⟨S8x8x2048x2048, .f32⟩
  | .hbm, ⟨60, _⟩ => ⟨S8x8x2048x2048, .f32⟩
  | .hbm, ⟨61, _⟩ => ⟨S8x8x2048x2048, .f32⟩
  | .hbm, ⟨62, _⟩ => ⟨S8x8x2048x2048, .f32⟩
  | .hbm, ⟨63, _⟩ => ⟨S8x8x2048x2048, .f32⟩
  | .hbm, ⟨64, _⟩ => ⟨S8x8x2048x2048, .f32⟩
  | .hbm, ⟨65, _⟩ => ⟨S_, .f32⟩
  | .hbm, ⟨66, _⟩ => ⟨S_, .f32⟩
  | .hbm, ⟨67, _⟩ => ⟨S8x8x2048x2048, .i1⟩
  | .hbm, ⟨68, _⟩ => ⟨S8x8x2048x2048, .f32⟩
  | .hbm, ⟨69, _⟩ => ⟨S8x8x2048x2048, .f32⟩
  | .hbm, ⟨70, _⟩ => ⟨S8x8x64x2048, .f32⟩
  | .hbm, ⟨71, _⟩ => ⟨S8x2048x8x64, .f32⟩
  | .hbm, ⟨72, _⟩ => ⟨S8x2048x512, .f32⟩
  | .hbm, ⟨73, _⟩ => ⟨S8x2048x512, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_call2_cst : Ref sig .tc := ⟨.hbm, 43, rfl⟩
abbrev main_call2_v0 : Ref sig .tc := ⟨.hbm, 44, rfl⟩
abbrev main_v19 : Ref sig .tc := ⟨.hbm, 45, rfl⟩
abbrev main_v20 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩

abbrev nD : Nat := 1
abbrev τ : Topo := Topo.v7x

variable {F : FTy → Type} [FloatOps F]
-- ==== Expert.lean ====
abbrev S35072x1024 : Shape := ⟨2, ![35072, 1024]⟩
abbrev S8 : Shape := ⟨1, ![8]⟩
abbrev S1x8x1024x2816 : Shape := ⟨4, ![1, 8, 1024, 2816]⟩
abbrev S1x8x2816x1024 : Shape := ⟨4, ![1, 8, 2816, 1024]⟩
abbrev S8x1024x2816 : Shape := ⟨3, ![8, 1024, 2816]⟩
abbrev S8x2816x1024 : Shape := ⟨3, ![8, 2816, 1024]⟩
abbrev S_ : Shape := ⟨0, ![]⟩
abbrev S1 : Shape := ⟨1, ![1]⟩
abbrev S137 : Shape := ⟨1, ![137]⟩
abbrev S137x1 : Shape := ⟨2, ![137, 1]⟩
abbrev S1x8 : Shape := ⟨2, ![1, 8]⟩
abbrev S137x8 : Shape := ⟨2, ![137, 8]⟩
abbrev S256x1024 : Shape := ⟨2, ![256, 1024]⟩
abbrev S1x1024x2816 : Shape := ⟨3, ![1, 1024, 2816]⟩
abbrev S1x2816x1024 : Shape := ⟨3, ![1, 2816, 1024]⟩
abbrev S256x2816 : Shape := ⟨2, ![256, 2816]⟩
abbrev S1x1024x512 : Shape := ⟨3, ![1, 1024, 512]⟩
abbrev S1024x512 : Shape := ⟨2, ![1024, 512]⟩
abbrev S256x512 : Shape := ⟨2, ![256, 512]⟩
abbrev S1x1024x256 : Shape := ⟨3, ![1, 1024, 256]⟩
abbrev S1024x256 : Shape := ⟨2, ![1024, 256]⟩
abbrev S256x256 : Shape := ⟨2, ![256, 256]⟩
abbrev S2816x1024 : Shape := ⟨2, ![2816, 1024]⟩

abbrev nBuf : Space → Nat
  | .hbm => 54
  | .vmem => 11
  | .smem => 2
  | _ => 0

abbrev bufTy : (tb : Table) → Fin (tcTables nBuf tb) → BufTy
  | .hbm, ⟨0, _⟩ => ⟨S35072x1024, .f32⟩
  | .hbm, ⟨1, _⟩ => ⟨S8, .i32⟩
  | .hbm, ⟨2, _⟩ => ⟨S1x8x1024x2816, .f32⟩
  | .hbm, ⟨3, _⟩ => ⟨S1x8x1024x2816, .f32⟩
  | .hbm, ⟨4, _⟩ => ⟨S1x8x2816x1024, .f32⟩
  | .hbm, ⟨5, _⟩ => ⟨S8x1024x2816, .f32⟩
  | .hbm, ⟨6, _⟩ => ⟨S8x1024x2816, .bf16⟩
  | .hbm, ⟨7, _⟩ => ⟨S8x1024x2816, .f32⟩
  | .hbm, ⟨8, _⟩ => ⟨S8x1024x2816, .bf16⟩
  | .hbm, ⟨9, _⟩ => ⟨S8x2816x1024, .f32⟩
  | .hbm, ⟨10, _⟩ => ⟨S8x2816x1024, .bf16⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S_, .i32⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i1⟩
  | .hbm, ⟨25, _⟩ => ⟨S8, .i32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i1⟩
  | .hbm, ⟨30, _⟩ => ⟨S8, .i1⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S8, .i32⟩
  | .hbm, ⟨35, _⟩ => ⟨S_, .i32⟩
  | .hbm, ⟨36, _⟩ => ⟨S_, .i32⟩
  | .hbm, ⟨37, _⟩ => ⟨S8, .i32⟩
  | .hbm, ⟨38, _⟩ => ⟨S1, .i32⟩
  | .hbm, ⟨39, _⟩ => ⟨S_, .i32⟩
  | .hbm, ⟨40, _⟩ => ⟨S137, .i32⟩
  | .hbm, ⟨41, _⟩ => ⟨S_, .i32⟩
  | .hbm, ⟨42, _⟩ => ⟨S_, .i32⟩
  | .hbm, ⟨43, _⟩ => ⟨S137, .i32⟩
  | .hbm, ⟨44, _⟩ => ⟨S137, .i32⟩
  | .hbm, ⟨45, _⟩ => ⟨S137x1, .i32⟩
  | .hbm, ⟨46, _⟩ => ⟨S1x8, .i32⟩
  | .hbm, ⟨47, _⟩ => ⟨S137x8, .i32⟩
  | .hbm, ⟨48, _⟩ => ⟨S137x8, .i32⟩
  | .hbm, ⟨49, _⟩ => ⟨S137x8, .i1⟩
  | .hbm, ⟨50, _⟩ => ⟨S137x8, .i32⟩
  | .hbm, ⟨51, _⟩ => ⟨S_, .i32⟩
  | .hbm, ⟨52, _⟩ => ⟨S35072x1024, .bf16⟩
  | .hbm, ⟨53, _⟩ => ⟨S35072x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S256x1024, .bf16⟩
  | .local _ .vmem, ⟨9, _⟩ => ⟨S256x1024, .bf16⟩
  | .local _ .vmem, ⟨10, _⟩ => ⟨S256x2816, .bf16⟩
  | .local _ .smem, ⟨0, _⟩ => ⟨S137, .i32⟩
  | .local _ .smem, ⟨1, _⟩ => ⟨S1, .i32⟩
  | _, _ => ⟨S35072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v10 : Ref sig .tc := ⟨.hbm, 34, rfl⟩
abbrev main_call1_call0_c : Ref sig .tc := ⟨.hbm, 35, rfl⟩
abbrev main_call1_call0_v0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_3 : Ref sig .tc := ⟨.hbm, 51, rfl⟩
abbrev main_v26 : Ref sig .tc := ⟨.hbm, 52, rfl⟩
abbrev main_v27 : Ref sig .tc := ⟨.hbm, 53, rfl⟩
abbrev main_v24 : Ref sig .tc := ⟨.smem, 0, rfl⟩
abbrev main_v25 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![137], ![false]⟩

abbrev pre0 : Pipeline.Prefetch sig := ⟨2, ![main_v24.idx, main_v25.idx], fun | 0 => main_v24.names | 1 => main_v25.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S137.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S137) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S137.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S137) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S137.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S137) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertReferenceIdeal.lean ====
abbrev S35072x1024 : Shape := ⟨2, ![35072, 1024]⟩
abbrev S8 : Shape := ⟨1, ![8]⟩
abbrev S1x8x1024x2816 : Shape := ⟨4, ![1, 8, 1024, 2816]⟩
abbrev S1x8x2816x1024 : Shape := ⟨4, ![1, 8, 2816, 1024]⟩
abbrev S8x1024x2816 : Shape := ⟨3, ![8, 1024, 2816]⟩
abbrev S8x2816x1024 : Shape := ⟨3, ![8, 2816, 1024]⟩
abbrev S35072 : Shape := ⟨1, ![35072]⟩
abbrev S_ : Shape := ⟨0, ![]⟩
abbrev S35072x1 : Shape := ⟨2, ![35072, 1]⟩
abbrev S1x8 : Shape := ⟨2, ![1, 8]⟩
abbrev S35072x8 : Shape := ⟨2, ![35072, 8]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S35072x2816 : Shape := ⟨2, ![35072, 2816]⟩

abbrev nBuf : Space → Nat
  | .hbm => 240
  | .vmem => 0
  | .smem => 0
  | _ => 0

abbrev hbmTy0_0 (i : Nat) : BufTy := match i % 128 with
  | 0 => ⟨S35072x1024, .f32⟩
  | 1 => ⟨S8, .i32⟩
  | 2 => ⟨S1x8x1024x2816, .f32⟩
  | 3 => ⟨S1x8x1024x2816, .f32⟩
  | 4 => ⟨S1x8x2816x1024, .f32⟩
  | 5 => ⟨S8x1024x2816, .f32⟩
  | 6 => ⟨S8x1024x2816, .f32⟩
  | 7 => ⟨S8x2816x1024, .f32⟩
  | 8 => ⟨S35072, .i32⟩
  | 9 => ⟨S_, .i32⟩
  | 10 => ⟨S8, .i32⟩
  | 11 => ⟨S8, .i32⟩
  | 12 => ⟨S_, .i32⟩
  | 13 => ⟨S8, .i32⟩
  | 14 => ⟨S8, .i32⟩
  | 15 => ⟨S_, .i32⟩
  | 16 => ⟨S_, .i32⟩
  | 17 => ⟨S8, .i32⟩
  | 18 => ⟨S8, .i32⟩
  | 19 => ⟨S8, .i32⟩
  | 20 => ⟨S_, .i32⟩
  | 21 => ⟨S8, .i32⟩
  | 22 => ⟨S8, .i1⟩
  | 23 => ⟨S8, .i32⟩
  | 24 => ⟨S8, .i32⟩
  | 25 => ⟨S_, .i32⟩
  | 26 => ⟨S8, .i32⟩
  | 27 => ⟨S8, .i1⟩
  | 28 => ⟨S8, .i1⟩
  | 29 => ⟨S_, .i32⟩
  | 30 => ⟨S8, .i32⟩
  | 31 => ⟨S8, .i32⟩
  | 32 => ⟨S8, .i32⟩
  | 33 => ⟨S_, .i32⟩
  | 34 => ⟨S8, .i32⟩
  | 35 => ⟨S8, .i32⟩
  | 36 => ⟨S_, .i32⟩
  | 37 => ⟨S_, .i32⟩
  | 38 => ⟨S8, .i32⟩
  | 39 => ⟨S35072x1, .i32⟩
  | 40 => ⟨S1x8, .i32⟩
  | 41 => ⟨S35072x8, .i32⟩
  | 42 => ⟨S35072x8, .i32⟩
  | 43 => ⟨S35072x8, .i1⟩
  | 44 => ⟨S35072x8, .i32⟩
  | 45 => ⟨S_, .i32⟩
  | 46 => ⟨S35072, .i32⟩
  | 47 => ⟨S35072x1, .i32⟩
  | 48 => ⟨S1x8, .i32⟩
  | 49 => ⟨S35072x8, .i32⟩
  | 50 => ⟨S35072x8, .i32⟩
  | 51 => ⟨S35072x8, .i1⟩
  | 52 => ⟨S35072x8, .f32⟩
  | 53 => ⟨S_, .f32⟩
  | 54 => ⟨S35072x1024, .f32⟩
  | 55 => ⟨S35072x1, .f32⟩
  | 56 => ⟨S1x1024x2816, .f32⟩
  | 57 => ⟨S1024x2816, .f32⟩
  | 58 => ⟨S1x1024x2816, .f32⟩
  | 59 => ⟨S1024x2816, .f32⟩
  | 60 => ⟨S1x2816x1024, .f32⟩
  | 61 => ⟨S2816x1024, .f32⟩
  | 62 => ⟨S35072x2816, .f32⟩
  | 63 => ⟨S35072x2816, .f32⟩
  | 64 => ⟨S35072x2816, .f32⟩
  | 65 => ⟨S_, .f32⟩
  | 66 => ⟨S35072x2816, .f32⟩
  | 67 => ⟨S35072x2816, .f32⟩
  | 68 => ⟨S_, .f32⟩
  | 69 => ⟨S35072x2816, .f32⟩
  | 70 => ⟨S35072x2816, .f32⟩
  | 71 => ⟨S35072x2816, .f32⟩
  | 72 => ⟨S35072x2816, .f32⟩
  | 73 => ⟨S35072x2816, .f32⟩
  | 74 => ⟨S35072x1024, .f32⟩
  | 75 => ⟨S35072x1024, .f32⟩
  | 76 => ⟨S35072x1024, .f32⟩
  | 77 => ⟨S35072x1024, .f32⟩
  | 78 => ⟨S35072x1, .f32⟩
  | 79 => ⟨S1x1024x2816, .f32⟩
  | 80 => ⟨S1024x2816, .f32⟩
  | 81 => ⟨S1x1024x2816, .f32⟩
  | 82 => ⟨S1024x2816, .f32⟩
  | 83 => ⟨S1x2816x1024, .f32⟩
  | 84 => ⟨S2816x1024, .f32⟩
  | 85 => ⟨S35072x2816, .f32⟩
  | 86 => ⟨S35072x2816, .f32⟩
  | 87 => ⟨S35072x2816, .f32⟩
  | 88 => ⟨S_, .f32⟩
  | 89 => ⟨S35072x2816, .f32⟩
  | 90 => ⟨S35072x2816, .f32⟩
  | 91 => ⟨S_, .f32⟩
  | 92 => ⟨S35072x2816, .f32⟩
  | 93 => ⟨S35072x2816, .f32⟩
  | 94 => ⟨S35072x2816, .f32⟩
  | 95 => ⟨S35072x2816, .f32⟩
  | 96 => ⟨S35072x2816, .f32⟩
  | 97 => ⟨S35072x1024, .f32⟩
  | 98 => ⟨S35072x1024, .f32⟩
  | 99 => ⟨S35072x1024, .f32⟩
  | 100 => ⟨S35072x1024, .f32⟩
  | 101 => ⟨S35072x1, .f32⟩
  | 102 => ⟨S1x1024x2816, .f32⟩
  | 103 => ⟨S1024x2816, .f32⟩
  | 104 => ⟨S1x1024x2816, .f32⟩
  | 105 => ⟨S1024x2816, .f32⟩
  | 106 => ⟨S1x2816x1024, .f32⟩
  | 107 => ⟨S2816x1024, .f32⟩
  | 108 => ⟨S35072x2816, .f32⟩
  | 109 => ⟨S35072x2816, .f32⟩
  | 110 => ⟨S35072x2816, .f32⟩
  | 111 => ⟨S_, .f32⟩
  | 112 => ⟨S35072x2816, .f32⟩
  | 113 => ⟨S35072x2816, .f32⟩
  | 114 => ⟨S_, .f32⟩
  | 115 => ⟨S35072x2816, .f32⟩
  | 116 => ⟨S35072x2816, .f32⟩
  | 117 => ⟨S35072x2816, .f32⟩
  | 118 => ⟨S35072x2816, .f32⟩
  | 119 => ⟨S35072x2816, .f32⟩
  | 120 => ⟨S35072x1024, .f32⟩
  | 121 => ⟨S35072x1024, .f32⟩
  | 122 => ⟨S35072x1024, .f32⟩
  | 123 => ⟨S35072x1024, .f32⟩
  | 124 => ⟨S35072x1, .f32⟩
  | 125 => ⟨S1x1024x2816, .f32⟩
  | 126 => ⟨S1024x2816, .f32⟩
  | 127 => ⟨S1x1024x2816, .f32⟩
  | _ => ⟨S35072x1024, .f32⟩

abbrev hbmTy0_1 (i : Nat) : BufTy := match i % 128 with
  | 0 => ⟨S1024x2816, .f32⟩
  | 1 => ⟨S1x2816x1024, .f32⟩
  | 2 => ⟨S2816x1024, .f32⟩
  | 3 => ⟨S35072x2816, .f32⟩
  | 4 => ⟨S35072x2816, .f32⟩
  | 5 => ⟨S35072x2816, .f32⟩
  | 6 => ⟨S_, .f32⟩
  | 7 => ⟨S35072x2816, .f32⟩
  | 8 => ⟨S35072x2816, .f32⟩
  | 9 => ⟨S_, .f32⟩
  | 10 => ⟨S35072x2816, .f32⟩
  | 11 => ⟨S35072x2816, .f32⟩
  | 12 => ⟨S35072x2816, .f32⟩
  | 13 => ⟨S35072x2816, .f32⟩
  | 14 => ⟨S35072x2816, .f32⟩
  | 15 => ⟨S35072x1024, .f32⟩
  | 16 => ⟨S35072x1024, .f32⟩
  | 17 => ⟨S35072x1024, .f32⟩
  | 18 => ⟨S35072x1024, .f32⟩
  | 19 => ⟨S35072x1, .f32⟩
  | 20 => ⟨S1x1024x2816, .f32⟩
  | 21 => ⟨S1024x2816, .f32⟩
  | 22 => ⟨S1x1024x2816, .f32⟩
  | 23 => ⟨S1024x2816, .f32⟩
  | 24 => ⟨S1x2816x1024, .f32⟩
  | 25 => ⟨S2816x1024, .f32⟩
  | 26 => ⟨S35072x2816, .f32⟩
  | 27 => ⟨S35072x2816, .f32⟩
  | 28 => ⟨S35072x2816, .f32⟩
  | 29 => ⟨S_, .f32⟩
  | 30 => ⟨S35072x2816, .f32⟩
  | 31 => ⟨S35072x2816, .f32⟩
  | 32 => ⟨S_, .f32⟩
  | 33 => ⟨S35072x2816, .f32⟩
  | 34 => ⟨S35072x2816, .f32⟩
  | 35 => ⟨S35072x2816, .f32⟩
  | 36 => ⟨S35072x2816, .f32⟩
  | 37 => ⟨S35072x2816, .f32⟩
  | 38 => ⟨S35072x1024, .f32⟩
  | 39 => ⟨S35072x1024, .f32⟩
  | 40 => ⟨S35072x1024, .f32⟩
  | 41 => ⟨S35072x1024, .f32⟩
  | 42 => ⟨S35072x1, .f32⟩
  | 43 => ⟨S1x1024x2816, .f32⟩
  | 44 => ⟨S1024x2816, .f32⟩
  | 45 => ⟨S1x1024x2816, .f32⟩
  | 46 => ⟨S1024x2816, .f32⟩
  | 47 => ⟨S1x2816x1024, .f32⟩
  | 48 => ⟨S2816x1024, .f32⟩
  | 49 => ⟨S35072x2816, .f32⟩
  | 50 => ⟨S35072x2816, .f32⟩
  | 51 => ⟨S35072x2816, .f32⟩
  | 52 => ⟨S_, .f32⟩
  | 53 => ⟨S35072x2816, .f32⟩
  | 54 => ⟨S35072x2816, .f32⟩
  | 55 => ⟨S_, .f32⟩
  | 56 => ⟨S35072x2816, .f32⟩
  | 57 => ⟨S35072x2816, .f32⟩
  | 58 => ⟨S35072x2816, .f32⟩
  | 59 => ⟨S35072x2816, .f32⟩
  | 60 => ⟨S35072x2816, .f32⟩
  | 61 => ⟨S35072x1024, .f32⟩
  | 62 => ⟨S35072x1024, .f32⟩
  | 63 => ⟨S35072x1024, .f32⟩
  | 64 => ⟨S35072x1024, .f32⟩
  | 65 => ⟨S35072x1, .f32⟩
  | 66 => ⟨S1x1024x2816, .f32⟩
  | 67 => ⟨S1024x2816, .f32⟩
  | 68 => ⟨S1x1024x2816, .f32⟩
  | 69 => ⟨S1024x2816, .f32⟩
  | 70 => ⟨S1x2816x1024, .f32⟩
  | 71 => ⟨S2816x1024, .f32⟩
  | 72 => ⟨S35072x2816, .f32⟩
  | 73 => ⟨S35072x2816, .f32⟩
  | 74 => ⟨S35072x2816, .f32⟩
  | 75 => ⟨S_, .f32⟩
  | 76 => ⟨S35072x2816, .f32⟩
  | 77 => ⟨S35072x2816, .f32⟩
  | 78 => ⟨S_, .f32⟩
  | 79 => ⟨S35072x2816, .f32⟩
  | 80 => ⟨S35072x2816, .f32⟩
  | 81 => ⟨S35072x2816, .f32⟩
  | 82 => ⟨S35072x2816, .f32⟩
  | 83 => ⟨S35072x2816, .f32⟩
  | 84 => ⟨S35072x1024, .f32⟩
  | 85 => ⟨S35072x1024, .f32⟩
  | 86 => ⟨S35072x1024, .f32⟩
  | 87 => ⟨S35072x1024, .f32⟩
  | 88 => ⟨S35072x1, .f32⟩
  | 89 => ⟨S1x1024x2816, .f32⟩
  | 90 => ⟨S1024x2816, .f32⟩
  | 91 => ⟨S1x1024x2816, .f32⟩
  | 92 => ⟨S1024x2816, .f32⟩
  | 93 => ⟨S1x2816x1024, .f32⟩
  | 94 => ⟨S2816x1024, .f32⟩
  | 95 => ⟨S35072x2816, .f32⟩
  | 96 => ⟨S35072x2816, .f32⟩
  | 97 => ⟨S35072x2816, .f32⟩
  | 98 => ⟨S_, .f32⟩
  | 99 => ⟨S35072x2816, .f32⟩
  | 100 => ⟨S35072x2816, .f32⟩
  | 101 => ⟨S_, .f32⟩
  | 102 => ⟨S35072x2816, .f32⟩
  | 103 => ⟨S35072x2816, .f32⟩
  | 104 => ⟨S35072x2816, .f32⟩
  | 105 => ⟨S35072x2816, .f32⟩
  | 106 => ⟨S35072x2816, .f32⟩
  | 107 => ⟨S35072x1024, .f32⟩
  | 108 => ⟨S35072x1024, .f32⟩
  | 109 => ⟨S35072x1024, .f32⟩
  | 110 => ⟨S35072x1024, .f32⟩
  | 111 => ⟨S35072x1024, .bf16⟩
  | _ => ⟨S35072x1024, .f32⟩

abbrev hbmTy (i : Nat) : BufTy := match i / 128 with
  | 0 => hbmTy0_0 i
  | 1 => hbmTy0_1 i
  | _ => ⟨S35072x1024, .f32⟩

abbrev bufTy : (tb : Table) → Fin (tcTables nBuf tb) → BufTy
  | .hbm, ⟨i, _⟩ => hbmTy i
  | _, _ => ⟨S35072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_call1_call0_c : Ref sig .tc := ⟨.hbm, 36, rfl⟩
abbrev main_call1_call0_v0 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_3 : Ref sig .tc := ⟨.hbm, 45, rfl⟩
abbrev main_v18 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v19 : Ref sig .tc := ⟨.hbm, 52, rfl⟩
abbrev main_cst : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_call3_v0 : Ref sig .tc := ⟨.hbm, 63, rfl⟩
abbrev main_call3_v1 : Ref sig .tc := ⟨.hbm, 64, rfl⟩
abbrev main_call3_cst : Ref sig .tc := ⟨.hbm, 65, rfl⟩
abbrev main_call3_v2 : Ref sig .tc := ⟨.hbm, 66, rfl⟩
abbrev main_call3_v3 : Ref sig .tc := ⟨.hbm, 67, rfl⟩
abbrev main_call3_cst_0 : Ref sig .tc := ⟨.hbm, 68, rfl⟩
abbrev main_call3_v4 : Ref sig .tc := ⟨.hbm, 69, rfl⟩
abbrev main_call3_v5 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_call4_v0 : Ref sig .tc := ⟨.hbm, 86, rfl⟩
abbrev main_call4_v1 : Ref sig .tc := ⟨.hbm, 87, rfl⟩
abbrev main_call4_cst : Ref sig .tc := ⟨.hbm, 88, rfl⟩
abbrev main_call4_v2 : Ref sig .tc := ⟨.hbm, 89, rfl⟩
abbrev main_call4_v3 : Ref sig .tc := ⟨.hbm, 90, rfl⟩
abbrev main_call4_cst_0 : Ref sig .tc := ⟨.hbm, 91, rfl⟩
abbrev main_call4_v4 : Ref sig .tc := ⟨.hbm, 92, rfl⟩
abbrev main_call4_v5 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_call5_v0 : Ref sig .tc := ⟨.hbm, 109, rfl⟩
abbrev main_call5_v1 : Ref sig .tc := ⟨.hbm, 110, rfl⟩
abbrev main_call5_cst : Ref sig .tc := ⟨.hbm, 111, rfl⟩
abbrev main_call5_v2 : Ref sig .tc := ⟨.hbm, 112, rfl⟩
abbrev main_call5_v3 : Ref sig .tc := ⟨.hbm, 113, rfl⟩
abbrev main_call5_cst_0 : Ref sig .tc := ⟨.hbm, 114, rfl⟩
abbrev main_call5_v4 : Ref sig .tc := ⟨.hbm, 115, rfl⟩
abbrev main_call5_v5 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_call6_v0 : Ref sig .tc := ⟨.hbm, 132, rfl⟩
abbrev main_call6_v1 : Ref sig .tc := ⟨.hbm, 133, rfl⟩
abbrev main_call6_cst : Ref sig .tc := ⟨.hbm, 134, rfl⟩
abbrev main_call6_v2 : Ref sig .tc := ⟨.hbm, 135, rfl⟩
abbrev main_call6_v3 : Ref sig .tc := ⟨.hbm, 136, rfl⟩
abbrev main_call6_cst_0 : Ref sig .tc := ⟨.hbm, 137, rfl⟩
abbrev main_call6_v4 : Ref sig .tc := ⟨.hbm, 138, rfl⟩
abbrev main_call6_v5 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_call7_v0 : Ref sig .tc := ⟨.hbm, 155, rfl⟩
abbrev main_call7_v1 : Ref sig .tc := ⟨.hbm, 156, rfl⟩
abbrev main_call7_cst : Ref sig .tc := ⟨.hbm, 157, rfl⟩
abbrev main_call7_v2 : Ref sig .tc := ⟨.hbm, 158, rfl⟩
abbrev main_call7_v3 : Ref sig .tc := ⟨.hbm, 159, rfl⟩
abbrev main_call7_cst_0 : Ref sig .tc := ⟨.hbm, 160, rfl⟩
abbrev main_call7_v4 : Ref sig .tc := ⟨.hbm, 161, rfl⟩
abbrev main_call7_v5 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_call8_v0 : Ref sig .tc := ⟨.hbm, 178, rfl⟩
abbrev main_call8_v1 : Ref sig .tc := ⟨.hbm, 179, rfl⟩
abbrev main_call8_cst : Ref sig .tc := ⟨.hbm, 180, rfl⟩
abbrev main_call8_v2 : Ref sig .tc := ⟨.hbm, 181, rfl⟩
abbrev main_call8_v3 : Ref sig .tc := ⟨.hbm, 182, rfl⟩
abbrev main_call8_cst_0 : Ref sig .tc := ⟨.hbm, 183, rfl⟩
abbrev main_call8_v4 : Ref sig .tc := ⟨.hbm, 184, rfl⟩
abbrev main_call8_v5 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_call9_v0 : Ref sig .tc := ⟨.hbm, 201, rfl⟩
abbrev main_call9_v1 : Ref sig .tc := ⟨.hbm, 202, rfl⟩
abbrev main_call9_cst : Ref sig .tc := ⟨.hbm, 203, rfl⟩
abbrev main_call9_v2 : Ref sig .tc := ⟨.hbm, 204, rfl⟩
abbrev main_call9_v3 : Ref sig .tc := ⟨.hbm, 205, rfl⟩
abbrev main_call9_cst_0 : Ref sig .tc := ⟨.hbm, 206, rfl⟩
abbrev main_call9_v4 : Ref sig .tc := ⟨.hbm, 207, rfl⟩
abbrev main_call9_v5 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_call10_v0 : Ref sig .tc := ⟨.hbm, 224, rfl⟩
abbrev main_call10_v1 : Ref sig .tc := ⟨.hbm, 225, rfl⟩
abbrev main_call10_cst : Ref sig .tc := ⟨.hbm, 226, rfl⟩
abbrev main_call10_v2 : Ref sig .tc := ⟨.hbm, 227, rfl⟩
abbrev main_call10_v3 : Ref sig .tc := ⟨.hbm, 228, rfl⟩
abbrev main_call10_cst_0 : Ref sig .tc := ⟨.hbm, 229, rfl⟩
abbrev main_call10_v4 : Ref sig .tc := ⟨.hbm, 230, rfl⟩
abbrev main_call10_v5 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_v141 : Ref sig .tc := ⟨.hbm, 239, rfl⟩

abbrev nD : Nat := 1
abbrev τ : Topo := Topo.v7x

variable {F : FTy → Type} [FloatOps F]
-- ==== Dense.lean ====
abbrev S8x2048x1024 : Shape := ⟨3, ![8, 2048, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S1024 : Shape := ⟨1, ![1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩

abbrev nBuf : Space → Nat
  | .hbm => 16
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024x2816, .f32⟩
  | .hbm, ⟨6, _⟩ => ⟨S1024x2816, .bf16⟩
  | .hbm, ⟨7, _⟩ => ⟨S1024x2816, .f32⟩
  | .hbm, ⟨8, _⟩ => ⟨S1024x2816, .bf16⟩
  | .hbm, ⟨9, _⟩ => ⟨S2816x1024, .f32⟩
  | .hbm, ⟨10, _⟩ => ⟨S2816x1024, .bf16⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DenseReferenceIdeal.lean ====
abbrev S8x2048x1024 : Shape := ⟨3, ![8, 2048, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S8x2048x2816 : Shape := ⟨3, ![8, 2048, 2816]⟩
abbrev S16384x1024 : Shape := ⟨2, ![16384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S8x2048x2816, .f32⟩
  | .hbm, ⟨27, _⟩ => ⟨S8x2048x2816, .f32⟩
  | .hbm, ⟨28, _⟩ => ⟨S8x2048x2816, .f32⟩
  | .hbm, ⟨29, _⟩ => ⟨S_, .f32⟩
  | .hbm, ⟨30, _⟩ => ⟨S8x2048x2816, .f32⟩
  | .hbm, ⟨31, _⟩ => ⟨S8x2048x2816, .f32⟩
  | .hbm, ⟨32, _⟩ => ⟨S_, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S8x2048x1024, .f32⟩
  | .hbm, ⟨39, _⟩ => ⟨S8x2048x1024, .f32⟩
  | .hbm, ⟨40, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Project.lean ====
abbrev S8x2048x1024 : Shape := ⟨3, ![8, 2048, 1024]⟩
abbrev S2x1024 : Shape := ⟨2, ![2, 1024]⟩
abbrev S2x1024x6144 : Shape := ⟨3, ![2, 1024, 6144]⟩
abbrev S16384x1024 : Shape := ⟨2, ![16384, 1024]⟩
abbrev S1x1024 : Shape := ⟨2, ![1, 1024]⟩
abbrev S1024 : Shape := ⟨1, ![1024]⟩
abbrev S1x1024x6144 : Shape := ⟨3, ![1, 1024, 6144]⟩
abbrev S1024x6144 : Shape := ⟨2, ![1024, 6144]⟩
abbrev S16384x512 : Shape := ⟨2, ![16384, 512]⟩
abbrev S2x8x512x2048 : Shape := ⟨4, ![2, 8, 512, 2048]⟩
abbrev S16384x3072 : Shape := ⟨2, ![16384, 3072]⟩
abbrev S512x1024 : Shape := ⟨2, ![512, 1024]⟩
abbrev S512x512 : Shape := ⟨2, ![512, 512]⟩
abbrev S1x1x512x512 : Shape := ⟨4, ![1, 1, 512, 512]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩

abbrev nBuf : Space → Nat
  | .hbm => 16
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x6144, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S1x1024x6144, .f32⟩
  | .hbm, ⟨7, _⟩ => ⟨S1024x6144, .f32⟩
  | .hbm, ⟨8, _⟩ => ⟨S1024x6144, .bf16⟩
  | .hbm, ⟨9, _⟩ => ⟨S1x1024, .f32⟩
  | .hbm, ⟨10, _⟩ => ⟨S16384x512, .f32⟩
  | .hbm, ⟨11, _⟩ => ⟨S16384x512, .bf16⟩
  | .hbm, ⟨12, _⟩ => ⟨S2x8x512x2048, .f32⟩
  | .hbm, ⟨13, _⟩ => ⟨S2x8x512x2048, .f32⟩
  | .hbm, ⟨14, _⟩ => ⟨S16384x512, .f32⟩
  | .hbm, ⟨15, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S1x1x512x512, .f32⟩
  | .local _ .vmem, ⟨9, _⟩ => ⟨S1x1x512x512, .f32⟩
  | .local _ .vmem, ⟨10, _⟩ => ⟨S1x1x512x512, .f32⟩
  | .local _ .vmem, ⟨11, _⟩ => ⟨S1x1x512x512, .f32⟩
  | .local _ .vmem, ⟨12, _⟩ => ⟨S512x512, .f32⟩
  | .local _ .vmem, ⟨13, _⟩ => ⟨S512x512, .f32⟩
  | .local _ .vmem, ⟨14, _⟩ => ⟨S512x3072, .bf16⟩
  | .local _ .vmem, ⟨15, _⟩ => ⟨S512x3072, .bf16⟩
  | .local _ .vmem, ⟨16, _⟩ => ⟨S512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev main_v7_3 : Ref sig .tc := ⟨.hbm, 13, rfl⟩
abbrev main_v7_4 : Ref sig .tc := ⟨.hbm, 14, rfl⟩
abbrev main_v7_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ProjectReferenceIdeal.lean ====
abbrev S8x2048x1024 : Shape := ⟨3, ![8, 2048, 1024]⟩
abbrev S2x1024 : Shape := ⟨2, ![2, 1024]⟩
abbrev S2x1024x6144 : Shape := ⟨3, ![2, 1024, 6144]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x6144 : Shape := ⟨3, ![1, 1024, 6144]⟩
abbrev S1024x6144 : Shape := ⟨2, ![1024, 6144]⟩
abbrev S8x2048x6144 : Shape := ⟨3, ![8, 2048, 6144]⟩
abbrev S8x2048x512 : Shape := ⟨3, ![8, 2048, 512]⟩
abbrev S8x2048x3072 : Shape := ⟨3, ![8, 2048, 3072]⟩
abbrev S16384x512 : Shape := ⟨2, ![16384, 512]⟩
abbrev S8x512x2048 : Shape := ⟨3, ![8, 512, 2048]⟩
abbrev S2x8x512x2048 : Shape := ⟨4, ![2, 8, 512, 2048]⟩
abbrev S16384x3072 : Shape := ⟨2, ![16384, 3072]⟩

abbrev nBuf : Space → Nat
  | .hbm => 62
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x6144, .f32⟩
  | .hbm, ⟨3, _⟩ => ⟨S1x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1x1024x6144, .f32⟩
  | .hbm, ⟨22, _⟩ => ⟨S1024x6144, .f32⟩
  | .hbm, ⟨23, _⟩ => ⟨S8x2048x6144, .f32⟩
  | .hbm, ⟨24, _⟩ => ⟨S8x2048x1024, .f32⟩
  | .hbm, ⟨25, _⟩ => ⟨S8x2048x512, .f32⟩
  | .hbm, ⟨26, _⟩ => ⟨S8x2048x512, .f32⟩
  | .hbm, ⟨27, _⟩ => ⟨S8x2048x512, .f32⟩
  | .hbm, ⟨28, _⟩ => ⟨S8x2048x512, .f32⟩
  | .hbm, ⟨29, _⟩ => ⟨S8x2048x3072, .f32⟩
  | .hbm, ⟨30, _⟩ => ⟨S8x2048x512, .f32⟩
  | .hbm, ⟨31, _⟩ => ⟨S8x2048x512, .f32⟩
  | .hbm, ⟨32, _⟩ => ⟨S8x2048x512, .f32⟩
  | .hbm, ⟨33, _⟩ => ⟨S8x2048x512, .f32⟩
  | .hbm, ⟨34, _⟩ => ⟨S_, .f32⟩
  | .hbm, ⟨35, _⟩ => ⟨S8x2048x512, .f32⟩
  | .hbm, ⟨36, _⟩ => ⟨S8x2048x512, .f32⟩
  | .hbm, ⟨37, _⟩ => ⟨S_, .f32⟩
  | .hbm, ⟨38, _⟩ => ⟨S8x2048x512, .f32⟩
  | .hbm, ⟨39, _⟩ => ⟨S8x2048x512, .f32⟩
  | .hbm, ⟨40, _⟩ => ⟨S8x2048x512, .f32⟩
  | .hbm, ⟨41, _⟩ => ⟨S16384x512, .f32⟩
  | .hbm, ⟨42, _⟩ => ⟨S_, .f32⟩
  | .hbm, ⟨43, _⟩ => ⟨S8x2048x512, .f32⟩
  | .hbm, ⟨44, _⟩ => ⟨S8x2048x512, .f32⟩
  | .hbm, ⟨45, _⟩ => ⟨S16384x512, .f32⟩
  | .hbm, ⟨46, _⟩ => ⟨S16384x512, .bf16⟩
  | .hbm, ⟨47, _⟩ => ⟨S8x512x2048, .f32⟩
  | .hbm, ⟨48, _⟩ => ⟨S2x8x512x2048, .f32⟩
  | .hbm, ⟨49, _⟩ => ⟨S8x512x2048, .f32⟩
  | .hbm, ⟨50, _⟩ => ⟨S2x8x512x2048, .f32⟩
  | .hbm, ⟨51, _⟩ => ⟨S16384x512, .f32⟩
  | .hbm, ⟨52, _⟩ => ⟨S8x2048x3072, .f32⟩
  | .hbm, ⟨53, _⟩ => ⟨S8x2048x3072, .f32⟩
  | .hbm, ⟨54, _⟩ => ⟨S_, .f32⟩
  | .hbm, ⟨55, _⟩ => ⟨S8x2048x3072, .f32⟩
  | .hbm, ⟨56, _⟩ => ⟨S8x2048x3072, .f32⟩
  | .hbm, ⟨57, _⟩ => ⟨S_, .f32⟩
  | .hbm, ⟨58, _⟩ => ⟨S8x2048x3072, .f32⟩
  | .hbm, ⟨59, _⟩ => ⟨S8x2048x3072, .f32⟩
  | .hbm, ⟨60, _⟩ => ⟨S16384x3072, .f32⟩
  | .hbm, ⟨61, _⟩ => ⟨S16384x3072, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== Proof.Blocks.lean ====
/- The attention of one key block against one query block, for one head, as the kernel computes it: the functions
   every head's statements are instances of, and the recursion over the key blocks of a query block. -/
module

public import proofs.«01_k».proof.Proof.Gen.KernelIdeal.Loops
public import Idealize.ShloMosaic.Lib.WritesUnit
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]

/-! ## One block -/

/-- The scores of 256 keys (rows) against 256 queries (columns), with the head's bias. -/
def scores (b : F .f32) (kb qb : Vec F S1x256x64 .bf16) : FVec F S256x256 .f32 :=
  addf (matmul dot_S256x64_S256x64_S256x256_1_1_0_0_n_n none (shapeCast S256x64 kb shapeCasts_S1x256x64_S256x64)
    (shapeCast S256x64 qb shapeCasts_S1x256x64_S256x64) (constant S256x256 .f32 0x00000000#32)) (broadcast S256x256 b)

/-- The softplus of a score: `max z 0 + log (1 + 2 ^ (|z| · nlog2e))`. -/
def softplus (z : FVec F S256x256 .f32) : FVec F S256x256 .f32 :=
  addf (maximumf z (broadcast S256x256 (Scalar.ofBits .f32 0x00000000#32)))
    (log (addf (broadcast S256x256 (Scalar.ofBits .f32 0x3F800000#32))
      (exp2 (mulf (absf z) (broadcast S256x256 (Named.named κ "nlog2e" 0xBFB8AA3B#32))))))

/-- The sums over the block's keys from each key on: `tri` times the values. -/
def suffixSums (tri : FVec F S256x256 .bf16) (s : FVec F S256x256 .f32) : FVec F S256x256 .f32 :=
  matmul dot_S256x256_S256x256_S256x256_1_0_0_1_n_n none tri (truncf .bf16 s bitsLt_bf16_f32)
    (constant S256x256 .f32 0x00000000#32)

/-- The weights: the exponential of the score less the sums within the block and of the later blocks. -/
def weights (z cs : FVec F S256x256 .f32) (c : FVec F S1x256 .f32) : FVec F S256x256 .f32 :=
  exp (subf (subf z cs) (broadcastTo S256x256 c broadcasts_S1x256_S256x256))

/-- The block's weighted sum of the values. -/
def weighted (vb : Vec F S1x64x256 .bf16) (w : FVec F S256x256 .f32) : FVec F S64x256 .f32 :=
  matmul dot_S64x256_S256x256_S64x256_1_0_0_1_n_n none (shapeCast S64x256 vb shapeCasts_S1x64x256_S64x256)
    (truncf .bf16 w bitsLt_bf16_f32) (constant S64x256 .f32 0x00000000#32)

/-- The sums of the blocks from this one on: the later blocks' plus the block's whole sum (row 0). -/
def carryOn (c : FVec F S1x256 .f32) (cs : FVec F S256x256 .f32) : FVec F S1x256 .f32 :=
  addf c (extractStridedSlice S1x256 ![0, 0] cs slices_S256x256_o0_0_S1x256)

/-- No later blocks. -/
def noCarry : FVec F S1x256 .f32 := broadcast S1x256 (Scalar.ofBits .f32 0x00000000#32)

/-- A value where the key comes before the query, zero elsewhere. -/
def before (valid : IVec S256x256 1) (x : FVec F S256x256 .f32) : FVec F S256x256 .f32 :=
  select valid x (broadcast S256x256 (Scalar.ofBits .f32 0x00000000#32))

/-- A block's contribution as the accumulator's slab. -/
def slab (p : FVec F S64x256 .f32) : FVec F S1x64x256 .f32 := shapeCast S1x64x256 p shapeCasts_S64x256_S1x64x256

/-- The accumulator's slab with a block's contribution added. -/
def slabAdd (a : Vec F S1x64x256 .f32) (p : FVec F S64x256 .f32) : FVec F S1x64x256 .f32 :=
  slab (addf (shapeCast S64x256 a shapeCasts_S1x64x256_S64x256) p)

/-! ## The heads' slices of the blocks -/

theorem keys_inb : ∀ j h : Fin 8, ∀ a, (![j.val, 0, 64 * h.val] : Fin 3 → ℕ) a + S1x256x64.size a ≤ S8x256x512.size a := by decide
theorem queries_inb : ∀ j h : Fin 8, ∀ a, (![0, 256 * j.val, 64 * h.val] : Fin 3 → ℕ) a + S1x256x64.size a ≤ S1x2048x512.size a := by decide
theorem values_inb : ∀ j h : Fin 8, ∀ a, (![j.val, 64 * h.val, 0] : Fin 3 → ℕ) a + S1x64x256.size a ≤ S8x512x256.size a := by decide

/-- What a grid point's attention reads: the keys and the (transposed) values by blocks, the queries, the biases, where
    a key comes before a query within a block, and the triangle the sums are taken by. -/
structure Operands (F : FTy → Type) where
  K : S8x256x512.Idx → F .bf16
  V : S8x512x256.Idx → F .bf16
  Q : S1x2048x512.Idx → F .bf16
  bias : Fin 8 → F .f32
  valid : IVec S256x256 1
  tri : FVec F S256x256 .bf16

namespace Operands

variable (I : Operands F)

/-- Head `h`'s keys of block `j`. -/
def keys (j h : Fin 8) : Vec F S1x256x64 .bf16 := VecWindow.window I.K ![j.val, 0, 64 * h.val] S1x256x64.size (keys_inb j h)

/-- Head `h`'s queries of block `j`. -/
def queries (j h : Fin 8) : Vec F S1x256x64 .bf16 := VecWindow.window I.Q ![0, 256 * j.val, 64 * h.val] S1x256x64.size (queries_inb j h)

/-- Head `h`'s values of block `j`. -/
def values (j h : Fin 8) : Vec F S1x64x256 .bf16 := VecWindow.window I.V ![j.val, 64 * h.val, 0] S1x64x256.size (values_inb j h)

/-- Head `h`'s scores of key block `j` against query block `i`. -/
def z (h i j : Fin 8) : FVec F S256x256 .f32 := scores (I.bias h) (I.keys j h) (I.queries i h)

/-- The sums within a block strictly before the query block. -/
def cs (h i j : Fin 8) : FVec F S256x256 .f32 := suffixSums I.tri (softplus (I.z h i j))

/-- The sums within the query block's own keys. -/
def csDiag (h i : Fin 8) : FVec F S256x256 .f32 := suffixSums I.tri (before I.valid (softplus (I.z h i i)))

/-- The key block trip `n` of query block `i` is on: the blocks before `i`, backwards. -/
def back (i : Fin 8) (n : ℕ) : Fin 8 := ⟨i.val - 1 - n, by omega⟩

/-- After the query block's own keys and the `n` blocks before it: the sums carried and the accumulator's slab. -/
def state (h i : Fin 8) : ℕ → FVec F S1x256 .f32 × FVec F S1x64x256 .f32
  | 0 => (carryOn noCarry (I.csDiag h i),
      slab (weighted (I.values i h) (before I.valid (weights (I.z h i i) (I.csDiag h i) noCarry))))
  | n + 1 => (carryOn (state h i n).1 (I.cs h i (back i n)),
      slabAdd (state h i n).2 (weighted (I.values (back i n) h)
        (weights (I.z h i (back i n)) (I.cs h i (back i n)) (state h i n).1)))

end Operands

/-! ## Reading a query block's slabs back -/

/-- Where element `x` of head `h`'s slab of query block `i` lies in the accumulator. -/
def slabAt (i h : Fin 8) (x : S1x64x256.Idx) : S8x512x256.Idx :=
  (Rect.unit (s := S8x512x256) ![i.val, 64 * h.val, 0] S1x64x256.size (values_inb i h)).idx x

theorem slabAt_val (i h : Fin 8) (x : S1x64x256.Idx) (a : Fin 3) :
    (slabAt i h x a).val = (![i.val, 64 * h.val, 0] : Fin 3 → ℕ) a + (x a).val := by
  show (![i.val, 64 * h.val, 0] : Fin 3 → ℕ) a + 1 * (x a).val = _
  rw [Nat.one_mul]

section Pieces

variable {sig' : RefSig} {κ' : Kind} {sp : Space} (v : View sig' κ' sp S8x512x256 .f32) (f : v.ty.Contents (Elt F))

/-- The newest slab written, of head `h'`, read at head `h`'s place: its own payload or what was there. -/
theorem read_slab {i : Fin 8} (h' h : Fin 8) {off : Fin 3 → ℕ} (inb : ∀ a, off a + S1x64x256.size a ≤ S8x512x256.size a)
    (e : off = ![i.val, 64 * h'.val, 0]) (w : S1x64x256.Idx → F .f32) (L : List (View.Piece (Elt F) S8x512x256 .f32))
    (x : S1x64x256.Idx) :
    v.read (Elt F) (v.writes (Elt F) f ((⟨Rect.unit off S1x64x256.size inb, w⟩ : View.Piece (Elt F) S8x512x256 .f32) :: L)) (slabAt i h x)
      = if h' = h then w x else v.read (Elt F) (v.writes (Elt F) f L) (slabAt i h x) := by
  by_cases hh : h' = h
  · subst hh
    rw [if_pos rfl]
    exact View.read_writes_cons_unit_of_mem v f inb w L _ x e (slabAt_val i h' x)
  · rw [if_neg hh]
    have hx : (x 1).val < 64 := (x 1).isLt
    have h1 : (slabAt i h x 1).val = 64 * h.val + (x 1).val := slabAt_val i h x 1
    have hne : h'.val ≠ h.val := fun c => hh (Fin.ext c)
    refine View.read_writes_cons_unit_of_not_mem v f inb w L _ e 1 ?_
    rw [h1]
    show 64 * h.val + (x 1).val < 64 * h'.val ∨ 64 * h'.val + 64 ≤ 64 * h.val + (x 1).val
    omega

/-- A slab of query block `i` written, read at another query block: what was there. -/
theorem read_slab_ne {i : Fin 8} (h' : Fin 8) {off : Fin 3 → ℕ} (inb : ∀ a, off a + S1x64x256.size a ≤ S8x512x256.size a)
    (e : off = ![i.val, 64 * h'.val, 0]) (w : S1x64x256.Idx → F .f32) (L : List (View.Piece (Elt F) S8x512x256 .f32))
    (y : S8x512x256.Idx) (hy : (y 0).val ≠ i.val) :
    v.read (Elt F) (v.writes (Elt F) f ((⟨Rect.unit off S1x64x256.size inb, w⟩ : View.Piece (Elt F) S8x512x256 .f32) :: L)) y
      = v.read (Elt F) (v.writes (Elt F) f L) y := by
  refine View.read_writes_cons_unit_of_not_mem v f inb w L y e 0 ?_
  show (y 0).val < i.val ∨ i.val + 1 ≤ (y 0).val
  omega

/-- The eight heads' slabs of query block `i`, newest first. -/
abbrev slabs (o : Fin 8 → Fin 3 → ℕ) (inb : ∀ h a, o h a + S1x64x256.size a ≤ S8x512x256.size a)
    (w : Fin 8 → S1x64x256.Idx → F .f32) : List (View.Piece (Elt F) S8x512x256 .f32) :=
  [⟨Rect.unit (o 7) S1x64x256.size (inb 7), w 7⟩, ⟨Rect.unit (o 6) S1x64x256.size (inb 6), w 6⟩,
   ⟨Rect.unit (o 5) S1x64x256.size (inb 5), w 5⟩, ⟨Rect.unit (o 4) S1x64x256.size (inb 4), w 4⟩,
   ⟨Rect.unit (o 3) S1x64x256.size (inb 3), w 3⟩, ⟨Rect.unit (o 2) S1x64x256.size (inb 2), w 2⟩,
   ⟨Rect.unit (o 1) S1x64x256.size (inb 1), w 1⟩, ⟨Rect.unit (o 0) S1x64x256.size (inb 0), w 0⟩]

theorem read_slabs {i : Fin 8} (o : Fin 8 → Fin 3 → ℕ) (inb : ∀ h a, o h a + S1x64x256.size a ≤ S8x512x256.size a)
    (e : ∀ h, o h = ![i.val, 64 * h.val, 0]) (w : Fin 8 → S1x64x256.Idx → F .f32) (h : Fin 8) (x : S1x64x256.Idx) :
    v.read (Elt F) (v.writes (Elt F) f (slabs o inb w)) (slabAt i h x) = w h x := by
  rw [read_slab v f 7 h (inb 7) (e 7), read_slab v f 6 h (inb 6) (e 6), read_slab v f 5 h (inb 5) (e 5),
    read_slab v f 4 h (inb 4) (e 4), read_slab v f 3 h (inb 3) (e 3), read_slab v f 2 h (inb 2) (e 2),
    read_slab v f 1 h (inb 1) (e 1), read_slab v f 0 h (inb 0) (e 0)]
  fin_cases h <;> rfl

theorem read_slabs_ne {i : Fin 8} (o : Fin 8 → Fin 3 → ℕ) (inb : ∀ h a, o h a + S1x64x256.size a ≤ S8x512x256.size a)
    (e : ∀ h, o h = ![i.val, 64 * h.val, 0]) (w : Fin 8 → S1x64x256.Idx → F .f32) (y : S8x512x256.Idx) (hy : (y 0).val ≠ i.val) :
    v.read (Elt F) (v.writes (Elt F) f (slabs o inb w)) y = v.read (Elt F) f y := by
  rw [read_slab_ne v f 7 (inb 7) (e 7) _ _ y hy, read_slab_ne v f 6 (inb 6) (e 6) _ _ y hy,
    read_slab_ne v f 5 (inb 5) (e 5) _ _ y hy, read_slab_ne v f 4 (inb 4) (e 4) _ _ y hy,
    read_slab_ne v f 3 (inb 3) (e 3) _ _ y hy, read_slab_ne v f 2 (inb 2) (e 2) _ _ y hy,
    read_slab_ne v f 1 (inb 1) (e 1) _ _ y hy, read_slab_ne v f 0 (inb 0) (e 0) _ _ y hy]
  rfl

end Pieces

end Cert.Proof.KernelIdeal

end
-- ==== Proof.Loop.lean ====
/- The loop over the query blocks: what one trip of the inner loop (one key block before the query block) and one trip
   of the outer loop (one query block) do to the accumulator, and the outer loop's invariant. -/
module

public import proofs.«01_k».proof.Proof.Blocks
public import proofs.«01_k».proof.Proof.Gen.KernelIdeal.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ
/-- What the inner loop carries: each head's sum so far. -/
abbrev Carry (F : FTy → Type) [FloatOps F] : Type := FVec F S1x256 .f32 × FVec F S1x256 .f32 × FVec F S1x256 .f32 × FVec F S1x256 .f32 × FVec F S1x256 .f32 × FVec F S1x256 .f32 × FVec F S1x256 .f32 × FVec F S1x256 .f32

/-! ## The trips' offsets, head by head -/

theorem trips1 : k0_t1_loop.trips = 8 := by decide

/-- The query block an outer trip is on. -/
def row (t : Fin k0_t1_loop.trips) : Fin 8 := t.cast trips1

theorem trips2 : ∀ t : Fin k0_t1_loop.trips, (k0_t2_loop t).trips = t.val := by decide +kernel
theorem trips3 : ∀ t : Fin k0_t1_loop.trips, (k0_t3_loop t).trips = 0 := by decide +kernel

/-- The inner trip's offsets of the heads' keys, queries, values and accumulator slabs. -/
def offK (t : Fin k0_t1_loop.trips) (k : Fin (k0_t2_loop t).trips) : Fin 8 → Fin 3 → ℕ := ![k0_off26 t k, k0_off28 t k, k0_off30 t k, k0_off32 t k, k0_off34 t k, k0_off36 t k, k0_off38 t k, k0_off40 t k]
def offQ (t : Fin k0_t1_loop.trips) : Fin 8 → Fin 3 → ℕ := ![k0_off27 t, k0_off29 t, k0_off31 t, k0_off33 t, k0_off35 t, k0_off37 t, k0_off39 t, k0_off41 t]
def offV (t : Fin k0_t1_loop.trips) (k : Fin (k0_t2_loop t).trips) : Fin 8 → Fin 3 → ℕ := ![k0_off42 t k, k0_off43 t k, k0_off44 t k, k0_off45 t k, k0_off46 t k, k0_off47 t k, k0_off48 t k, k0_off49 t k]
def offA (t : Fin k0_t1_loop.trips) : Fin 8 → Fin 3 → ℕ := ![k0_off50 t, k0_off51 t, k0_off52 t, k0_off53 t, k0_off54 t, k0_off55 t, k0_off56 t, k0_off57 t]
/-- The outer trip's own offsets, for the query block's own keys. -/
def dOffK (t : Fin k0_t1_loop.trips) : Fin 8 → Fin 3 → ℕ := ![k0_off2 t, k0_off4 t, k0_off6 t, k0_off8 t, k0_off10 t, k0_off12 t, k0_off14 t, k0_off16 t]
def dOffQ (t : Fin k0_t1_loop.trips) : Fin 8 → Fin 3 → ℕ := ![k0_off3 t, k0_off5 t, k0_off7 t, k0_off9 t, k0_off11 t, k0_off13 t, k0_off15 t, k0_off17 t]
def dOffA (t : Fin k0_t1_loop.trips) : Fin 8 → Fin 3 → ℕ := ![k0_off18 t, k0_off19 t, k0_off20 t, k0_off21 t, k0_off22 t, k0_off23 t, k0_off24 t, k0_off25 t]

theorem offK_eq : ∀ (t : Fin k0_t1_loop.trips) (k : Fin (k0_t2_loop t).trips) (h : Fin 8), offK t k h = ![(Operands.back (row t) k.val).val, 0, 64 * h.val] := by decide +kernel
theorem offQ_eq : ∀ (t : Fin k0_t1_loop.trips) (h : Fin 8), offQ t h = ![0, 256 * (row t).val, 64 * h.val] := by decide +kernel
theorem offV_eq : ∀ (t : Fin k0_t1_loop.trips) (k : Fin (k0_t2_loop t).trips) (h : Fin 8), offV t k h = ![(Operands.back (row t) k.val).val, 64 * h.val, 0] := by decide +kernel
theorem offA_eq : ∀ (t : Fin k0_t1_loop.trips) (h : Fin 8), offA t h = ![(row t).val, 64 * h.val, 0] := by decide +kernel
theorem dOffK_eq : ∀ (t : Fin k0_t1_loop.trips) (h : Fin 8), dOffK t h = ![(row t).val, 0, 64 * h.val] := by decide +kernel
theorem dOffQ_eq : ∀ (t : Fin k0_t1_loop.trips) (h : Fin 8), dOffQ t h = ![0, 256 * (row t).val, 64 * h.val] := by decide +kernel
theorem dOffA_eq : ∀ (t : Fin k0_t1_loop.trips) (h : Fin 8), dOffA t h = ![(row t).val, 64 * h.val, 0] := by decide +kernel

theorem inbK {j h : Fin 8} {off : Fin 3 → ℕ} (e : off = ![j.val, 0, 64 * h.val]) : ∀ a, off a + S1x256x64.size a ≤ S8x256x512.size a := by
  subst e; exact keys_inb j h
theorem inbQ {j h : Fin 8} {off : Fin 3 → ℕ} (e : off = ![0, 256 * j.val, 64 * h.val]) : ∀ a, off a + S1x256x64.size a ≤ S1x2048x512.size a := by
  subst e; exact queries_inb j h
theorem inbV {j h : Fin 8} {off : Fin 3 → ℕ} (e : off = ![j.val, 64 * h.val, 0]) : ∀ a, off a + S1x64x256.size a ≤ S8x512x256.size a := by
  subst e; exact values_inb j h

/-! ## One inner trip -/

/-- Eight heads' values as the loop carries them, and back. -/
abbrev tuple (a : Fin 8 → FVec F S1x256 .f32) : Carry F := (a 0, a 1, a 2, a 3, a 4, a 5, a 6, a 7)
abbrev untuple (a : Carry F) : Fin 8 → FVec F S1x256 .f32 :=
  ![a.1, a.2.1, a.2.2.1, a.2.2.2.1, a.2.2.2.2.1, a.2.2.2.2.2.1, a.2.2.2.2.2.2.1, a.2.2.2.2.2.2.2]

theorem untuple_tuple (a : Fin 8 → FVec F S1x256 .f32) (h : Fin 8) : untuple (tuple a) h = a h := by
  fin_cases h <;> rfl

section Trips

variable (c : Dev nD) (i : grid0.Coords) (arg2 : Memref sig .tc .smem S8 .f32) (harg2 : arg2.IsWhole) (arg3 : Memref sig .tc .vmem S1x2048x512 .bf16) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x2048x512 .bf16) (harg6 : arg6.IsWhole) (arg7 : Memref sig .tc .vmem S8x256x512 .bf16) (harg7 : arg7.IsWhole) (arg8 : Memref sig .tc .vmem S8x512x256 .bf16) (harg8 : arg8.IsWhole) (arg9 : Memref sig .tc .vmem S8x512x256 .f32) (harg9 : arg9.IsWhole) (valid : IVec S256x256 1) (b : Fin 8 → F .f32)
  (X3 : BufTy.Contents (Elt F) arg3.view.ty) (X7 : BufTy.Contents (Elt F) arg7.view.ty) (X8 : BufTy.Contents (Elt F) arg8.view.ty)

/-- The operands as the buffers hold them. -/
def operands (arg3 : Memref sig .tc .vmem S1x2048x512 .bf16) (arg7 : Memref sig .tc .vmem S8x256x512 .bf16) (arg8 : Memref sig .tc .vmem S8x512x256 .bf16)
    (X3 : BufTy.Contents (Elt F) arg3.view.ty) (X7 : BufTy.Contents (Elt F) arg7.view.ty) (X8 : BufTy.Contents (Elt F) arg8.view.ty)
    (b : Fin 8 → F .f32) (valid : IVec S256x256 1) (tri : FVec F S256x256 .bf16) : Operands F :=
  ⟨arg7.view.read (Elt F) X7, arg8.view.read (Elt F) X8, arg3.view.read (Elt F) X3, b, valid, tri⟩

section

variable (tri : FVec F S256x256 .bf16)

theorem load_keys {j h : Fin 8} {off : Fin 3 → ℕ} (inb : ∀ a, off a + S1x256x64.size a ≤ S8x256x512.size a) (e : off = ![j.val, 0, 64 * h.val]) :
    arg7.view.readAt (Elt F) (Rect.unit (s := S8x256x512) off S1x256x64.size inb).toLoadRect X7 = (operands arg3 arg7 arg8 X3 X7 X8 b valid tri).keys j h :=
  View.readAt_unit arg7.view X7 inb e (keys_inb j h)

theorem load_queries {j h : Fin 8} {off : Fin 3 → ℕ} (inb : ∀ a, off a + S1x256x64.size a ≤ S1x2048x512.size a) (e : off = ![0, 256 * j.val, 64 * h.val]) :
    arg3.view.readAt (Elt F) (Rect.unit (s := S1x2048x512) off S1x256x64.size inb).toLoadRect X3 = (operands arg3 arg7 arg8 X3 X7 X8 b valid tri).queries j h :=
  View.readAt_unit arg3.view X3 inb e (queries_inb j h)

theorem load_values {j h : Fin 8} {off : Fin 3 → ℕ} (inb : ∀ a, off a + S1x64x256.size a ≤ S8x512x256.size a) (e : off = ![j.val, 64 * h.val, 0]) :
    arg8.view.readAt (Elt F) (Rect.unit (s := S8x512x256) off S1x64x256.size inb).toLoadRect X8 = (operands arg3 arg7 arg8 X3 X7 X8 b valid tri).values j h :=
  View.readAt_unit arg8.view X8 inb e (values_inb j h)

/-- A head's scores at an inner trip, on what the trip loads. -/
abbrev tripScores (t : Fin k0_t1_loop.trips) (k : Fin (k0_t2_loop t).trips) (h : Fin 8) : FVec F S256x256 .f32 :=
  scores (b h) (arg7.view.readAt (Elt F) (Rect.unit (s := S8x256x512) (offK t k h) S1x256x64.size (inbK (offK_eq t k h))).toLoadRect X7)
    (arg3.view.readAt (Elt F) (Rect.unit (s := S1x2048x512) (offQ t h) S1x256x64.size (inbQ (offQ_eq t h))).toLoadRect X3)

/-- An inner trip's carried sums: each head's plus the block's. -/
theorem trip_carry (t : Fin k0_t1_loop.trips) (n : BitVec 32) (k : Fin (k0_t2_loop t).trips) (a : Carry F) (f : BufTy.Contents (Elt F) arg9.view.ty) :
    tripR_k0_t2 (F := F) Variants.none c none i arg2 harg2 arg3 harg3 arg4 harg4 arg5 harg5 arg6 harg6 arg7 harg7 arg8 harg8 arg9 harg9 valid tri (b 0) (b 1) (b 2) (b 3) (b 4) (b 5) (b 6) (b 7) 0#32 1#32 t n X3 X7 X8 k a f
      = tuple fun h => carryOn (untuple a h) ((operands arg3 arg7 arg8 X3 X7 X8 b valid tri).cs h (row t) (Operands.back (row t) k.val)) := by
  have e : tripR_k0_t2 (F := F) Variants.none c none i arg2 harg2 arg3 harg3 arg4 harg4 arg5 harg5 arg6 harg6 arg7 harg7 arg8 harg8 arg9 harg9 valid tri (b 0) (b 1) (b 2) (b 3) (b 4) (b 5) (b 6) (b 7) 0#32 1#32 t n X3 X7 X8 k a f
      = tuple fun h => carryOn (untuple a h) (suffixSums tri (softplus (tripScores arg3 arg7 b X3 X7 t k h))) := by
    delta tripR_k0_t2 trip_k0_t2
    rfl
  rw [e]
  refine congrArg tuple (funext fun h => ?_)
  rw [tripScores, load_keys arg3 arg7 arg8 valid b X3 X7 X8 tri _ (offK_eq t k h), load_queries arg3 arg7 arg8 valid b X3 X7 X8 tri _ (offQ_eq t h)]
  rfl

/-- The slabs an inner trip leaves: each head's with the block's contribution added. -/
theorem trip_slabs (t : Fin k0_t1_loop.trips) (n : BitVec 32) (k : Fin (k0_t2_loop t).trips) (a : Carry F) (f : BufTy.Contents (Elt F) arg9.view.ty) :
    tripL_k0_t2 (F := F) Variants.none c none i arg2 harg2 arg3 harg3 arg4 harg4 arg5 harg5 arg6 harg6 arg7 harg7 arg8 harg8 arg9 harg9 valid tri (b 0) (b 1) (b 2) (b 3) (b 4) (b 5) (b 6) (b 7) 0#32 1#32 t n X3 X7 X8 k a f
      = slabs (offA t) (fun h => inbV (offA_eq t h)) fun h =>
          slabAdd (fun x => arg9.view.read (Elt F) f (slabAt (row t) h x))
            (weighted ((operands arg3 arg7 arg8 X3 X7 X8 b valid tri).values (Operands.back (row t) k.val) h)
              (weights ((operands arg3 arg7 arg8 X3 X7 X8 b valid tri).z h (row t) (Operands.back (row t) k.val))
                ((operands arg3 arg7 arg8 X3 X7 X8 b valid tri).cs h (row t) (Operands.back (row t) k.val)) (untuple a h))) := by
  have e : tripL_k0_t2 (F := F) Variants.none c none i arg2 harg2 arg3 harg3 arg4 harg4 arg5 harg5 arg6 harg6 arg7 harg7 arg8 harg8 arg9 harg9 valid tri (b 0) (b 1) (b 2) (b 3) (b 4) (b 5) (b 6) (b 7) 0#32 1#32 t n X3 X7 X8 k a f
      = slabs (offA t) (fun h => inbV (offA_eq t h)) fun h =>
          slabAdd (arg9.view.readAt (Elt F) (Rect.unit (s := S8x512x256) (offA t h) S1x64x256.size (inbV (offA_eq t h))).toLoadRect f)
            (weighted (arg8.view.readAt (Elt F) (Rect.unit (s := S8x512x256) (offV t k h) S1x64x256.size (inbV (offV_eq t k h))).toLoadRect X8)
              (weights (tripScores arg3 arg7 b X3 X7 t k h) (suffixSums tri (softplus (tripScores arg3 arg7 b X3 X7 t k h))) (untuple a h))) := by
    delta tripL_k0_t2 trip_k0_t2
    rfl
  rw [e]
  refine congrArg (slabs (offA t) fun h => inbV (offA_eq t h)) (funext fun h => ?_)
  rw [tripScores, load_keys arg3 arg7 arg8 valid b X3 X7 X8 tri _ (offK_eq t k h), load_queries arg3 arg7 arg8 valid b X3 X7 X8 tri _ (offQ_eq t h),
    load_values arg3 arg7 arg8 valid b X3 X7 X8 tri _ (offV_eq t k h),
    View.readAt_unit arg9.view f _ (offA_eq t h) (values_inb (row t) h)]
  rfl

/-- Before inner trip `n`: the carried sums, the query block's slabs, and the rest of the accumulator untouched. -/
theorem inner_state (t : Fin k0_t1_loop.trips) (m : BitVec 32) (G : BufTy.Contents (Elt F) arg9.view.ty)
    (hG : ∀ h x, arg9.view.read (Elt F) G (slabAt (row t) h x) = ((operands arg3 arg7 arg8 X3 X7 X8 b valid tri).state h (row t) 0).2 x)
    (n : ℕ) (hn : n ≤ (k0_t2_loop t).trips) :
    (st_k0_t2 (F := F) Variants.none c none i arg2 harg2 arg3 harg3 arg4 harg4 arg5 harg5 arg6 harg6 arg7 harg7 arg8 harg8 arg9 harg9 valid tri (b 0) (b 1) (b 2) (b 3) (b 4) (b 5) (b 6) (b 7) 0#32 1#32 t m X3 X7 X8 G
        (tuple fun h => ((operands arg3 arg7 arg8 X3 X7 X8 b valid tri).state h (row t) 0).1) n).1
      = tuple (fun h => ((operands arg3 arg7 arg8 X3 X7 X8 b valid tri).state h (row t) n).1)
    ∧ (∀ h x, arg9.view.read (Elt F) (arg9.view.writes (Elt F) G (st_k0_t2 (F := F) Variants.none c none i arg2 harg2 arg3 harg3 arg4 harg4 arg5 harg5 arg6 harg6 arg7 harg7 arg8 harg8 arg9 harg9 valid tri (b 0) (b 1) (b 2) (b 3) (b 4) (b 5) (b 6) (b 7) 0#32 1#32 t m X3 X7 X8 G
        (tuple fun h => ((operands arg3 arg7 arg8 X3 X7 X8 b valid tri).state h (row t) 0).1) n).2) (slabAt (row t) h x)
      = ((operands arg3 arg7 arg8 X3 X7 X8 b valid tri).state h (row t) n).2 x)
    ∧ (∀ y : S8x512x256.Idx, (y 0).val ≠ (row t).val → arg9.view.read (Elt F) (arg9.view.writes (Elt F) G (st_k0_t2 (F := F) Variants.none c none i arg2 harg2 arg3 harg3 arg4 harg4 arg5 harg5 arg6 harg6 arg7 harg7 arg8 harg8 arg9 harg9 valid tri (b 0) (b 1) (b 2) (b 3) (b 4) (b 5) (b 6) (b 7) 0#32 1#32 t m X3 X7 X8 G
        (tuple fun h => ((operands arg3 arg7 arg8 X3 X7 X8 b valid tri).state h (row t) 0).1) n).2) y
      = arg9.view.read (Elt F) G y) := by
  induction n with
  | zero => exact ⟨rfl, hG, fun _ _ => rfl⟩
  | succ n ih =>
    obtain ⟨hc, hs, hr⟩ := ih (Nat.le_of_succ_le hn)
    rw [st_k0_t2_succ (F := F) Variants.none c none i arg2 harg2 arg3 harg3 arg4 harg4 arg5 harg5 arg6 harg6 arg7 harg7 arg8 harg8 arg9 harg9 valid tri (b 0) (b 1) (b 2) (b 3) (b 4) (b 5) (b 6) (b 7) 0#32 1#32 t m X3 X7 X8 G _ ⟨n, hn⟩]
    dsimp only
    rw [View.writes_append, trip_carry, trip_slabs, hc]
    refine ⟨by simp only [untuple_tuple]; rfl, fun h x => ?_, fun y hy => ?_⟩
    · rw [read_slabs _ _ _ _ (offA_eq t)]
      rw [untuple_tuple, show (fun x => arg9.view.read (Elt F) _ (slabAt (row t) h x)) = _ from funext fun x => hs h x]
      rfl
    · rw [read_slabs_ne _ _ _ _ (offA_eq t) _ y hy]
      exact hr y hy

end

end Trips

end Cert.Proof.KernelIdeal

end
-- ==== Proof.Outer.lean ====
/- The outer loop over the query blocks: one trip, and the invariant. -/
module

public import proofs.«01_k».proof.Proof.Loop

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What the outer loop holds: the queries, the key and value scratch, and the accumulator. -/
abbrev Res (c : Dev nD) (arg3 : Memref sig .tc .vmem S1x2048x512 .bf16) (arg7 : Memref sig .tc .vmem S8x256x512 .bf16) (arg8 : Memref sig .tc .vmem S8x512x256 .bf16) (arg9 : Memref sig .tc .vmem S8x512x256 .f32)
    (X3 : BufTy.Contents (Elt F) arg3.view.ty) (X7 : BufTy.Contents (Elt F) arg7.view.ty) (X8 : BufTy.Contents (Elt F) arg8.view.ty) (f9 : BufTy.Contents (Elt F) arg9.view.ty) : sProp 𝕄G :=
  iprop((arg3.view.loc (c : Thread nD τ) ↦[arg3.view.set]{fullShare} X3) ∗ (arg7.view.loc (c : Thread nD τ) ↦[arg7.view.set]{fullShare} X7)
    ∗ (arg8.view.loc (c : Thread nD τ) ↦[arg8.view.set]{fullShare} X8) ∗ (arg9.view.loc (c : Thread nD τ) ↦[arg9.view.set]{fullShare} f9))

/-- One trip of the outer loop: the pieces it leaves on the accumulator. -/
@[irreducible] def trip (c : Dev nD) (i : grid0.Coords) (arg2 : Memref sig .tc .smem S8 .f32) (harg2 : arg2.IsWhole) (arg3 : Memref sig .tc .vmem S1x2048x512 .bf16) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x2048x512 .bf16) (harg6 : arg6.IsWhole) (arg7 : Memref sig .tc .vmem S8x256x512 .bf16) (harg7 : arg7.IsWhole) (arg8 : Memref sig .tc .vmem S8x512x256 .bf16) (harg8 : arg8.IsWhole) (arg9 : Memref sig .tc .vmem S8x512x256 .f32) (harg9 : arg9.IsWhole) (arg1 : BitVec 32) (v106 : IVec S256x256 1) (v109 : FVec F S256x256 .f32) (v114 : Elt F .f32) (v118 : Elt F .f32) (v122 : Elt F .f32) (v126 : Elt F .f32) (v130 : Elt F .f32) (v134 : Elt F .f32) (v138 : Elt F .f32) (v142 : Elt F .f32)
    (X3 : BufTy.Contents (Elt F) arg3.view.ty) (X7 : BufTy.Contents (Elt F) arg7.view.ty) (X8 : BufTy.Contents (Elt F) arg8.view.ty) (k : Fin k0_t1_loop.trips) :
    { L : BufTy.Contents (Elt F) arg9.view.ty → List (View.Piece (Elt F) S8x512x256 .f32) //
      ∀ (E : Set ℕ) (f9 : BufTy.Contents (Elt F) arg9.view.ty), Res (F := F) c arg3 arg7 arg8 arg9 X3 X7 X8 f9
        ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg1 v106 v109 v114 v118 v122 v126 v130 v134 v138 v142 k ())
          (fun _ => Res (F := F) c arg3 arg7 arg8 arg9 X3 X7 X8 (arg9.view.writes (Elt F) f9 (L f9))) } := by
  refine ⟨?_, fun E f9 => ?run⟩
  case run =>
    unfold k0_t1_body
    iintro ⟨H3, H7, H8, H9⟩
    sl_exec
    sl_step
    sl_close

section Trip

variable (c : Dev nD) (i : grid0.Coords) (arg2 : Memref sig .tc .smem S8 .f32) (harg2 : arg2.IsWhole) (arg3 : Memref sig .tc .vmem S1x2048x512 .bf16) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x2048x512 .bf16) (harg6 : arg6.IsWhole) (arg7 : Memref sig .tc .vmem S8x256x512 .bf16) (harg7 : arg7.IsWhole) (arg8 : Memref sig .tc .vmem S8x512x256 .bf16) (harg8 : arg8.IsWhole) (arg9 : Memref sig .tc .vmem S8x512x256 .f32) (harg9 : arg9.IsWhole) (arg1 : BitVec 32) (v106 : IVec S256x256 1) (v109 : FVec F S256x256 .f32) (v114 : Elt F .f32) (v118 : Elt F .f32) (v122 : Elt F .f32) (v126 : Elt F .f32) (v130 : Elt F .f32) (v134 : Elt F .f32) (v138 : Elt F .f32) (v142 : Elt F .f32)
  (X3 : BufTy.Contents (Elt F) arg3.view.ty) (X7 : BufTy.Contents (Elt F) arg7.view.ty) (X8 : BufTy.Contents (Elt F) arg8.view.ty)

/-- A head's scores of the query block's own keys, on what the trip loads. -/
abbrev diagScores (t : Fin k0_t1_loop.trips) (h : Fin 8) : FVec F S256x256 .f32 :=
  scores (![v114, v118, v122, v126, v130, v134, v138, v142] h) (arg7.view.readAt (Elt F) (Rect.unit (s := S8x256x512) (dOffK t h) S1x256x64.size (inbK (dOffK_eq t h))).toLoadRect X7)
    (arg3.view.readAt (Elt F) (Rect.unit (s := S1x2048x512) (dOffQ t h) S1x256x64.size (inbQ (dOffQ_eq t h))).toLoadRect X3)

abbrev diagSums (t : Fin k0_t1_loop.trips) (h : Fin 8) : FVec F S256x256 .f32 :=
  suffixSums (k0_pay210 v109) (before v106 (softplus (diagScores arg3 arg7 v114 v118 v122 v126 v130 v134 v138 v142 X3 X7 t h)))

abbrev diagPieces (t : Fin k0_t1_loop.trips) : List (View.Piece (Elt F) S8x512x256 .f32) :=
  slabs (dOffA t) (fun h => inbV (dOffA_eq t h)) fun h => slab (weighted
    (arg8.view.readAt (Elt F) (Rect.unit (s := S8x512x256) (dOffA t h) S1x64x256.size (inbV (dOffA_eq t h))).toLoadRect X8)
    (before v106 (weights (diagScores arg3 arg7 v114 v118 v122 v126 v130 v134 v138 v142 X3 X7 t h) (diagSums arg3 arg7 v106 v109 v114 v118 v122 v126 v130 v134 v138 v142 X3 X7 t h) noCarry)))

/-- The trip's pieces: those of the key blocks before, on top of those of the query block's own keys. -/
theorem trip_pieces (t : Fin k0_t1_loop.trips) (f9 : BufTy.Contents (Elt F) arg9.view.ty) :
    ∃ m, (trip (F := F) c i arg2 harg2 arg3 harg3 arg4 harg4 arg5 harg5 arg6 harg6 arg7 harg7 arg8 harg8 arg9 harg9 arg1 v106 v109 v114 v118 v122 v126 v130 v134 v138 v142 X3 X7 X8 t).1 f9
      = (st_k0_t2 (F := F) Variants.none c none i arg2 harg2 arg3 harg3 arg4 harg4 arg5 harg5 arg6 harg6 arg7 harg7 arg8 harg8 arg9 harg9 v106 (k0_pay210 v109) v114 v118 v122 v126 v130 v134 v138 v142 0#32 1#32 t m X3 X7 X8
          (arg9.view.writes (Elt F) f9 (diagPieces arg3 arg7 arg8 v106 v109 v114 v118 v122 v126 v130 v134 v138 v142 X3 X7 X8 t))
          (tuple fun h => carryOn noCarry (diagSums arg3 arg7 v106 v109 v114 v118 v122 v126 v130 v134 v138 v142 X3 X7 t h)) (k0_t2_loop t).trips).2
        ++ diagPieces arg3 arg7 arg8 v106 v109 v114 v118 v122 v126 v130 v134 v138 v142 X3 X7 X8 t := by
  refine ⟨Scf.iv 0#32 1#32 t.val, ?_⟩
  delta trip
  dsimp only
  rw [show Scf.trips (Scalar.addi 0#32 (Scalar.muli (Scalar.divsi (Scalar.subi (Scf.iv 0#32 1#32 t.val) 0#32) 1#32) 1#32)) (Scalar.addi 0#32 (Scalar.subi (Scf.iv 0#32 1#32 t.val) 0#32)) 1#32 = 0 from trips3 t]
  rfl

/-- After the trip: the query block's slabs hold the attention over all its keys, the others what they held. -/
theorem trip_reads (t : Fin k0_t1_loop.trips) (f9 : BufTy.Contents (Elt F) arg9.view.ty) :
    (∀ h x, arg9.view.read (Elt F) (arg9.view.writes (Elt F) f9 ((trip (F := F) c i arg2 harg2 arg3 harg3 arg4 harg4 arg5 harg5 arg6 harg6 arg7 harg7 arg8 harg8 arg9 harg9 arg1 v106 v109 v114 v118 v122 v126 v130 v134 v138 v142 X3 X7 X8 t).1 f9)) (slabAt (row t) h x)
      = ((operands arg3 arg7 arg8 X3 X7 X8 ![v114, v118, v122, v126, v130, v134, v138, v142] v106 (k0_pay210 v109)).state h (row t) t.val).2 x)
    ∧ (∀ y : S8x512x256.Idx, (y 0).val ≠ (row t).val →
        arg9.view.read (Elt F) (arg9.view.writes (Elt F) f9 ((trip (F := F) c i arg2 harg2 arg3 harg3 arg4 harg4 arg5 harg5 arg6 harg6 arg7 harg7 arg8 harg8 arg9 harg9 arg1 v106 v109 v114 v118 v122 v126 v130 v134 v138 v142 X3 X7 X8 t).1 f9)) y = arg9.view.read (Elt F) f9 y) := by
  obtain ⟨m, e⟩ := trip_pieces c i arg2 harg2 arg3 harg3 arg4 harg4 arg5 harg5 arg6 harg6 arg7 harg7 arg8 harg8 arg9 harg9 arg1 v106 v109 v114 v118 v122 v126 v130 v134 v138 v142 X3 X7 X8 t f9
  rw [e, View.writes_append]
  have hd : ∀ h, diagSums arg3 arg7 v106 v109 v114 v118 v122 v126 v130 v134 v138 v142 X3 X7 t h = (operands arg3 arg7 arg8 X3 X7 X8 ![v114, v118, v122, v126, v130, v134, v138, v142] v106 (k0_pay210 v109)).csDiag h (row t) := fun h => by
    rw [diagSums, diagScores, load_keys arg3 arg7 arg8 v106 ![v114, v118, v122, v126, v130, v134, v138, v142] X3 X7 X8 (k0_pay210 v109) _ (dOffK_eq t h),
      load_queries arg3 arg7 arg8 v106 ![v114, v118, v122, v126, v130, v134, v138, v142] X3 X7 X8 (k0_pay210 v109) _ (dOffQ_eq t h)]
    rfl
  have hc : (tuple fun h => carryOn noCarry (diagSums arg3 arg7 v106 v109 v114 v118 v122 v126 v130 v134 v138 v142 X3 X7 t h))
      = tuple fun h => ((operands arg3 arg7 arg8 X3 X7 X8 ![v114, v118, v122, v126, v130, v134, v138, v142] v106 (k0_pay210 v109)).state h (row t) 0).1 := congrArg tuple (funext fun h => by rw [hd]; rfl)
  rw [hc]
  have hs := inner_state c i arg2 harg2 arg3 harg3 arg4 harg4 arg5 harg5 arg6 harg6 arg7 harg7 arg8 harg8 arg9 harg9 v106 ![v114, v118, v122, v126, v130, v134, v138, v142] X3 X7 X8 (k0_pay210 v109) t m
    (arg9.view.writes (Elt F) f9 (diagPieces arg3 arg7 arg8 v106 v109 v114 v118 v122 v126 v130 v134 v138 v142 X3 X7 X8 t))
    (fun h x => by
      rw [read_slabs _ _ _ _ (dOffA_eq t), hd, diagScores,
        load_keys arg3 arg7 arg8 v106 ![v114, v118, v122, v126, v130, v134, v138, v142] X3 X7 X8 (k0_pay210 v109) _ (dOffK_eq t h),
        load_queries arg3 arg7 arg8 v106 ![v114, v118, v122, v126, v130, v134, v138, v142] X3 X7 X8 (k0_pay210 v109) _ (dOffQ_eq t h),
        load_values arg3 arg7 arg8 v106 ![v114, v118, v122, v126, v130, v134, v138, v142] X3 X7 X8 (k0_pay210 v109) _ (dOffA_eq t h)]
      rfl) _ le_rfl
  refine ⟨fun h x => (hs.2.1 h x).trans ?_, fun y hy => (hs.2.2 y hy).trans (read_slabs_ne _ _ _ _ (dOffA_eq t) _ y hy)⟩
  rw [trips2]

end Trip

theorem slabAt_zero (i h : Fin 8) (x : S1x64x256.Idx) : (slabAt i h x 0).val = i.val := by
  rw [slabAt_val]
  have : (x 0).val = 0 := Nat.lt_one_iff.mp (x 0).isLt
  rw [this]; rfl

/-- The outer loop's invariant: the query blocks done so far hold their attention. -/
@[sl_loop] noncomputable def loopInv (c : Dev nD) (i : grid0.Coords) (arg2 : Memref sig .tc .smem S8 .f32) (harg2 : arg2.IsWhole) (arg3 : Memref sig .tc .vmem S1x2048x512 .bf16) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x2048x512 .bf16) (harg6 : arg6.IsWhole) (arg7 : Memref sig .tc .vmem S8x256x512 .bf16) (harg7 : arg7.IsWhole) (arg8 : Memref sig .tc .vmem S8x512x256 .bf16) (harg8 : arg8.IsWhole) (arg9 : Memref sig .tc .vmem S8x512x256 .f32) (harg9 : arg9.IsWhole) (X3 : BufTy.Contents (Elt F) arg3.view.ty) (X7 : BufTy.Contents (Elt F) arg7.view.ty) (X8 : BufTy.Contents (Elt F) arg8.view.ty) (arg1 : BitVec 32) (v106 : IVec S256x256 1) (v109 : FVec F S256x256 .f32) (v114 : Elt F .f32) (v118 : Elt F .f32) (v122 : Elt F .f32) (v126 : Elt F .f32) (v130 : Elt F .f32) (v134 : Elt F .f32) (v138 : Elt F .f32) (v142 : Elt F .f32) :
    LoopInvTy_k0_t1 (F := F) Unit ℕ (UR sig nD τ) ℕ Variants.none c none Set.univ i arg2 harg2 arg3 harg3 arg4 harg4 arg5 harg5 arg6 harg6 arg7 harg7 arg8 harg8 arg9 harg9 arg1 v106 v109 v114 v118 v122 v126 v130 v134 v138 v142 where
  inv := fun k _ => iprop(∃ f9 : BufTy.Contents (Elt F) arg9.view.ty, Res (F := F) c arg3 arg7 arg8 arg9 X3 X7 X8 f9
    ∗ ⌜∀ qi : Fin 8, qi.val < k → ∀ h x, arg9.view.read (Elt F) f9 (slabAt qi h x) = ((operands arg3 arg7 arg8 X3 X7 X8 ![v114, v118, v122, v126, v130, v134, v138, v142] v106 (k0_pay210 v109)).state h qi qi.val).2 x⌝)
  step := fun k acc => by
    cases acc
    have post (f9 : BufTy.Contents (Elt F) arg9.view.ty)
        (hf : ∀ qi : Fin 8, qi.val < k.val → ∀ h x, arg9.view.read (Elt F) f9 (slabAt qi h x) = ((operands arg3 arg7 arg8 X3 X7 X8 ![v114, v118, v122, v126, v130, v134, v138, v142] v106 (k0_pay210 v109)).state h qi qi.val).2 x) :
        ∀ qi : Fin 8, qi.val < k.val + 1 → ∀ h x, arg9.view.read (Elt F) (arg9.view.writes (Elt F) f9 ((trip (F := F) c i arg2 harg2 arg3 harg3 arg4 harg4 arg5 harg5 arg6 harg6 arg7 harg7 arg8 harg8 arg9 harg9 arg1 v106 v109 v114 v118 v122 v126 v130 v134 v138 v142 X3 X7 X8 k).1 f9)) (slabAt qi h x)
          = ((operands arg3 arg7 arg8 X3 X7 X8 ![v114, v118, v122, v126, v130, v134, v138, v142] v106 (k0_pay210 v109)).state h qi qi.val).2 x := fun qi hqi h x => by
      by_cases e : qi = row k
      · subst e
        exact (trip_reads c i arg2 harg2 arg3 harg3 arg4 harg4 arg5 harg5 arg6 harg6 arg7 harg7 arg8 harg8 arg9 harg9 arg1 v106 v109 v114 v118 v122 v126 v130 v134 v138 v142 X3 X7 X8 k f9).1 h x
      · have hne : qi.val ≠ (row k).val := fun h => e (Fin.ext h)
        have hk : (row k).val = k.val := rfl
        rw [(trip_reads c i arg2 harg2 arg3 harg3 arg4 harg4 arg5 harg5 arg6 harg6 arg7 harg7 arg8 harg8 arg9 harg9 arg1 v106 v109 v114 v118 v122 v126 v130 v134 v138 v142 X3 X7 X8 k f9).2 (slabAt qi h x) (by rw [slabAt_zero]; exact hne)]
        exact hf qi (by omega) h x
    iintro ⟨%f9, HR, %hf⟩
    iapply (((trip (F := F) c i arg2 harg2 arg3 harg3 arg4 harg4 arg5 harg5 arg6 harg6 arg7 harg7 arg8 harg8 arg9 harg9 arg1 v106 v109 v114 v118 v122 v126 v130 v134 v138 v142 X3 X7 X8 k).2 Set.univ f9).trans (wp_mono _ _ _ fun _ => by
      iintro HR
      iexists _
      iframe HR
      ipureintro
      exact post f9 hf)) $$ HR

end Cert.Proof.KernelIdeal

end
-- ==== Proof.Copies.lean ====
/- What the body keeps in its scratch buffers, and what it leaves as its result, element by element. -/
module

public import proofs.«01_k».proof.Proof.Outer
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The keys by blocks, from the keys of a batch row as the call takes them (features by positions). -/
def keyBlocks (x : Vec F S1x1x512x2048 .f32) : Vec F S8x256x512 .bf16 := fun y =>
  FloatOps.truncf .bf16 bitsLt_bf16_f32 (x (ix4 0 0 (y 2) ⟨256 * (y 0).val + (y 1).val, by have h0 : (y 0).val < 8 := (y 0).isLt; have h1 : (y 1).val < 256 := (y 1).isLt; omega⟩))

/-- The transposed values by blocks. -/
def valueBlocks (x : Vec F S1x1x512x2048 .f32) : Vec F S8x512x256 .bf16 := fun y =>
  FloatOps.truncf .bf16 bitsLt_bf16_f32 (x (ix4 0 0 (y 1) ⟨256 * (y 0).val + (y 2).val, by have h0 : (y 0).val < 8 := (y 0).isLt; have h1 : (y 2).val < 256 := (y 2).isLt; omega⟩))

/-- Where a key comes before a query within a block. -/
def keyFirst : IVec S256x256 1 := cmpi .slt (iota .tc S256x256 32 [0] iota_S256x256_d0_w32) (iota .tc S256x256 32 [1] iota_S256x256_d1_w32)

/-- One where a key does not come before the row's key, zero elsewhere. -/
def triangle : FVec F S256x256 .bf16 :=
  truncf .bf16 (sitofp .f32 (extui 32 (cmpi .sge (iota .tc S256x256 32 [1] iota_S256x256_d1_w32) (iota .tc S256x256 32 [0] iota_S256x256_d0_w32)) natLt_1_32)) bitsLt_bf16_f32

/-- What a grid point's attention reads, from the four blocks the call brings. -/
def pointOperands (x2 : Vec F S8 .f32) (x3 : Vec F S1x2048x512 .bf16) (x4 x5 : Vec F S1x1x512x2048 .f32) : Operands F :=
  ⟨keyBlocks x4, valueBlocks x5, x3, fun h => x2 (ix1 h), keyFirst, triangle⟩

/-- The block a grid point leaves: position `t`, feature `64 h + d` is head `h`'s accumulator of query block `t / 256`. -/
def attnBlock (I : Operands F) : Vec F S1x2048x512 .bf16 := fun y =>
  have ht : (y 1).val < 2048 := (y 1).isLt
  have ha : (y 2).val < 512 := (y 2).isLt
  FloatOps.truncf .bf16 bitsLt_bf16_f32
    ((I.state ⟨(y 2).val / 64, by omega⟩ ⟨(y 1).val / 256, by omega⟩ ((y 1).val / 256)).2 (ix3 0 ⟨(y 2).val % 64, by omega⟩ ⟨(y 1).val % 256, by omega⟩))

theorem cols_inb : ∀ j : Fin 8, ∀ a, (![0, 0, 0, 256 * j.val] : Fin 4 → ℕ) a + S1x1x512x256.size a ≤ S1x1x512x2048.size a := by decide
theorem keyRows_inb : ∀ j : Fin 8, ∀ a, (![j.val, 0, 0] : Fin 3 → ℕ) a + S1x256x512.size a ≤ S8x256x512.size a := by decide
theorem valueRows_inb : ∀ j : Fin 8, ∀ a, (![j.val, 0, 0] : Fin 3 → ℕ) a + S1x512x256.size a ≤ S8x512x256.size a := by decide
theorem out_inb : ∀ j : Fin 8, ∀ a, (![0, 256 * j.val, 0] : Fin 3 → ℕ) a + S1x256x512.size a ≤ S1x2048x512.size a := by decide

section

variable {sp : Space} (v : View sig .tc sp S1x1x512x2048 .f32) (X : v.ty.Contents (Elt F))

/-- The store of a key block. -/
abbrev keyPiece (j : Fin 8) : View.Piece (Elt F) S8x256x512 .bf16 :=
  ⟨Rect.unit (s := S8x256x512) ![j.val, 0, 0] S1x256x512.size (keyRows_inb j),
    shapeCast S1x256x512 (truncf .bf16 (transpose S256x512 [1, 0] (shapeCast S512x256
      (v.readAt (Elt F) (Rect.unit (s := S1x1x512x2048) ![0, 0, 0, 256 * j.val] S1x1x512x256.size (cols_inb j)).toLoadRect X)
      shapeCasts_S1x1x512x256_S512x256) transposes_S512x256_p1_0_S256x512) bitsLt_bf16_f32) shapeCasts_S256x512_S1x256x512⟩

/-- The store of a value block. -/
abbrev valuePiece (j : Fin 8) : View.Piece (Elt F) S8x512x256 .bf16 :=
  ⟨Rect.unit (s := S8x512x256) ![j.val, 0, 0] S1x512x256.size (valueRows_inb j),
    shapeCast S1x512x256 (truncf .bf16 (shapeCast S512x256
      (v.readAt (Elt F) (Rect.unit (s := S1x1x512x2048) ![0, 0, 0, 256 * j.val] S1x1x512x256.size (cols_inb j)).toLoadRect X)
      shapeCasts_S1x1x512x256_S512x256) bitsLt_bf16_f32) shapeCasts_S512x256_S1x512x256⟩

end

/-- The store of a query block's result. -/
abbrev outPiece {sp : Space} (v : View sig .tc sp S8x512x256 .f32) (X : v.ty.Contents (Elt F)) (j : Fin 8) : View.Piece (Elt F) S1x2048x512 .bf16 :=
  ⟨Rect.unit (s := S1x2048x512) ![0, 256 * j.val, 0] S1x256x512.size (out_inb j),
    shapeCast S1x256x512 (truncf .bf16 (transpose S256x512 [1, 0] (shapeCast S512x256
      (v.readAt (Elt F) (Rect.unit (s := S8x512x256) ![j.val, 0, 0] S1x512x256.size (valueRows_inb j)).toLoadRect X)
      shapeCasts_S1x512x256_S512x256) transposes_S512x256_p1_0_S256x512) bitsLt_bf16_f32) shapeCasts_S256x512_S1x256x512⟩

/-- The eight stores of a straight run, the newest first. -/
abbrev eight {s : Shape} {e : EltTy} (f : Fin 8 → View.Piece (Elt F) s e) : List (View.Piece (Elt F) s e) := [f 7, f 6, f 5, f 4, f 3, f 2, f 1, f 0]

theorem mem_eight {s : Shape} {e : EltTy} (f : Fin 8 → View.Piece (Elt F) s e) (j : Fin 8) : f j ∈ eight f := by
  match j with
  | 0 | 1 | 2 | 3 | 4 | 5 | 6 | 7 => simp [eight]

theorem eight_forall {s : Shape} {e : EltTy} {f : Fin 8 → View.Piece (Elt F) s e} {P : View.Piece (Elt F) s e → Prop} (h : ∀ j, P (f j)) :
    ∀ p ∈ eight f, P p := by
  intro p hp
  simp only [eight, List.mem_cons, List.not_mem_nil, or_false] at hp
  rcases hp with rfl | rfl | rfl | rfl | rfl | rfl | rfl | rfl <;> exact h _

theorem keyCopy_apply (w : Vec F S1x1x512x256 .f32) (x : S1x256x512.Idx) :
    shapeCast S1x256x512 (truncf (F := F) (φ := .f32) .bf16 (transpose S256x512 [1, 0] (shapeCast S512x256 w shapeCasts_S1x1x512x256_S512x256) transposes_S512x256_p1_0_S256x512)
      bitsLt_bf16_f32) shapeCasts_S256x512_S1x256x512 x = FloatOps.truncf .bf16 bitsLt_bf16_f32 (w (ix4 0 0 (x 2) (x 1))) := by
  pointwise

theorem valueCopy_apply (w : Vec F S1x1x512x256 .f32) (x : S1x512x256.Idx) :
    shapeCast S1x512x256 (truncf (F := F) (φ := .f32) .bf16 (shapeCast S512x256 w shapeCasts_S1x1x512x256_S512x256)
      bitsLt_bf16_f32) shapeCasts_S512x256_S1x512x256 x = FloatOps.truncf .bf16 bitsLt_bf16_f32 (w (ix4 0 0 (x 1) (x 2))) := by
  pointwise

theorem outCopy_apply (w : Vec F S1x512x256 .f32) (x : S1x256x512.Idx) :
    shapeCast S1x256x512 (truncf (F := F) (φ := .f32) .bf16 (transpose S256x512 [1, 0] (shapeCast S512x256 w shapeCasts_S1x512x256_S512x256) transposes_S512x256_p1_0_S256x512)
      bitsLt_bf16_f32) shapeCasts_S256x512_S1x256x512 x = FloatOps.truncf .bf16 bitsLt_bf16_f32 (w (ix3 0 (x 2) (x 1))) := by
  pointwise

theorem keyPiece_apply {sp : Space} (v : View sig .tc sp S1x1x512x2048 .f32) (X : v.ty.Contents (Elt F)) (j : Fin 8) (x : S1x256x512.Idx) :
    (keyPiece v X j).2 x = keyBlocks (v.read (Elt F) X) ((keyPiece v X j).1.emb x) := by
  refine (keyCopy_apply _ x).trans (congrArg (fun y => FloatOps.truncf .bf16 bitsLt_bf16_f32 (v.read (Elt F) X y)) ?_)
  have h0 : (x 0).val = 0 := Nat.lt_one_iff.mp (x 0).isLt
  refine funext fun a => Fin.ext ?_
  fin_cases a
  · show 0 + 1 * 0 = 0
    rfl
  · show 0 + 1 * 0 = 0
    rfl
  · show 0 + 1 * (x 2).val = 0 + 1 * (x 2).val
    rfl
  · show 256 * j.val + 1 * (x 1).val = 256 * (j.val + 1 * (x 0).val) + (0 + 1 * (x 1).val)
    omega

theorem valuePiece_apply {sp : Space} (v : View sig .tc sp S1x1x512x2048 .f32) (X : v.ty.Contents (Elt F)) (j : Fin 8) (x : S1x512x256.Idx) :
    (valuePiece v X j).2 x = valueBlocks (v.read (Elt F) X) ((valuePiece v X j).1.emb x) := by
  refine (valueCopy_apply _ x).trans (congrArg (fun y => FloatOps.truncf .bf16 bitsLt_bf16_f32 (v.read (Elt F) X y)) ?_)
  have h0 : (x 0).val = 0 := Nat.lt_one_iff.mp (x 0).isLt
  refine funext fun a => Fin.ext ?_
  fin_cases a
  · show 0 + 1 * 0 = 0
    rfl
  · show 0 + 1 * 0 = 0
    rfl
  · show 0 + 1 * (x 1).val = 0 + 1 * (x 1).val
    rfl
  · show 256 * j.val + 1 * (x 2).val = 256 * (j.val + 1 * (x 0).val) + (0 + 1 * (x 2).val)
    omega

/-- The slab that holds feature `a` of position `t` of a query block. -/
theorem slabAt_of (j : Fin 8) (a : Fin 512) (t : Fin 256) :
    slabAt j ⟨a.val / 64, by omega⟩ (ix3 0 ⟨a.val % 64, by omega⟩ t) = (ix3 j a t : S8x512x256.Idx) := by
  refine funext fun d => Fin.ext ?_
  rw [slabAt_val]
  fin_cases d
  · show j.val + 0 = j.val
    rfl
  · show 64 * (a.val / 64) + a.val % 64 = a.val
    omega
  · show 0 + t.val = t.val
    omega

theorem outPiece_apply {sp : Space} (v : View sig .tc sp S8x512x256 .f32) (X : v.ty.Contents (Elt F)) (I : Operands F)
    (hX : ∀ qi h x, v.read (Elt F) X (slabAt qi h x) = (I.state h qi qi.val).2 x) (j : Fin 8) (x : S1x256x512.Idx) :
    (outPiece v X j).2 x = attnBlock I ((outPiece v X j).1.emb x) := by
  have h1 : (x 1).val < 256 := (x 1).isLt
  have h2 : (x 2).val < 512 := (x 2).isLt
  have e1 : (((outPiece v X j).1.emb x) 1).val = 256 * j.val + (x 1).val := by
    show 256 * j.val + 1 * (x 1).val = _
    omega
  have e2 : (((outPiece v X j).1.emb x) 2).val = (x 2).val := by
    show 0 + 1 * (x 2).val = _
    omega
  have q : v.readAt (Elt F) (Rect.unit (s := S8x512x256) ![j.val, 0, 0] S1x512x256.size (valueRows_inb j)).toLoadRect X (ix3 0 (x 2) (x 1))
      = (I.state ⟨(x 2).val / 64, by omega⟩ j j.val).2 (ix3 0 ⟨(x 2).val % 64, by omega⟩ (x 1)) := by
    rw [← hX, slabAt_of j (x 2) (x 1)]
    show v.read (Elt F) X _ = _
    refine congrArg (v.read (Elt F) X) (funext fun d => Fin.ext ?_)
    fin_cases d
    · show j.val + 1 * 0 = j.val
      omega
    · show 0 + 1 * (x 2).val = (x 2).val
      omega
    · show 0 + 1 * (x 1).val = (x 1).val
      omega
  refine (outCopy_apply _ x).trans (congrArg (FloatOps.truncf .bf16 bitsLt_bf16_f32) (q.trans ?_))
  have e3 : (256 * j.val + (x 1).val) / 256 = j.val := by omega
  have e4 : (256 * j.val + (x 1).val) % 256 = (x 1).val := by omega
  simp only [e1, e2, e3, e4]
  rfl

/-- The key scratch read back. -/
theorem read_keys {sp sp' : Space} (w : View sig .tc sp' S8x256x512 .bf16) (f : w.ty.Contents (Elt F)) (v : View sig .tc sp S1x1x512x2048 .f32) (X : v.ty.Contents (Elt F)) :
    w.read (Elt F) (w.writes (Elt F) f (eight (keyPiece v X))) = keyBlocks (v.read (Elt F) X) := funext fun y =>
  View.read_writes_apply_of_pieces w f (keyBlocks (v.read (Elt F) X)) _ (eight_forall fun j x => keyPiece_apply v X j x) y
    (View.cover_of_tiled (eight (keyPiece v X)) ![1, 256, 512] (by rfl) y)

/-- The value scratch read back. -/
theorem read_values {sp sp' : Space} (w : View sig .tc sp' S8x512x256 .bf16) (f : w.ty.Contents (Elt F)) (v : View sig .tc sp S1x1x512x2048 .f32) (X : v.ty.Contents (Elt F)) :
    w.read (Elt F) (w.writes (Elt F) f (eight (valuePiece v X))) = valueBlocks (v.read (Elt F) X) := funext fun y =>
  View.read_writes_apply_of_pieces w f (valueBlocks (v.read (Elt F) X)) _ (eight_forall fun j x => valuePiece_apply v X j x) y
    (View.cover_of_tiled (eight (valuePiece v X)) ![1, 512, 256] (by rfl) y)

/-- The result block read back. -/
theorem read_out {sp sp' : Space} (w : View sig .tc sp' S1x2048x512 .bf16) (f : w.ty.Contents (Elt F)) (v : View sig .tc sp S8x512x256 .f32) (X : v.ty.Contents (Elt F)) (I : Operands F)
    (hX : ∀ qi h x, v.read (Elt F) X (slabAt qi h x) = (I.state h qi qi.val).2 x) :
    w.read (Elt F) (w.writes (Elt F) f (eight (outPiece v X))) = attnBlock I := funext fun y =>
  View.read_writes_apply_of_pieces w f (attnBlock I) _ (eight_forall fun j x => outPiece_apply v X I hX j x) y
    (View.cover_of_tiled (eight (outPiece v X)) ![1, 256, 512] (by rfl) y)

end Cert.Proof.KernelIdeal

end
-- ==== Proof.Body.lean ====
/- The body of the attention kernel: what it leaves in its result's buffer. -/
module

public import proofs.«01_k».proof.Proof.Copies

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

theorem bias_at (i : grid0.Coords) (arg2 : Memref sig .tc .smem S8 .f32) (X2 : BufTy.Contents (Elt F) arg2.view.ty) (h : Fin 8)
    {off : Fin 1 → ℕ} (inb : ∀ a, off a + S1.size a ≤ S8.size a) (e : off = ![8 * (i 1).val + h.val]) (p : 0 < S1.numel) :
    arg2.view.readAt (Elt F) (Rect.unit (s := S8) off S1.size inb).toLoadRect X2 (Shape.Idx.first p) = arg2.view.read (Elt F) X2 (ix1 h) := by
  subst e
  refine congrArg (arg2.view.read (Elt F) X2) (funext fun a => Fin.ext ?_)
  have h1 : (i 1).val = 0 := Nat.lt_one_iff.mp (i 1).isLt
  fin_cases a
  show 8 * (i 1).val + h.val + 1 * 0 = h.val
  omega

/-- One grid point: from the call's blocks, the block of the result. -/
theorem body_run (c : Dev nD) (i : grid0.Coords) (arg2 : Memref sig .tc .smem S8 .f32) (harg2 : arg2.IsWhole) (arg3 : Memref sig .tc .vmem S1x2048x512 .bf16) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x2048x512 .bf16) (harg6 : arg6.IsWhole) (arg7 : Memref sig .tc .vmem S8x256x512 .bf16) (harg7 : arg7.IsWhole) (arg8 : Memref sig .tc .vmem S8x512x256 .bf16) (harg8 : arg8.IsWhole) (arg9 : Memref sig .tc .vmem S8x512x256 .f32) (harg9 : arg9.IsWhole)
    (X2 : BufTy.Contents (Elt F) arg2.view.ty) (X3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9))
    ⊢ wp frame (wpE (defs₀ (F := F)) Variants.none (c : Thread nD τ) none) Set.univ (cc0_attn_prompt (F := F) i arg2 harg2 arg3 harg3 arg4 harg4 arg5 harg5 arg6 harg6 arg7 harg7 arg8 harg8 arg9 harg9) (fun _ =>
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5)
      ∗ (∃ g6 : BufTy.Contents (Elt F) arg6.view.ty, ⌜arg6.view.read (Elt F) g6 = attnBlock (pointOperands (arg2.view.read (Elt F) X2) (arg3.view.read (Elt F) X3) (arg4.view.read (Elt F) X4) (arg5.view.read (Elt F) X5))⌝
          ∗ (arg6.view.loc (c : Thread nD τ) ↦[arg6.view.set]{fullShare} g6))
      ∗ (∃ g7 : BufTy.Contents (Elt F) arg7.view.ty, arg7.view.loc (c : Thread nD τ) ↦[arg7.view.set]{fullShare} g7)
      ∗ (∃ g8 : BufTy.Contents (Elt F) arg8.view.ty, arg8.view.loc (c : Thread nD τ) ↦[arg8.view.set]{fullShare} g8)
      ∗ (∃ g9 : BufTy.Contents (Elt F) arg9.view.ty, arg9.view.loc (c : Thread nD τ) ↦[arg9.view.set]{fullShare} g9)) : sProp 𝕄G)) := by
  iintro ⟨H2, H3, H4, H5, H6, H7, H8, H9⟩
  unfold cc0_attn_prompt
  sl_exec
  sl_step
  have hI : operands arg3 arg7 arg8 X3 (arg7.view.writes (Elt F) arg7.view.junk (body_run.sl.H7_8 arg4 X4)) (arg8.view.writes (Elt F) arg8.view.junk (body_run.sl.H8_8 arg5 X5))
      ![body_run.sl.r i arg2 X2, body_run.sl.r_1 i arg2 X2, body_run.sl.r_2 i arg2 X2, body_run.sl.r_3 i arg2 X2, body_run.sl.r_4 i arg2 X2, body_run.sl.r_5 i arg2 X2, body_run.sl.r_6 i arg2 X2, body_run.sl.r_7 i arg2 X2]
      (cmpi .slt body_run.sl.v104 body_run.sl.v105) (k0_pay210 body_run.sl.v109)
      = pointOperands (arg2.view.read (Elt F) X2) (arg3.view.read (Elt F) X3) (arg4.view.read (Elt F) X4) (arg5.view.read (Elt F) X5) := by
    have hb : ![body_run.sl.r i arg2 X2, body_run.sl.r_1 i arg2 X2, body_run.sl.r_2 i arg2 X2, body_run.sl.r_3 i arg2 X2, body_run.sl.r_4 i arg2 X2, body_run.sl.r_5 i arg2 X2, body_run.sl.r_6 i arg2 X2, body_run.sl.r_7 i arg2 X2]
        = fun h => arg2.view.read (Elt F) X2 (ix1 h) := funext fun h => by
      match h with
      | ⟨0, _⟩ => exact bias_at i arg2 X2 0 _ (k0_off1_eq i 0) _
      | ⟨1, _⟩ => exact bias_at i arg2 X2 1 _ (k0_off1_eq i 1) _
      | ⟨2, _⟩ => exact bias_at i arg2 X2 2 _ (k0_off1_eq i 2) _
      | ⟨3, _⟩ => exact bias_at i arg2 X2 3 _ (k0_off1_eq i 3) _
      | ⟨4, _⟩ => exact bias_at i arg2 X2 4 _ (k0_off1_eq i 4) _
      | ⟨5, _⟩ => exact bias_at i arg2 X2 5 _ (k0_off1_eq i 5) _
      | ⟨6, _⟩ => exact bias_at i arg2 X2 6 _ (k0_off1_eq i 6) _
      | ⟨7, _⟩ => exact bias_at i arg2 X2 7 _ (k0_off1_eq i 7) _
    rw [hb]
    show (⟨arg7.view.read (Elt F) (arg7.view.writes (Elt F) arg7.view.junk (eight (keyPiece arg4.view X4))),
      arg8.view.read (Elt F) (arg8.view.writes (Elt F) arg8.view.junk (eight (valuePiece arg5.view X5))),
      arg3.view.read (Elt F) X3, fun h => arg2.view.read (Elt F) X2 (ix1 h), keyFirst, triangle⟩ : Operands F) = _
    rw [read_keys, read_values]
    rfl
  iframe H2
  iframe H3
  iframe H4
  iframe H5
  isplitl [H6]
  · iexists _
    isplitr
    swap
    · iexact H6
    · ipureintro
      exact read_out arg6.view f6 arg9.view f9L0 _ (fun qi h x => by rw [hL4 qi (lt_of_lt_of_eq qi.isLt trips1.symm) h x, hI])
  isplitl [H7]
  · iexists _
    iexact H7
  isplitl [H8]
  · iexists _
    iexact H8
  iexists _
  iexact H9

end Cert.Proof.KernelIdeal

end
-- ==== Proof.Run.lean ====
/- The run of the attention kernel: every grid point's block, and the launch. -/
module

public import proofs.«01_k».proof.Proof.Body
public import proofs.«01_k».proof.Proof.Gen.KernelIdeal.Frame
public import Idealize.ShloMosaic.Lib.Pipeline.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- The block point `t` leaves of the result: the attention of its batch row. -/
def leaves (c : Dev nD) (t : Fin cfg0.N) : Vec F S1x2048x512 .bf16 :=
  attnBlock (pointOperands (iblk m c 0 t) (iblk m c 1 t) (iblk m c 2 t) (iblk m c 3 t))

/-- The proof data of core `c`: the arrays as the region finds them, each input's block left in place, the result's block
    as the point computes it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => leaves m c t
  Φ _ := Pipeline.ΦA spec0 c
  q _ := fullShare
  owed _ := 0

set_option maxHeartbeats 1000000 in
/-- The body at a grid point, in the pipeline's terms. -/
theorem body_obligation (c : Dev nD) : BodyObligation (dats m 0 c) (defs₀ (F := F)) Variants.none () Set.univ := fun t => by
  rw [bigSep_W0, bigSep_W0]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA
  rw [scopedRest0_eq]
  unfold owns
  iintro ⟨⟨⟨⟨%f7, H7⟩, ⟨%f8, H8⟩, ⟨%f9, H9⟩⟩, Hg⟩, Howes, ⟨%d0, %f0, %hf0, H0⟩, ⟨%d1, %f1, %hf1, H1⟩, ⟨%d2, %f2, %hf2, H2⟩, ⟨%d3, %f3, %hf3, H3⟩, ⟨%d4, %f4, -, H4⟩⟩
  rw [before0_0_of m (dats m 0 c) rfl (fun _ => rfl)] at hf0
  rw [before0_1_of m (dats m 0 c) rfl (fun _ => rfl)] at hf1
  rw [before0_2_of m (dats m 0 c) rfl (fun _ => rfl)] at hf2
  rw [before0_3_of m (dats m 0 c) rfl (fun _ => rfl)] at hf3
  iapply (wp_wand_r frame _ Set.univ)
  isplitl [H0 H1 H2 H3 H4 H7 H8 H9]
  · iapply (body_run c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
      (Memref.whole cc0_scratch0) (Memref.isWhole_whole _) (Memref.whole cc0_scratch1) (Memref.isWhole_whole _) (Memref.whole cc0_scratch2) (Memref.isWhole_whole _)
      f0 f1 f2 f3 f4 f7 f8 f9)
    isplitl [H0]; · iexact H0
    isplitl [H1]; · iexact H1
    isplitl [H2]; · iexact H2
    isplitl [H3]; · iexact H3
    isplitl [H4]; · iexact H4
    simp only [Memref.view_whole, View.set_whole]
    isplitl [H7]; · iexact H7
    isplitl [H8]; · iexact H8
    iexact H9
  iintro %u ⟨H0, H1, H2, H3, ⟨%g4, %hg4, H4⟩, ⟨%g7, H7⟩, ⟨%g8, H8⟩, ⟨%g9, H9⟩⟩
  simp only [Memref.view_whole, View.set_whole]
  isplitl [H7 H8 H9 Hg]
  · isplitr [Hg]
    · isplitl [H7]; · iexists g7; iexact H7
      isplitl [H8]; · iexists g8; iexact H8
      iexists g9; iexact H9
    · iexact Hg
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  iexists g4; isplitr; swap; (· iexact H4)
  ipureintro
  refine hg4.trans ?_
  rw [hf0, hf1, hf2, hf3]
  rfl

/-- At the compiled mesh, from any memory with zero counters: every weakly fair execution terminates, the arrays hold what
    the grid points left in them, the other buffers what they held, every counter reads zero. -/
theorem run_main : θ_run defs (onTc (τ := τ) (main (F := F))) (s₀ m ρ) (fun r => Pipeline.FramePost cfgs (dats m) 0 (V m) r ∧ r.2.sem = fun _ => 0) :=
  Pipeline.θ_run_frame cfgs (dats m) 0 launch0 defs₀ Variants.none m ρ main
    (hbody := fun c => (body_obligation m c).loose) (hshare := fun c w => by unfold Dat.share; split <;> rfl) (howed := fun _ _ => rfl)
    (V := V m) (hmain := hmain m Variants.none) (hA := fun _ _ => rfl) (hΦ := fun _ _ => rfl) (Q' := _)

/-- After the run an argument no window stages holds what it held, a staged one as well. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine ⟨?_, ?_, ?_, ?_⟩
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).1 0).trans (((dats m 0 c).arrAt_in 0 rfl _).trans (V_main_arg3 m c))

/-- The result array after the run: the write-backs of every grid point. -/
theorem result_of (r : PUnit × MemSt nD τ sig (Elt F)) (h : Pipeline.FramePost cfgs (dats m) 0 (V m) r) (c : Dev nD) :
    r.2.mem ((c.tc : Thread nD τ).loc main_v8) = (dats m 0 c).arrAt 4 cfg0.N := (h c).1 4

/-- The frame, over any float values. -/
theorem frame_main : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0) :=
  (θ_run defs _ _).mono (fun r h => ⟨args_kept m r h.1, h.2⟩) (run_main m ρ)

end Cert.Proof.KernelIdeal

end
-- ==== Proof.Frames.lean ====
/- The frames of the kernel, over the extended reals and over the words, from the one run. -/
module

public import proofs.«01_k».proof.Proof.Run
public import proofs.«01_k».proof.Proof.Gen.Kernel
public import proofs.«01_k».proof.Defs

@[expose] public section

set_option maxRecDepth 16384

noncomputable section

namespace Cert.Proof

open Idealize.ShloMosaic Idealize.SL.Sem

/-- Over the words a named constant is its word: the idealized program is then the kernel itself. -/
local instance namedWord : Named Bits where
  named _ _ {φ} bits := FloatOps.ofBits φ bits

/-- Over the words the idealized kernel's body is the kernel's. -/
theorem body_eq : Cert.KernelIdeal.cc0_attn_prompt (F := Bits) = Cert.Kernel.cc0_attn_prompt := by
  rfl

/-- Over the words the idealized kernel's body table is the kernel's. -/
theorem defs₀_eq : Cert.KernelIdeal.defs₀ (F := Bits) = Cert.Kernel.defs₀ := by
  refine congrArg Defs.onTc (funext fun l => ?_)
  match l with
  | ⟨0, _⟩ =>
    refine funext fun a => ?_
    obtain ⟨t, s⟩ := a
    rfl
  | ⟨_ + 1, h⟩ => exact absurd h (by omega)

theorem defs_eq : Cert.KernelIdeal.defs (F := Bits) = Cert.Kernel.defs (F := Bits) := by
  unfold Cert.KernelIdeal.defs Cert.Kernel.defs
  exact congrArg (Pipeline.defs _) defs₀_eq

/-- The idealized kernel's frame. -/
theorem frame_kernelIdeal : Cert.quiescent_KernelIdeal := fun m g _ => KernelIdeal.frame_main (F := Ideal) m g

/-- The kernel's frame. -/
theorem frame_kernel : Cert.quiescent_Kernel := fun m g _ => by
  have h := KernelIdeal.frame_main (F := Bits) m g
  rw [defs_eq] at h
  exact h

end Cert.Proof

end
-- ==== Proof.Math.lean ====
/- The mathematics of stick-breaking over the extended reals: the two softpluses, and the exponent of a weight. -/
module

public import Idealize.ShloMosaic.PureOps.Ideal

@[expose] public section

noncomputable section

namespace Cert.Proof.Stick

open Idealize.ShloMosaic

/-- The softplus as the kernel takes it: base two, from the absolute value. -/
def soft (z : EReal) : EReal := max z 0 + Ideal.log (1 + Ideal.exp2 (max z (-z) * ((-((Real.log 2)⁻¹) : ℝ) : EReal)))

/-- The softplus as the reference takes it: base e, through `log1p`. -/
def softE (y : EReal) : EReal := max y 0 + Ideal.log1p (Ideal.exp (-(max (y - 0) (-(y - 0)))))

theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem exp2_scaled (a : ℝ) : Ideal.exp2 ((a : EReal) * ((-((Real.log 2)⁻¹) : ℝ) : EReal)) = Ideal.exp (-(a : EReal)) := by
  rw [← EReal.coe_mul, ← EReal.coe_neg, Ideal.exp2_coe, Ideal.exp_coe]
  have h2 : Real.log 2 ≠ 0 := (Real.log_pos one_lt_two).ne'
  congr 1
  show (2 : ℝ) ^ (a * -(Real.log 2)⁻¹) = Real.exp (-a)
  rw [Real.rpow_def_of_pos two_pos]
  congr 1
  field_simp

theorem scale_neg : ((-((Real.log 2)⁻¹) : ℝ) : EReal) < 0 := by
  have h2 : 0 < Real.log 2 := Real.log_pos one_lt_two
  rw [← EReal.coe_zero, EReal.coe_lt_coe_iff]
  exact neg_lt_zero.mpr (inv_pos.mpr h2)

theorem soft_top : soft ⊤ = ⊤ := by
  unfold soft
  rw [EReal.neg_top, max_eq_left (bot_le : (⊥ : EReal) ≤ ⊤), EReal.top_mul_of_neg scale_neg, Ideal.exp2_bot, max_eq_left le_top, add_zero,
    ← EReal.coe_one, Ideal.log_coe, if_neg (by norm_num), Real.log_one]
  simp

theorem soft_bot : soft ⊥ = 0 := by
  unfold soft
  rw [EReal.neg_bot, max_eq_right (bot_le : (⊥ : EReal) ≤ ⊤), EReal.top_mul_of_neg scale_neg, Ideal.exp2_bot, max_eq_right bot_le, add_zero,
    ← EReal.coe_one, Ideal.log_coe, if_neg (by norm_num), Real.log_one]
  simp

/-- The real softplus. -/
def softR (r : ℝ) : ℝ := max r 0 + Real.log (1 + Real.exp (-|r|))

theorem soft_coe (r : ℝ) : soft r = (softR r : EReal) := by
  unfold soft softR
  have e : max (r : EReal) (-(r : EReal)) = ((|r| : ℝ) : EReal) := by
    rw [← EReal.coe_neg, max_coe]
    rfl
  have hp : 0 < 1 + Real.exp (-|r|) := by positivity
  rw [e, exp2_scaled, ← EReal.coe_neg, Ideal.exp_coe, ← EReal.coe_one, ← EReal.coe_add, Ideal.log_coe, if_neg (not_le.mpr hp), ← EReal.coe_zero,
    max_coe, ← EReal.coe_add]

theorem softE_eq (y : EReal) : softE y = soft y := by
  unfold softE
  rw [sub_zero]
  induction y with
  | bot =>
    rw [soft_bot, EReal.neg_bot, max_eq_right (bot_le : (⊥ : EReal) ≤ ⊤), EReal.neg_top, Ideal.exp_bot, max_eq_right bot_le]
    show 0 + Ideal.log (1 + 0) = 0
    rw [add_zero, ← EReal.coe_one, Ideal.log_coe, if_neg (by norm_num), Real.log_one]
    simp
  | top =>
    rw [soft_top, EReal.neg_top, max_eq_left (bot_le : (⊥ : EReal) ≤ ⊤), EReal.neg_top, Ideal.exp_bot, max_eq_left le_top]
    show ⊤ + Ideal.log (1 + 0) = ⊤
    rw [add_zero, ← EReal.coe_one, Ideal.log_coe, if_neg (by norm_num), Real.log_one]
    simp
  | coe r =>
    have e : max (r : EReal) (-(r : EReal)) = ((|r| : ℝ) : EReal) := by
      rw [← EReal.coe_neg, max_coe]
      rfl
    unfold soft
    rw [e, exp2_scaled]
    rfl

theorem softR_nonneg (r : ℝ) : 0 ≤ softR r := by
  unfold softR
  have : 0 ≤ Real.log (1 + Real.exp (-|r|)) := Real.log_nonneg (by have := Real.exp_pos (-|r|); linarith)
  have := le_max_right r 0
  linarith

theorem soft_nonneg (z : EReal) : 0 ≤ soft z := by
  induction z with
  | bot => rw [soft_bot]
  | top => rw [soft_top]; exact le_top
  | coe r => rw [soft_coe, ← EReal.coe_zero, EReal.coe_le_coe_iff]; exact softR_nonneg r

theorem softR_neg (r : ℝ) : softR (-r) = softR r - r := by
  unfold softR
  rw [abs_neg]
  rcases le_total 0 r with h | h
  · rw [max_eq_right (by linarith), max_eq_left h]; ring
  · rw [max_eq_left (by linarith), max_eq_right h]; ring

/-- Minus a sum of two values that are not negative. -/
theorem neg_add_nonneg {a b : EReal} (ha : 0 ≤ a) (hb : 0 ≤ b) : -(a + b) = -a - b :=
  EReal.neg_add (.inl (ne_of_gt (lt_of_lt_of_le EReal.bot_lt_zero ha))) (.inr (ne_of_gt (lt_of_lt_of_le EReal.bot_lt_zero hb)))

theorem sum_neg_nonneg {ι : Type} [DecidableEq ι] (s : Finset ι) (f : ι → EReal) (hf : ∀ i, 0 ≤ f i) : ∑ i ∈ s, -(f i) = -(∑ i ∈ s, f i) := by
  induction s using Finset.induction_on with
  | empty => simp
  | insert a s h ih =>
    rw [Finset.sum_insert h, Finset.sum_insert h, ih, neg_add_nonneg (hf a) (Finset.sum_nonneg fun i _ => hf i)]
    rfl

/-- The kernel subtracts the two parts of the sum one after the other. -/
theorem sub_sub_nonneg (z : EReal) {a b : EReal} (ha : 0 ≤ a) (hb : 0 ≤ b) : z - a - b = z - (a + b) := by
  rw [sub_eq_add_neg z (a + b), neg_add_nonneg ha hb, sub_eq_add_neg, sub_eq_add_neg, sub_eq_add_neg, add_assoc]

/-- The reference's exponent, the log-sigmoid of the score and the sum of the later log-sigmoids less its own, is the
    kernel's, at infinite scores as well. -/
theorem exponent_eq (z L : EReal) (hL : 0 ≤ L) : -(soft (-z)) + (-(soft z + L) - (-(soft z))) = z - (soft z + L) := by
  induction z with
  | bot => rw [EReal.neg_bot, soft_top, EReal.neg_top, EReal.bot_add, sub_eq_add_neg, EReal.bot_add]
  | top =>
    have h : (⊤ : EReal) + L = ⊤ := EReal.top_add_of_ne_bot (ne_of_gt (lt_of_lt_of_le EReal.bot_lt_zero hL))
    rw [soft_top, h, EReal.neg_top, soft_bot, sub_eq_add_neg ⊤ ⊤, EReal.neg_top]
    simp
  | coe r =>
    rw [← EReal.coe_neg, soft_coe, soft_coe, softR_neg]
    induction L with
    | bot => exact absurd hL (by simp)
    | top => rw [EReal.add_top_of_ne_bot (EReal.coe_ne_bot _), EReal.neg_top]; simp [sub_eq_add_neg]
    | coe l =>
      norm_cast
      ring

end Cert.Proof.Stick

end
-- ==== Proof.Reference.lean ====
/- The reference: its frame, and its result at an index: stick-breaking attention. -/
module

public import proofs.«01_k».proof.Proof.Math
public import proofs.«01_k».proof.Proof.Gen.ReferenceIdeal
public import proofs.«01_k».proof.Proof.Gen.ReferenceIdeal.Read
public import proofs.«01_k».proof.Proof.Gen.ReferenceIdeal.Run
public import proofs.«01_k».proof.Defs
public import Idealize.ShloMosaic.Lib.Quiescent
public import Idealize.ShloMosaic.Lib.Pointwise

@[expose] public section

set_option maxRecDepth 16384
set_option maxRecDepth 16384
set_option maxRecDepth 16384
set_option maxRecDepth 16384

noncomputable section

namespace Cert.Proof.Stick

open Cert.ReferenceIdeal Cert.ReferenceIdeal.Read
open Idealize.ShloMosaic Idealize.SL.Sem

/-- A place of the sequence, from a number. -/
def place (n : ℕ) : Fin 2048 := Fin.ofNat 2048 n

/-- The score of key `s` at query `t`. -/
def score (q : Vec Ideal S8x2048x8x64 .f32) (k : Vec Ideal S2x8x2048x8x64 .f32) (bias : Vec Ideal S8 .f32) (b h : Fin 8) (t s : Fin 2048) : EReal :=
  (∑ d : Fin 64, q (ix4 b t h d) * k (ix5 1 b s h d)) * ((0.125 : ℝ) : EReal) + bias (ix1 h)

/-- Stick-breaking attention at query `t`, from the scores and one feature of the values. -/
def attn (z v : ℕ → EReal) (t : ℕ) : EReal :=
  ∑ s ∈ Finset.range t, v s * Ideal.exp (z s - ∑ j ∈ Finset.Ico s t, soft (z j))

variable (q : Vec Ideal S8x2048x8x64 .f32) (k v : Vec Ideal S2x8x2048x8x64 .f32) (bias : Vec Ideal S8 .f32)

theorem eighth : (FloatOps.ofBits .f32 0x3E000000#32 : Ideal .f32) = ((0.125 : ℝ) : EReal) := by
  show Ideal.ofBits .f32 0x3E000000#32 = _
  simp [Ideal.ofBits, Ideal.ieee, -EReal.coe_mul]; norm_num

/-- The layer's rows of a stacked array. -/
theorem layer_index (b h : Fin 8) (s : Fin 2048) (d : Fin 64) : idx_main_v0 (idx_main_v1 (ix4 b s h d)) = ix5 1 b s h d := by
  funext a
  have h0 := b.isLt; have h1 := s.isLt; have h2 := h.isLt; have h3 := d.isLt
  match a with
  | ⟨0, _⟩ => rfl
  | ⟨1, _⟩ => exact Fin.ext (show (((b.val * 2048 + s.val) * 8 + h.val) * 64 + d.val) / 1048576 % 8 = b.val by omega)
  | ⟨2, _⟩ => exact Fin.ext (show (((b.val * 2048 + s.val) * 8 + h.val) * 64 + d.val) / 512 % 2048 = s.val by omega)
  | ⟨3, _⟩ => exact Fin.ext (show (((b.val * 2048 + s.val) * 8 + h.val) * 64 + d.val) / 64 % 8 = h.val by omega)
  | ⟨4, _⟩ => exact Fin.ext (show (((b.val * 2048 + s.val) * 8 + h.val) * 64 + d.val) % 64 = d.val by omega)

theorem key_apply (b h : Fin 8) (s : Fin 2048) (d : Fin 64) : val_main_v1 (F := Ideal) k (ix4 b s h d) = k (ix5 1 b s h d) := by
  rw [val_main_v1_apply, val_main_v0_apply, layer_index]

theorem value_apply (b h : Fin 8) (s : Fin 2048) (d : Fin 64) : val_main_v3 (F := Ideal) v (ix4 b s h d) = v (ix5 1 b s h d) := key_apply v b h s d

theorem score_apply (b h : Fin 8) (t s : Fin 2048) : val_main_v10 (F := Ideal) q k bias (ix4 b h t s) = score q k bias b h t s := by
  rw [val_main_v10_apply, val_main_v8_apply, val_main_v6_apply, val_main_v7_apply, val_main_v9_apply, val_main_v5_apply, val_main_cst_apply, eighth]
  have el : ∀ d : Fin 64, lidx_main_v6 (ix4 b h t s) d = ix4 b t h d := fun d => funext fun a => by fin_cases a <;> rfl
  have er : ∀ d : Fin 64, ridx_main_v6 (ix4 b h t s) d = ix4 b s h d := fun d => funext fun a => by fin_cases a <;> rfl
  have eb : idx_main_v5 (idx_main_v9 (ix4 b h t s)) = ix1 h := funext fun a => by fin_cases a; rfl
  simp only [el, er, eb, key_apply]
  rfl

/-- The mask is that the key comes before the query. -/
theorem mask_apply (b h : Fin 8) (t s : Fin 2048) (x y : EReal) :
    Scalar.select (val_main_call1_v1 (F := Ideal) (ix4 b h t s)) x y = if s.val < t.val then x else y := by
  rw [val_main_call1_v1_apply, val_main_v15_apply, val_main_v13_apply, val_main_v14_apply, val_main_v11_apply, val_main_v12_apply, val_main_v4_apply, val_main_v4_apply]
  show Scalar.select (IntOp.cmpi .slt (BitVec.ofNat 32 s.val) (BitVec.ofNat 32 t.val)) x y = _
  have h0 := s.isLt; have h1 := t.isLt
  have e : (BitVec.ofNat 32 s.val).slt (BitVec.ofNat 32 t.val) = decide (s.val < t.val) := by
    have hi : ∀ n : ℕ, n < 2048 → (BitVec.ofNat 32 n).toInt = n := fun n hn => by
      rw [BitVec.toInt_eq_toNat_cond, BitVec.toNat_ofNat, Nat.mod_eq_of_lt (by omega), if_pos (by omega)]
    rw [BitVec.slt_eq_decide, hi _ h0, hi _ h1, decide_eq_decide]
    omega
  unfold IntOp.cmpi Scalar.select
  simp only [e]
  by_cases hs : s.val < t.val <;> simp [hs]

/-- The log-sigmoid as the reference takes it. -/
theorem softE_select (z w : EReal) : Scalar.select (FloatOps.cmpf (F := Ideal) (φ := .f32) .une z z) w
    (max z 0 + Ideal.log1p (Ideal.exp (-FloatOps.absf (F := Ideal) (φ := .f32) z))) = soft z := by
  rw [← softE_eq]
  unfold softE
  rw [sub_zero]
  unfold Scalar.select
  show (if Ideal.cmp .une z z = 1 then w else _) = _
  rw [if_neg (by simp [Ideal.cmp])]
  rfl

theorem later_apply (b h : Fin 8) (t s : Fin 2048) :
    val_main_v17 (F := Ideal) q k bias (ix4 b h t s) = -(soft (score q k bias b h t s)) := by
  rw [← score_apply]
  simp only [val_main_v17_apply, val_main_call0_v1_apply, val_main_call0_call0_v4_apply, val_main_call0_call0_v11_apply, val_main_call0_call0_v1_apply,
    val_main_call0_call0_v10_apply, val_main_call0_call0_v9_apply, val_main_call0_call0_v8_apply, val_main_call0_call0_v7_apply,
    val_main_call0_call0_v3_apply, val_main_call0_v0_apply, val_main_v16_apply, val_main_call0_call0_v0_apply, val_main_call0_call0_v2_apply, val_main_call0_call0_cst_apply]
  generalize val_main_v10 (F := Ideal) q k bias (ix4 b h t s) = z
  rw [← softE_select z (val_main_call0_call0_v6 (F := Ideal) q k bias (ix4 b h t s))]
  simp

theorem own_apply (b h : Fin 8) (t s : Fin 2048) :
    val_main_v21 (F := Ideal) q k bias (ix4 b h t s) = -(soft (-(score q k bias b h t s))) := by
  rw [← score_apply]
  simp only [val_main_v21_apply, val_main_call3_v1_apply, val_main_call3_call0_v4_apply, val_main_call3_call0_v11_apply, val_main_call3_call0_v1_apply,
    val_main_call3_call0_v10_apply, val_main_call3_call0_v9_apply, val_main_call3_call0_v8_apply, val_main_call3_call0_v7_apply,
    val_main_call3_call0_v3_apply, val_main_call3_v0_apply, val_main_call3_call0_v0_apply, val_main_call3_call0_v2_apply, val_main_call3_call0_cst_apply]
  generalize val_main_v10 (F := Ideal) q k bias (ix4 b h t s) = z
  rw [← softE_select (-z) (val_main_call3_call0_v6 (F := Ideal) q k bias (ix4 b h t s))]
  simp

theorem masked_apply (b h : Fin 8) (t s : Fin 2048) :
    val_main_v18 (F := Ideal) q k bias (ix4 b h t s) = if s.val < t.val then -(soft (score q k bias b h t s)) else 0 := by
  rw [val_main_v18_apply, mask_apply, later_apply]
  congr 1
  rw [val_main_call1_v2_apply]
  exact Ideal.ofBits_zero .f32

theorem foldl_sum {α : Type} (g : α → EReal) (l : List α) (a : EReal) : l.foldl (fun r n => r + g n) a = a + (l.map g).sum := by
  induction l generalizing a with
  | nil => simp
  | cons n l ih => rw [List.foldl_cons, ih, List.map_cons, List.sum_cons, add_assoc]

/-- The window at a place: the row from that place on, and zeros behind its end. -/
theorem window_sum (x : S8x8x2048x2048.Idx → EReal) (b h : Fin 8) (t s : Fin 2048) (hw) (hu) :
    Host.reduceWindow (s := S8x8x2048x2048) (t := S8x8x2048x2048) (u := ⟨0, ![]⟩) (fun a b : EReal => a + b) ![1, 1, 1, 2048] ![1, 1, 1, 1] ![0, 0, 0, 0] ![0, 0, 0, 2047] x (fun _ => 0) hw hu (ix4 b h t s)
      = ∑ n : Fin 2048, if s.val + n.val < 2048 then x (ix4 b h t (place (s.val + n.val))) else 0 := by
  unfold Host.reduceWindow
  refine (foldl_sum _ _ _).trans ?_
  rw [zero_add, ← Fin.sum_univ_def]
  have key : ∀ f : (⟨4, ![1, 1, 1, 2048]⟩ : Shape).Idx → EReal,
      ∑ n : Fin (⟨4, ![1, 1, 1, 2048]⟩ : Shape).numel, f ((Shape.rowMajor ⟨4, ![1, 1, 1, 2048]⟩).symm n) = ∑ n : Fin 2048, f (ix4 0 0 0 n) := fun f => by
    rw [Equiv.sum_comp (Shape.rowMajor ⟨4, ![1, 1, 1, 2048]⟩).symm f, sum_idx4]
    simp
  refine Eq.trans (Finset.sum_congr rfl fun n _ => ?_) (key fun p => if s.val + (p 3).val < 2048 then x (ix4 b h t (place (s.val + (p 3).val))) else 0)
  let p : (⟨4, ![1, 1, 1, 2048]⟩ : Shape).Idx := (Shape.rowMajor ⟨4, ![1, 1, 1, 2048]⟩).symm n
  have p0 : (p 0).val < 1 := (p 0).isLt
  have p1 : (p 1).val < 1 := (p 1).isLt
  have p2 : (p 2).val < 1 := (p 2).isLt
  have hb := b.isLt; have hh := h.isLt; have ht := t.isLt
  by_cases hs : s.val + (p 3).val < 2048
  · rw [dif_pos fun a => ?_]
    · refine Eq.trans (congrArg x (funext fun a => Fin.ext ?_)) (if_pos hs).symm
      match a with
      | ⟨0, _⟩ => show b.val * 1 + (p 0).val - 0 = b.val; omega
      | ⟨1, _⟩ => show h.val * 1 + (p 1).val - 0 = h.val; omega
      | ⟨2, _⟩ => show t.val * 1 + (p 2).val - 0 = t.val; omega
      | ⟨3, _⟩ => show s.val * 1 + (p 3).val - 0 = (s.val + (p 3).val) % 2048; omega
    · match a with
      | ⟨0, _⟩ => show 0 ≤ b.val * 1 + (p 0).val ∧ b.val * 1 + (p 0).val - 0 < 8; omega
      | ⟨1, _⟩ => show 0 ≤ h.val * 1 + (p 1).val ∧ h.val * 1 + (p 1).val - 0 < 8; omega
      | ⟨2, _⟩ => show 0 ≤ t.val * 1 + (p 2).val ∧ t.val * 1 + (p 2).val - 0 < 2048; omega
      | ⟨3, _⟩ => show 0 ≤ s.val * 1 + (p 3).val ∧ s.val * 1 + (p 3).val - 0 < 2048; omega
  · refine Eq.trans (dif_neg fun hin => hs ?_) (if_neg hs).symm
    have : s.val * 1 + (p 3).val - 0 < 2048 := (hin 3).2
    omega

theorem window_add (x : FVec Ideal S8x8x2048x2048 .f32) (init : FVec Ideal S_ .f32) (hw) (hu : 0 < S_.numel) (hz : init (Shape.Idx.first hu) = (0 : EReal)) (i : S8x8x2048x2048.Idx) :
    Host.reduceWindowAdd (s := S8x8x2048x2048) (t := S8x8x2048x2048) ![1, 1, 1, 2048] ![1, 1, 1, 1] ![0, 0, 0, 0] ![0, 0, 0, 2047] x init hw hu i
      = Host.reduceWindow (s := S8x8x2048x2048) (t := S8x8x2048x2048) (u := ⟨0, ![]⟩) (fun a b : EReal => a + b) ![1, 1, 1, 2048] ![1, 1, 1, 1] ![0, 0, 0, 0] ![0, 0, 0, 2047] x (fun _ => 0) hw (by decide) i := by
  show Ideal.hostReduceWindowAdd _ _ _ _ hw x (init (Shape.Idx.first hu)) i = _
  rw [hz]
  rfl

/-- The sum from the end down to each place. -/
theorem tail_apply (b h : Fin 8) (t s : Fin 2048) :
    val_main_v19 (F := Ideal) q k bias (ix4 b h t s) = ∑ j ∈ Finset.Ico s.val 2048, val_main_v18 (F := Ideal) q k bias (ix4 b h t (place j)) := by
  unfold val_main_v19
  generalize val_main_v18 (F := Ideal) q k bias = x
  have hz : val_main_call2_v0 (F := Ideal) (Shape.Idx.first Gen.h_S_) = (0 : EReal) := by
    rw [val_main_call2_v0_apply]
    exact Ideal.ofBits_zero .f32
  refine (window_add x _ _ _ hz _).trans ?_
  refine (window_sum x b h t s _ _).trans ?_
  rw [Finset.sum_Ico_eq_sum_range, Fin.sum_univ_eq_sum_range (fun n => if s.val + n < 2048 then x (ix4 b h t (place (s.val + n))) else 0), ← Finset.sum_filter]
  refine Finset.sum_congr (Finset.ext fun n => ?_) fun _ _ => rfl
  simp only [Finset.mem_filter, Finset.mem_range]
  omega

/-- The reference's weight of a key. -/
theorem weight_apply (b h : Fin 8) (t s : Fin 2048) : val_main_v24 (F := Ideal) q k bias (ix4 b h t s)
    = if s.val < t.val then Ideal.exp (score q k bias b h t s - ∑ j ∈ Finset.Ico s.val t.val, soft (score q k bias b h t (place j))) else 0 := by
  rw [val_main_v24_apply]
  refine (mask_apply b h t s _ _).trans ?_
  by_cases hs : s.val < t.val
  · rw [if_pos hs, if_pos hs, val_main_v23_apply, val_main_v22_apply, own_apply, val_main_v20_apply, tail_apply, masked_apply, if_pos hs]
    show Ideal.exp (-(soft (-(score q k bias b h t s))) + (_ - -(soft (score q k bias b h t s)))) = _
    congr 1
    have ht := t.isLt
    have e : ∑ j ∈ Finset.Ico s.val 2048, val_main_v18 (F := Ideal) q k bias (ix4 b h t (place j))
        = -(soft (score q k bias b h t s) + ∑ j ∈ Finset.Ico (s.val + 1) t.val, soft (score q k bias b h t (place j))) := by
      have hp : ∀ j, j < 2048 → (place j).val = j := fun j hj => Nat.mod_eq_of_lt hj
      rw [← Finset.sum_Ico_consecutive _ (le_of_lt hs) (le_of_lt ht), Finset.sum_eq_zero (s := Finset.Ico t.val 2048), add_zero]
      · have : place s.val = s := Fin.ext (hp _ s.isLt)
        rw [Finset.sum_congr rfl (g := fun j => -(soft (score q k bias b h t (place j)))), sum_neg_nonneg _ _ fun _ => soft_nonneg _,
          Finset.sum_eq_sum_Ico_succ_bot hs, this]
        intro j hj
        rw [Finset.mem_Ico] at hj
        rw [masked_apply, hp j (by omega), if_pos hj.2]
      · intro j hj
        rw [Finset.mem_Ico] at hj
        rw [masked_apply, hp j hj.2, if_neg (by omega)]
    have hself : place s.val = s := Fin.ext (Nat.mod_eq_of_lt s.isLt)
    rw [e, exponent_eq _ _ (Finset.sum_nonneg fun _ _ => soft_nonneg _), Finset.sum_eq_sum_Ico_succ_bot hs, hself]
  · rw [if_neg hs, if_neg hs, val_main_call4_v2_apply]
    exact Ideal.ofBits_zero .f32

/-- The reference is stick-breaking attention. -/
theorem reference_apply (b : Fin 8) (t : Fin 2048) (a : Fin 512) : val_main_v28 (F := Ideal) q k v bias (ix3 b t a)
    = attn (fun s => score q k bias b ⟨a.val / 64, by omega⟩ t (place s)) (fun s => v (ix5 1 b (place s) ⟨a.val / 64, by omega⟩ ⟨a.val % 64, by omega⟩)) t.val := by
  rw [val_main_v28_apply]
  refine (val_main_v27_apply q k v bias (ix3 b t a)).trans ?_
  have h0 := b.isLt; have h1 := t.isLt; have h2 := a.isLt
  have e : idx_main_v27 (ix3 b t a) = ix4 b t ⟨a.val / 64, by omega⟩ ⟨a.val % 64, by omega⟩ := funext fun i => by
    match i with
    | ⟨0, _⟩ => exact Fin.ext (show ((b.val * 2048 + t.val) * 512 + a.val) / 1048576 = b.val by omega)
    | ⟨1, _⟩ => exact Fin.ext (show ((b.val * 2048 + t.val) * 512 + a.val) / 512 % 2048 = t.val by omega)
    | ⟨2, _⟩ => exact Fin.ext (show ((b.val * 2048 + t.val) * 512 + a.val) / 64 % 8 = a.val / 64 by omega)
    | ⟨3, _⟩ => exact Fin.ext (show ((b.val * 2048 + t.val) * 512 + a.val) % 64 = a.val % 64 by omega)
  rw [e, val_main_v26_apply, val_main_v25_apply]
  generalize (⟨a.val / 64, by omega⟩ : Fin 8) = h
  generalize (⟨a.val % 64, by omega⟩ : Fin 64) = d
  have el : ∀ s : Fin 2048, lidx_main_v25 (idx_main_v26 (ix4 b t h d)) s = ix4 b s h d := fun s => funext fun a => by fin_cases a <;> rfl
  have er : ∀ s : Fin 2048, ridx_main_v25 (idx_main_v26 (ix4 b t h d)) s = ix4 b h t s := fun s => funext fun a => by fin_cases a <;> rfl
  simp only [el, er, value_apply, weight_apply]
  unfold attn
  have hp : ∀ s : Fin 2048, place s.val = s := fun s => Fin.ext (Nat.mod_eq_of_lt s.isLt)
  have ht : Finset.range t.val ⊆ Finset.range 2048 := fun s hs => Finset.mem_range.mpr (lt_trans (Finset.mem_range.mp hs) t.isLt)
  refine Eq.symm ((Finset.sum_congr rfl fun s hs => ?_).trans ((Finset.sum_subset ht fun s _ hs => ?_).trans ((Finset.sum_range fun s =>
    v (ix5 1 b (place s) h d) * if s < t.val then Ideal.exp (score q k bias b h t (place s) - ∑ j ∈ Finset.Ico s t.val, soft (score q k bias b h t (place j))) else 0).trans
    (Finset.sum_congr rfl fun s _ => ?_))))
  · rw [if_pos (Finset.mem_range.mp hs)]
  · rw [if_neg fun h => hs (Finset.mem_range.mpr h), mul_zero]
  · rw [hp]

end Cert.Proof.Stick

namespace Cert.Proof

open Idealize.ShloMosaic Idealize.SL.Sem

/-- The reference's frame. -/
theorem frame_referenceIdeal : Cert.quiescent_ReferenceIdeal := fun m g _ =>
  (θ_run _ _ _).mono (fun r h => ⟨fun c => (h c).2, sem_eq_zero_of_no_sems rfl r.2⟩) (Cert.ReferenceIdeal.Value.run m g)

end Cert.Proof

end
-- ==== Proof.Value.lean ====
/- What a grid point computes, at an index: the query block's sums and accumulator after each key block, as sums over the keys before the query. -/
module

public import proofs.«01_k».proof.Proof.Copies
public import proofs.«01_k».proof.Proof.Reference

@[expose] public section

set_option maxRecDepth 16384

noncomputable section

namespace Cert.Proof.KernelIdeal

open Cert.KernelIdeal Cert.KernelIdeal.Gen Cert.Proof.Stick
open Idealize.ShloMosaic

theorem scores_apply (b : Ideal .f32) (kb qb : Vec Ideal S1x256x64 .bf16) (x y : Fin 256) :
    scores b kb qb (ix2 x y) = (∑ d : Fin 64, kb (ix3 0 x d) * qb (ix3 0 y d)) + b := by
  pointwise [scores]

theorem softplus_apply (z : FVec Ideal S256x256 .f32) (i : S256x256.Idx) : softplus z i = soft (z i) := by
  pointwise [softplus]
  rfl

theorem suffixSums_apply (t : FVec Ideal S256x256 .bf16) (s : FVec Ideal S256x256 .f32) (x y : Fin 256) :
    suffixSums t s (ix2 x y) = ∑ j : Fin 256, t (ix2 x j) * s (ix2 j y) := by
  pointwise [suffixSums]

/-- A one-bit word read as a number is one where it is set and zero elsewhere. -/
theorem one_if (c : BitVec 1) : FloatOps.sitofp (F := Ideal) .f32 (BitVec.setWidth 32 c) = if c = 1#1 then 1 else 0 := by
  show (((BitVec.setWidth 32 c).toInt : ℝ) : EReal) = _
  have h : c = 0#1 ∨ c = 1#1 := by revert c; decide
  rcases h with rfl | rfl <;> simp

theorem triangle_apply (x y : Fin 256) : triangle (F := Ideal) (ix2 x y) = if x.val ≤ y.val then 1 else 0 := by
  pointwise [triangle]
  rw [one_if]
  have h0 := x.isLt
  have h1 := y.isLt
  have e : IntOp.cmpi .sge (BitVec.ofNat 32 y.val) (BitVec.ofNat 32 x.val) = 1#1 ↔ x.val ≤ y.val := WordCmp.cmpi_sge_ofNat_eq_one_iff (by omega) (by omega)
  by_cases h : x.val ≤ y.val
  · rw [if_pos (e.mpr h), if_pos h]
  · rw [if_neg (fun q => h (e.mp q)), if_neg h]

theorem weights_apply (z cs : FVec Ideal S256x256 .f32) (c : FVec Ideal S1x256 .f32) (x y : Fin 256) :
    weights z cs c (ix2 x y) = Ideal.exp (z (ix2 x y) - cs (ix2 x y) - c (ix2 0 y)) := by
  pointwise [weights]

theorem weighted_apply (vb : Vec Ideal S1x64x256 .bf16) (w : FVec Ideal S256x256 .f32) (d : Fin 64) (y : Fin 256) :
    weighted vb w (ix2 d y) = ∑ s : Fin 256, vb (ix3 0 d s) * w (ix2 s y) := by
  pointwise [weighted]

theorem carryOn_apply (c : FVec Ideal S1x256 .f32) (cs : FVec Ideal S256x256 .f32) (y : Fin 256) :
    carryOn c cs (ix2 0 y) = c (ix2 0 y) + cs (ix2 0 y) := by
  pointwise [carryOn]

theorem noCarry_apply (y : Fin 256) : noCarry (F := Ideal) (ix2 0 y) = 0 := by
  pointwise [noCarry]

theorem before_apply (w : FVec Ideal S256x256 .f32) (x y : Fin 256) :
    before keyFirst w (ix2 x y) = if x.val < y.val then w (ix2 x y) else 0 := by
  pointwise [before, keyFirst]
  have h0 := x.isLt
  have h1 := y.isLt
  have e : IntOp.cmpi .slt (BitVec.ofNat 32 x.val) (BitVec.ofNat 32 y.val) = 1#1 ↔ x.val < y.val := WordCmp.cmpi_slt_ofNat_eq_one_iff (by omega) (by omega)
  exact if_congr e rfl rfl

theorem slab_apply (p : FVec Ideal S64x256 .f32) (d : Fin 64) (y : Fin 256) : slab p (ix3 0 d y) = p (ix2 d y) := by
  pointwise [slab]

theorem slabAdd_apply (a : Vec Ideal S1x64x256 .f32) (p : FVec Ideal S64x256 .f32) (d : Fin 64) (y : Fin 256) :
    slabAdd a p (ix3 0 d y) = a (ix3 0 d y) + p (ix2 d y) := by
  pointwise [slabAdd, slab]

/-- A sum over a block's keys, of those from `x` on and before `y`. -/
theorem block_sum (f : ℕ → EReal) (a x y : ℕ) (hy : y ≤ 256) :
    (∑ k : Fin 256, if x ≤ k.val ∧ k.val < y then f (a + k.val) else 0) = ∑ k ∈ Finset.Ico (a + x) (a + y), f k := by
  rw [Fin.sum_univ_eq_sum_range (fun k => if x ≤ k ∧ k < y then f (a + k) else 0) 256, ← Finset.sum_filter, add_comm a x, add_comm a y,
    ← Finset.sum_Ico_add f x y a]
  refine Finset.sum_congr (Finset.ext fun k => ?_) fun _ _ => rfl
  simp only [Finset.mem_filter, Finset.mem_range, Finset.mem_Ico]
  omega

section

variable (x2 : Vec Ideal S8 .f32) (x3 : Vec Ideal S1x2048x512 .bf16) (x4 x5 : Vec Ideal S1x1x512x2048 .f32)

/-- The feature of head `h`. -/
def feature (h : Fin 8) (d : Fin 64) : Fin 512 := ⟨64 * h.val + d.val, by omega⟩

/-- The score of key `s` at query `t`, from the call's blocks. -/
def blockScore (h : Fin 8) (t s : Fin 2048) : EReal :=
  (∑ d : Fin 64, x4 (ix4 0 0 (feature h d) s) * x3 (ix3 0 t (feature h d))) + x2 (ix1 h)

/-- The scores of a query by key number. -/
def keyScore (h : Fin 8) (t : ℕ) (s : ℕ) : EReal := blockScore x2 x3 x4 h (place t) (place s)

/-- A value's feature by key number. -/
def keyValue (h : Fin 8) (d : Fin 64) (s : ℕ) : EReal := x5 (ix4 0 0 (feature h d) (place s))

theorem place_val (n : ℕ) (h : n < 2048) : (place n).val = n := Nat.mod_eq_of_lt h

theorem z_apply (h i j : Fin 8) (x y : Fin 256) : (pointOperands x2 x3 x4 x5).z h i j (ix2 x y)
    = keyScore x2 x3 x4 h (256 * i.val + y.val) (256 * j.val + x.val) := by
  have hi : 256 * i.val + y.val < 2048 := by omega
  have hj : 256 * j.val + x.val < 2048 := by omega
  refine (scores_apply _ _ _ x y).trans ?_
  refine congrArg (· + x2 (ix1 h)) (Finset.sum_congr rfl fun d _ => ?_)
  refine congr (congrArg (fun a b : EReal => a * b) ?_) ?_
  · refine congrArg x4 (funext fun a => Fin.ext ?_)
    fin_cases a
    · rfl
    · rfl
    · show 64 * h.val + 1 * d.val = 64 * h.val + d.val
      omega
    · show 256 * (j.val + 1 * 0) + (0 + 1 * x.val) = (place (256 * j.val + x.val)).val
      rw [place_val _ hj]
      omega
  · refine congrArg x3 (funext fun a => Fin.ext ?_)
    fin_cases a
    · rfl
    · show 256 * i.val + 1 * y.val = (place (256 * i.val + y.val)).val
      rw [place_val _ hi]
      omega
    · show 64 * h.val + 1 * d.val = 64 * h.val + d.val
      omega

theorem values_apply (h j : Fin 8) (d : Fin 64) (x : Fin 256) : (pointOperands x2 x3 x4 x5).values j h (ix3 0 d x)
    = keyValue x5 h d (256 * j.val + x.val) := by
  have hj : 256 * j.val + x.val < 2048 := by omega
  refine congrArg x5 (funext fun a => Fin.ext ?_)
  fin_cases a
  · rfl
  · rfl
  · show 64 * h.val + 1 * d.val = 64 * h.val + d.val
    omega
  · show 256 * (j.val + 1 * 0) + (0 + 1 * x.val) = (place (256 * j.val + x.val)).val
    rw [place_val _ hj]
    omega

theorem cs_apply (h i j : Fin 8) (x y : Fin 256) : (pointOperands x2 x3 x4 x5).cs h i j (ix2 x y)
    = ∑ k ∈ Finset.Ico (256 * j.val + x.val) (256 * j.val + 256), soft (keyScore x2 x3 x4 h (256 * i.val + y.val) k) := by
  refine (suffixSums_apply _ _ x y).trans ?_
  rw [← block_sum _ _ _ _ le_rfl]
  refine Finset.sum_congr rfl fun k _ => ?_
  rw [show (pointOperands x2 x3 x4 x5).tri = triangle from rfl, triangle_apply, softplus_apply, z_apply]
  by_cases hk : x.val ≤ k.val
  · rw [if_pos hk, if_pos ⟨hk, k.isLt⟩, one_mul]
  · rw [if_neg hk, if_neg (fun q => hk q.1), zero_mul]

theorem csDiag_apply (h i : Fin 8) (x y : Fin 256) : (pointOperands x2 x3 x4 x5).csDiag h i (ix2 x y)
    = ∑ k ∈ Finset.Ico (256 * i.val + x.val) (256 * i.val + y.val), soft (keyScore x2 x3 x4 h (256 * i.val + y.val) k) := by
  refine (suffixSums_apply _ _ x y).trans ?_
  rw [← block_sum _ _ _ _ y.isLt.le]
  refine Finset.sum_congr rfl fun k _ => ?_
  rw [show (pointOperands x2 x3 x4 x5).tri = triangle from rfl, triangle_apply, show (pointOperands x2 x3 x4 x5).valid = keyFirst from rfl, before_apply, softplus_apply, z_apply]
  by_cases hk : x.val ≤ k.val
  · by_cases hl : k.val < y.val
    · rw [if_pos hk, if_pos hl, if_pos ⟨hk, hl⟩, one_mul]
    · rw [if_neg hl, if_neg (fun q : x.val ≤ k.val ∧ k.val < y.val => hl q.2), mul_zero]
  · rw [if_neg hk, if_neg (fun q : x.val ≤ k.val ∧ k.val < y.val => hk q.1), zero_mul]

/-- The keys from `lo` on and before the query: the sums of their softplus. -/
def carried (h : Fin 8) (t lo : ℕ) : EReal := ∑ k ∈ Finset.Ico lo t, soft (keyScore x2 x3 x4 h t k)

/-- One key's part of a query's result. -/
def part (h : Fin 8) (d : Fin 64) (t s : ℕ) : EReal :=
  keyValue x5 h d s * Ideal.exp (keyScore x2 x3 x4 h t s - carried x2 x3 x4 h t s)

theorem carried_nonneg (h : Fin 8) (t lo : ℕ) : 0 ≤ carried x2 x3 x4 h t lo := Finset.sum_nonneg fun _ _ => soft_nonneg _

theorem carried_join (h : Fin 8) (t lo mid : ℕ) (h1 : lo ≤ mid) (h2 : mid ≤ t) :
    (∑ k ∈ Finset.Ico lo mid, soft (keyScore x2 x3 x4 h t k)) + carried x2 x3 x4 h t mid = carried x2 x3 x4 h t lo :=
  Finset.sum_Ico_consecutive _ h1 h2

/-- After the query's own block and `n` blocks before it. -/
theorem state_apply (h i : Fin 8) (y : Fin 256) (n : ℕ) (hn : n ≤ i.val) :
    ((pointOperands x2 x3 x4 x5).state h i n).1 (ix2 0 y) = carried x2 x3 x4 h (256 * i.val + y.val) (256 * (i.val - n)) ∧
    ∀ d : Fin 64, ((pointOperands x2 x3 x4 x5).state h i n).2 (ix3 0 d y)
      = ∑ s ∈ Finset.Ico (256 * (i.val - n)) (256 * i.val + y.val), part x2 x3 x4 x5 h d (256 * i.val + y.val) s := by
  induction n with
  | zero =>
    refine ⟨?_, fun d => ?_⟩
    · refine (carryOn_apply _ _ y).trans ?_
      rw [noCarry_apply, zero_add, csDiag_apply]
      rfl
    · refine (slab_apply _ d y).trans ((weighted_apply _ _ d y).trans ?_)
      have e := block_sum (part x2 x3 x4 x5 h d (256 * i.val + y.val)) (256 * i.val) 0 y.val y.isLt.le
      rw [Nat.sub_zero]
      refine Eq.trans (Finset.sum_congr rfl fun k _ => ?_) e
      rw [show (pointOperands x2 x3 x4 x5).valid = keyFirst from rfl, before_apply, weights_apply, z_apply, csDiag_apply, noCarry_apply, values_apply, sub_zero]
      by_cases hl : k.val < y.val
      · rw [if_pos hl, if_pos ⟨Nat.zero_le _, hl⟩]
        rfl
      · rw [if_neg hl, if_neg (fun q => hl q.2), mul_zero]
  | succ n ih =>
    obtain ⟨ih1, ih2⟩ := ih (by omega)
    have eb : (Operands.back i n).val = i.val - (n + 1) := by show i.val - 1 - n = _; omega
    have em : 256 * (i.val - (n + 1)) + 256 = 256 * (i.val - n) := by omega
    refine ⟨?_, fun d => ?_⟩
    · refine (carryOn_apply _ _ y).trans ?_
      rw [ih1, cs_apply, eb, add_comm]
      show (∑ k ∈ Finset.Ico (256 * (i.val - (n + 1)) + 0) _, _) + _ = _
      rw [Nat.add_zero, em]
      exact carried_join x2 x3 x4 h _ _ _ (by omega) (by omega)
    · refine (slabAdd_apply _ _ d y).trans ?_
      rw [ih2 d, weighted_apply, add_comm, ← Finset.sum_Ico_consecutive _ (show 256 * (i.val - (n + 1)) ≤ 256 * (i.val - n) by omega) (show _ ≤ 256 * i.val + y.val by omega)]
      refine congrArg (· + _) ?_
      have e := block_sum (part x2 x3 x4 x5 h d (256 * i.val + y.val)) (256 * (i.val - (n + 1))) 0 256 le_rfl
      rw [em] at e
      refine Eq.trans (Finset.sum_congr rfl fun k _ => ?_) e
      rw [weights_apply, z_apply, cs_apply, ih1, values_apply, eb, if_pos ⟨Nat.zero_le _, k.isLt⟩,
        sub_sub_nonneg _ (Finset.sum_nonneg fun _ _ => soft_nonneg _) (carried_nonneg x2 x3 x4 h _ _), em,
        carried_join x2 x3 x4 h _ _ _ (by omega) (by omega)]
      rfl

/-- A grid point's block, of the four blocks it reads. -/
theorem attnBlock_apply (t : Fin 2048) (a : Fin 512) : attnBlock (pointOperands x2 x3 x4 x5) (ix3 0 t a)
    = attn (keyScore x2 x3 x4 ⟨a.val / 64, by omega⟩ t.val) (keyValue x5 ⟨a.val / 64, by omega⟩ ⟨a.val % 64, by omega⟩) t.val := by
  have e := (state_apply x2 x3 x4 x5 ⟨a.val / 64, by omega⟩ ⟨t.val / 256, by omega⟩ ⟨t.val % 256, by omega⟩ (t.val / 256) le_rfl).2 ⟨a.val % 64, by omega⟩
  refine Eq.trans ?_ (e.trans ?_)
  · rfl
  · have et : 256 * (t.val / 256) + t.val % 256 = t.val := by omega
    simp only [Nat.sub_self, Nat.mul_zero, et]
    rw [← Finset.range_eq_Ico]
    rfl

end

end Cert.Proof.KernelIdeal

end
-- ==== Proof.Result.lean ====
/- The result array of the attention kernel after the run: the reference's, at every index. -/
module

public import proofs.«01_k».proof.Proof.Value
public import proofs.«01_k».proof.Proof.Run
public import Idealize.ShloMosaic.Lib.Pipeline.Value
public import Idealize.ShloMosaic.Lib.Pipeline.ValueKit.Basic

@[expose] public section

set_option maxRecDepth 16384

noncomputable section

namespace Cert.Proof.KernelIdeal

open Cert.KernelIdeal Cert.KernelIdeal.Gen Cert.Proof.Stick
open Idealize.ShloMosaic Idealize.ShloMosaic.TcCoe Idealize.ShloMosaic.Tactic
open Idealize.ShloMosaic.Pipeline (Dat Cfg Window)
open Idealize.SL Idealize.SL.Sem

/-! ## The host's preparation, at an index -/

theorem scaled_apply (q : Vec Ideal S8x2048x8x64 .f32) (b : Fin 8) (t : Fin 2048) (a : Fin 512) :
    shapeCast S8x2048x512 (truncf (F := Ideal) .bf16 (mulf (φ := .f32) q (broadcastInDim S8x2048x8x64 ![] bcast_S_S8x2048x8x64 (constant (F := Ideal) S_ .f32 0x3E000000#32))) bitsLt_bf16_f32)
      shapeCasts_S8x2048x8x64_S8x2048x512 (ix3 b t a) = q (ix4 b t ⟨a.val / 64, by omega⟩ ⟨a.val % 64, by omega⟩) * ((0.125 : ℝ) : EReal) := by
  pointwise
  exact congrArg (q (ix4 b t ⟨a.val / 64, by omega⟩ ⟨a.val % 64, by omega⟩) * ·) eighth

theorem turned_apply (k : Vec Ideal S2x8x2048x8x64 .f32) (l : Fin 2) (b : Fin 8) (a : Fin 512) (s : Fin 2048) :
    shapeCast S2x8x512x2048 (transpose S2x8x8x64x2048 [0, 1, 3, 4, 2] k transposes_S2x8x2048x8x64_S2x8x8x64x2048_0_1_3_4_2)
      shapeCasts_S2x8x8x64x2048_S2x8x512x2048 (ix4 l b a s) = k (ix5 l b s ⟨a.val / 64, by omega⟩ ⟨a.val % 64, by omega⟩) := by
  pointwise

variable (m : (ℓ : Loc nD τ sig) → Buf (Elt Ideal) ℓ) (ρ : Dev nD → PrngReg)

theorem V_queries (c : Dev nD) : V m c main_v3 = shapeCast S8x2048x512 (truncf (F := Ideal) .bf16 (mulf (φ := .f32) (m ((c.tc : Thread nD τ).loc main_arg0)) (broadcastInDim S8x2048x8x64 ![] bcast_S_S8x2048x8x64 (constant (F := Ideal) S_ .f32 0x3E000000#32))) bitsLt_bf16_f32)
      shapeCasts_S8x2048x8x64_S8x2048x512 := by
  show StableHlo.after hostOps0 _ (Proc.devRef .tc main_v3) = _
  after_results
  rfl

theorem V_keys (c : Dev nD) : V m c main_v5 = shapeCast S2x8x512x2048 (transpose S2x8x8x64x2048 [0, 1, 3, 4, 2] (m ((c.tc : Thread nD τ).loc main_arg1)) transposes_S2x8x2048x8x64_S2x8x8x64x2048_0_1_3_4_2)
      shapeCasts_S2x8x8x64x2048_S2x8x512x2048 := by
  show StableHlo.after hostOps0 _ (Proc.devRef .tc main_v5) = _
  after_results
  rfl

theorem V_values (c : Dev nD) : V m c main_v7 = shapeCast S2x8x512x2048 (transpose S2x8x8x64x2048 [0, 1, 3, 4, 2] (m ((c.tc : Thread nD τ).loc main_arg2)) transposes_S2x8x2048x8x64_S2x8x8x64x2048_0_1_3_4_2)
      shapeCasts_S2x8x8x64x2048_S2x8x512x2048 := by
  show StableHlo.after hostOps0 _ (Proc.devRef .tc main_v7) = _
  after_results
  rfl

/-! ## The blocks of a grid point -/

/-- The batch row of a grid point. -/
def batch (t : Fin cfg0.N) : Fin 8 := ⟨t.val, t.isLt.trans_eq (N_0 ▸ rfl)⟩

theorem index0 (t : Fin cfg0.N) (a : Fin 1) : win0_0.index t a = 0 := by
  rcases fin_N0 t with rfl | rfl | rfl | rfl | rfl | rfl | rfl | rfl <;> (revert a; decide +kernel)
theorem index1 (t : Fin cfg0.N) : win0_1.index t 0 = t.val ∧ win0_1.index t 1 = 0 ∧ win0_1.index t 2 = 0 := by
  rcases fin_N0 t with rfl | rfl | rfl | rfl | rfl | rfl | rfl | rfl <;> decide +kernel
theorem index2 (t : Fin cfg0.N) : win0_2.index t 0 = 1 ∧ win0_2.index t 1 = t.val ∧ win0_2.index t 2 = 0 ∧ win0_2.index t 3 = 0 := by
  rcases fin_N0 t with rfl | rfl | rfl | rfl | rfl | rfl | rfl | rfl <;> decide +kernel
theorem index3 (t : Fin cfg0.N) : win0_3.index t 0 = 1 ∧ win0_3.index t 1 = t.val ∧ win0_3.index t 2 = 0 ∧ win0_3.index t 3 = 0 := by
  rcases fin_N0 t with rfl | rfl | rfl | rfl | rfl | rfl | rfl | rfl <;> decide +kernel
theorem index4 (t : Fin cfg0.N) : win0_4.index t 0 = t.val ∧ win0_4.index t 1 = 0 ∧ win0_4.index t 2 = 0 := by
  rcases fin_N0 t with rfl | rfl | rfl | rfl | rfl | rfl | rfl | rfl <;> decide +kernel

theorem block0_apply (c : Dev nD) (t : Fin cfg0.N) (h : Fin 8) : iblk m c 0 t (ix1 h) = m ((c.tc : Thread nD τ).loc main_arg3) (ix1 h) := by
  rw [← V_main_arg3 m c]
  refine congrArg (V m c main_arg3) (funext fun a => Fin.ext ?_)
  fin_cases a
  show win0_0.index t 0 * 8 + 1 * h.val = h.val
  rw [index0]
  omega

theorem block1_apply (c : Dev nD) (t : Fin cfg0.N) (s : Fin 2048) (a : Fin 512) : iblk m c 1 t (ix3 0 s a) = V m c main_v3 (ix3 (batch t) s a) := by
  obtain ⟨e0, e1, e2⟩ := index1 t
  refine congrArg (V m c main_v3) (funext fun x => Fin.ext ?_)
  fin_cases x
  · show win0_1.index t 0 * 1 + 1 * 0 = t.val
    omega
  · show win0_1.index t 1 * 2048 + 1 * s.val = s.val
    omega
  · show win0_1.index t 2 * 512 + 1 * a.val = a.val
    omega

theorem block2_apply (c : Dev nD) (t : Fin cfg0.N) (a : Fin 512) (s : Fin 2048) : iblk m c 2 t (ix4 0 0 a s) = V m c main_v5 (ix4 1 (batch t) a s) := by
  obtain ⟨e0, e1, e2, e3⟩ := index2 t
  refine congrArg (V m c main_v5) (funext fun x => Fin.ext ?_)
  fin_cases x
  · show win0_2.index t 0 * 1 + 1 * 0 = 1
    omega
  · show win0_2.index t 1 * 1 + 1 * 0 = t.val
    omega
  · show win0_2.index t 2 * 512 + 1 * a.val = a.val
    omega
  · show win0_2.index t 3 * 2048 + 1 * s.val = s.val
    omega

theorem block3_apply (c : Dev nD) (t : Fin cfg0.N) (a : Fin 512) (s : Fin 2048) : iblk m c 3 t (ix4 0 0 a s) = V m c main_v7 (ix4 1 (batch t) a s) := by
  obtain ⟨e0, e1, e2, e3⟩ := index3 t
  refine congrArg (V m c main_v7) (funext fun x => Fin.ext ?_)
  fin_cases x
  · show win0_3.index t 0 * 1 + 1 * 0 = 1
    omega
  · show win0_3.index t 1 * 1 + 1 * 0 = t.val
    omega
  · show win0_3.index t 2 * 512 + 1 * a.val = a.val
    omega
  · show win0_3.index t 3 * 2048 + 1 * s.val = s.val
    omega

/-- A nonnegative scale that is not infinite comes out of a sum. -/
theorem sum_scaled {n : ℕ} (f g : Fin n → EReal) (r : EReal) (h0 : 0 ≤ r) (h1 : r ≠ ⊤) : (∑ d, f d * (g d * r)) = (∑ d, g d * f d) * r := by
  have e : ∀ S : Finset (Fin n), (∑ d ∈ S, f d * (g d * r)) = (∑ d ∈ S, g d * f d) * r := fun S => by
    induction S using Finset.induction_on with
    | empty => simp
    | insert a S ha ih =>
      rw [Finset.sum_insert ha, Finset.sum_insert ha, ih, mul_comm (g a * f a + _) r, EReal.left_distrib_of_nonneg_of_ne_top h0 h1, mul_comm r (g a * f a), mul_comm r, mul_comm (g a) (f a), mul_assoc]
  exact e Finset.univ

theorem feature_div (h : Fin 8) (d : Fin 64) : (feature h d).val / 64 = h.val := by show (64 * h.val + d.val) / 64 = _; omega
theorem feature_mod (h : Fin 8) (d : Fin 64) : (feature h d).val % 64 = d.val := by show (64 * h.val + d.val) % 64 = _; omega

/-- The kernel's scores are the reference's. -/
theorem blockScore_eq (c : Dev nD) (t : Fin cfg0.N) (h : Fin 8) (x s : Fin 2048) :
    blockScore (iblk m c 0 t) (iblk m c 1 t) (iblk m c 2 t) h x s
      = score (m ((c.tc : Thread nD τ).loc main_arg0)) (m ((c.tc : Thread nD τ).loc main_arg1)) (m ((c.tc : Thread nD τ).loc main_arg3)) (batch t) h x s := by
  unfold blockScore score
  rw [block0_apply, ← sum_scaled _ _ _ (by exact_mod_cast (by norm_num : (0:ℝ) ≤ 0.125)) (EReal.coe_ne_top _)]
  refine congrArg (· + _) (Finset.sum_congr rfl fun d _ => ?_)
  rw [block1_apply, block2_apply, V_queries, V_keys, scaled_apply, turned_apply]
  simp only [feature_div, feature_mod]

/-- What the result holds after the run: the reference's array. -/
abbrev whole (c : Dev nD) : Vec Ideal S8x2048x512 .bf16 :=
  Cert.ReferenceIdeal.Read.val_main_v28 (F := Ideal) (m ((c.tc : Thread nD τ).loc main_arg0)) (m ((c.tc : Thread nD τ).loc main_arg1))
    (m ((c.tc : Thread nD τ).loc main_arg2)) (m ((c.tc : Thread nD τ).loc main_arg3))

theorem leaves_apply (c : Dev nD) (t : Fin cfg0.N) (s : Fin 2048) (a : Fin 512) : leaves m c t (ix3 0 s a) = whole m c (ix3 (batch t) s a) := by
  refine (attnBlock_apply _ _ _ _ s a).trans (Eq.trans ?_ (reference_apply _ _ _ _ (batch t) s a).symm)
  have ez : keyScore (iblk m c 0 t) (iblk m c 1 t) (iblk m c 2 t) ⟨a.val / 64, by omega⟩ s.val
      = fun n => score (m ((c.tc : Thread nD τ).loc main_arg0)) (m ((c.tc : Thread nD τ).loc main_arg1)) (m ((c.tc : Thread nD τ).loc main_arg3)) (batch t) ⟨a.val / 64, by omega⟩ s (place n) := funext fun n => by
    unfold keyScore
    rw [blockScore_eq, show place s.val = s from Fin.ext (place_val _ s.isLt)]
  have ev : keyValue (iblk m c 3 t) ⟨a.val / 64, by omega⟩ ⟨a.val % 64, by omega⟩
      = fun n => m ((c.tc : Thread nD τ).loc main_arg2) (ix5 1 (batch t) (place n) ⟨a.val / 64, by omega⟩ ⟨a.val % 64, by omega⟩) := funext fun n => by
    unfold keyValue
    rw [block3_apply, V_values, turned_apply]
    simp only [feature_div, feature_mod]
  rw [ez, ev]

/-- A grid point writes back its batch row of the reference's array. -/
theorem flushed_eq (c : Dev nD) (t : Fin cfg0.N) : (dats m 0 c).flushed 4 t = ((cfg0.win 4).blk t).view.read (Elt Ideal) (whole m c) := by
  obtain ⟨e0, e1, e2⟩ := index4 t
  refine funext fun (y : S1x2048x512.Idx) => ?_
  obtain ⟨s, a, rfl⟩ : ∃ (s : Fin 2048) (a : Fin 512), y = ix3 0 s a := ⟨y 1, y 2, funext fun a => by
    fin_cases a
    · exact Fin.ext (Nat.lt_one_iff.mp (y 0).isLt)
    · rfl
    · rfl⟩
  refine (leaves_apply m c t s a).trans (congrArg (whole m c) (funext fun x => Fin.ext ?_))
  fin_cases x
  · show t.val = win0_4.index t 0 * 1 + 1 * 0
    omega
  · show s.val = win0_4.index t 1 * 2048 + 1 * s.val
    omega
  · show a.val = win0_4.index t 2 * 512 + 1 * a.val
    omega

/-- The batch rows cover the result. -/
theorem cover (i : S8x2048x512.Idx) : ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 512 := (i 2).isLt
  have hN : cfg0.N = 8 := N_0
  refine ⟨⟨(i 0).val, by omega⟩, flush0_4 _, ?_⟩
  obtain ⟨e0, e1, e2⟩ := index4 ⟨(i 0).val, by omega⟩
  refine (Finset.ext_iff.mp (View.set_slice_whole main_v8 (win0_4.rect _)) i).mpr ((Pipeline.Window.mem_rect_iff win0_4 _ i rfl).mpr fun a => ?_)
  fin_cases a
  · show win0_4.index _ 0 * 1 ≤ (i 0).val ∧ (i 0).val < win0_4.index _ 0 * 1 + 1
    rw [e0]
    show (i 0).val * 1 ≤ _ ∧ _ < (i 0).val * 1 + 1
    omega
  · show win0_4.index _ 1 * 2048 ≤ (i 1).val ∧ (i 1).val < win0_4.index _ 1 * 2048 + 2048
    omega
  · show win0_4.index _ 2 * 512 ≤ (i 2).val ∧ (i 2).val < win0_4.index _ 2 * 512 + 512
    omega

theorem result_eq (c : Dev nD) : (dats m 0 c).arrAt 4 cfg0.N = whole m c :=
  (dats m 0 c).arrAt_eq_of_cover 4 (whole m c) (fun t _ => flushed_eq m c t) cover

/-- The run, read: the result is the reference's array, the arguments are kept. -/
theorem run_value : θ_run defs (onTc (τ := τ) (main (F := Ideal))) ⟨m, fun _ => 0, ρ⟩ (fun r => ∀ c : Dev nD,
    r.2.mem ((c.tc : Thread nD τ).loc main_v8) = whole m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨(result_of m r h.1 c).trans (result_eq m c), args_kept m r h.1 c⟩) (run_main m ρ)

end Cert.Proof.KernelIdeal

end
-- ==== Proof.ExpertKit.lean ====
/- The launch of the expert kernel: its host operations, its tables, its windows' blocks. -/
module

public import proofs.«01_k».proof.Proof.Gen.ExpertIdeal.Launch
public import proofs.«01_k».proof.Proof.Gen.ExpertIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Proof.ExpertIdeal

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers when the kernel is launched: after the host's operations. -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

set_option maxHeartbeats 800000 in
/-- The program up to the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3] (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation writes an argument: the launch finds each as it was. -/
theorem V_arg (c : Dev nD) (b : Ref sig .tc) (hb : b = main_arg0 ∨ b = main_arg1 ∨ b = main_arg2 ∨ b = main_arg3 ∨ b = main_arg4) :
    V m c b = m ((c : Thread nD τ).loc b) := by
  rcases hb with rfl | rfl | rfl | rfl | rfl <;>
    refine StableHlo.after_of_forall_not_mem _ _ (List.forall_iff_forall_mem.mp ?_) <;>
    (simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, Finset.mem_singleton]
     repeat' apply And.intro
     all_goals exact StableHlo.devRef_ne_of_ne (by decide))

/-! ## The prefetched tables, read off the launch memory -/

/-- The tables when the kernel is launched. -/
def tbl : pre0.Contents (Elt F) := fun j => V m (0 : Dev nD) (pre0.ref j)
/-- The one device holds them. -/
theorem V_pre (c : Dev nD) (j : Fin 2) : V m c (pre0.ref j) = tbl m j := by
  obtain rfl : c = 0 := Subsingleton.elim _ _; rfl
/-- The blocks the tables name are blocks of the arrays. -/
abbrev Ok : Prop := ok0 (F := F) (tbl m)
/-- The pipeline at these tables. -/
abbrev adm (hO : Ok m) : (pcfg0 (F := F)).Adm := ⟨tbl m, hO⟩
abbrev cfgM (hO : Ok m) : Pipeline.Cfg sig Λ₀ := cfg0 (adm m hO)

/-- The tables as the body is handed them. -/
abbrev tbM0_0 : Memref sig .tc .smem S137 .i32 := Memref.whole main_v24
abbrev htbM0_0 : tbM0_0.IsWhole := Memref.isWhole_whole _
abbrev tbM0_1 : Memref sig .tc .smem S1 .i32 := Memref.whole main_v25
abbrev htbM0_1 : tbM0_1.IsWhole := Memref.isWhole_whole _

/-- A table's half share, which the body reads under. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- Both tables' halves, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- A window's block at a point. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0 stages its block. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 stages its block. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 stages its block. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 stages its block. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.Proof.ExpertIdeal

end
-- ==== Proof.ExpertBody.lean ====
/- The body of the expert kernel: what it leaves in its result's buffer. -/
module

public import proofs.«01_k».proof.Proof.ExpertKit
public import Idealize.ShloMosaic.Lib.VecWindow
public import Idealize.ShloMosaic.Lib.Pointwise

@[expose] public section

set_option maxRecDepth 16384

noncomputable section

namespace Cert.Proof.ExpertIdeal

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The rectangle of the count of tiles. -/
abbrev theWord : Rect S1 := Rect.unit (s := S1) ![0] S1.size inb_S1_S1_0

/-- Five hundred and twelve columns of a weight, the `j`-th such part. -/
def cols (w : Vec F S1x1024x2816 .bf16) (j : Fin 5) : Vec F S1x1024x512 .bf16 :=
  fun y => w (ix3 0 (y 1) ⟨512 * j.val + (y 2).val, by have h2 : (y 2).val < 512 := (y 2).isLt; omega⟩)

/-- The last two hundred and fifty-six columns. -/
def lastCols (w : Vec F S1x1024x2816 .bf16) : Vec F S1x1024x256 .bf16 :=
  fun y => w (ix3 0 (y 1) ⟨2560 + (y 2).val, by have h2 : (y 2).val < 256 := (y 2).isLt; omega⟩)

/-- A tile's hidden features: the parts side by side. -/
def hidden (x : Vec F S256x1024 .bf16) (w1 w3 : Vec F S1x1024x2816 .bf16) : Vec F S256x2816 .bf16 := fun y =>
  if h : (y 1).val < 2560 then
    k0_pay5 x (cols w1 ⟨(y 1).val / 512, by omega⟩) (cols w3 ⟨(y 1).val / 512, by omega⟩) (ix2 (y 0) ⟨(y 1).val % 512, by omega⟩)
  else k0_pay2 (k0_pay4 x) (lastCols w1) (lastCols w3) (ix2 (y 0) ⟨(y 1).val - 2560, by have h1 : (y 1).val < 2816 := (y 1).isLt; omega⟩)

/-- A tile of the result. -/
def tileOut (x : Vec F S256x1024 .bf16) (w1 w3 : Vec F S1x1024x2816 .bf16) (w2 : Vec F S1x2816x1024 .bf16) : Vec F S256x1024 .bf16 :=
  k0_pay3 (hidden x w1 w3) w2

theorem cols_inb : ∀ j : Fin 5, ∀ a, (![0, 0, 512 * j.val] : Fin 3 → ℕ) a + S1x1024x512.size a ≤ S1x1024x2816.size a := by decide
theorem part_inb : ∀ j : Fin 5, ∀ a, (![0, 512 * j.val] : Fin 2 → ℕ) a + S256x512.size a ≤ S256x2816.size a := by decide

section

variable {sp sp' : Space} (v v' : View sig .tc sp S1x1024x2816 .bf16) (X : v.ty.Contents (Elt F)) (X' : v'.ty.Contents (Elt F)) (x : Vec F S256x1024 .bf16)

theorem read_cols (j : Fin 5) : v.readAt (Elt F) (Rect.unit (s := S1x1024x2816) ![0, 0, 512 * j.val] S1x1024x512.size (cols_inb j)).toLoadRect X = cols (v.read (Elt F) X) j := by
  refine funext fun y => congrArg (v.read (Elt F) X) (funext fun a => Fin.ext ?_)
  have h0 : (y 0).val = 0 := Nat.lt_one_iff.mp (y 0).isLt
  fin_cases a
  · show 0 + 1 * (y 0).val = 0
    omega
  · show 0 + 1 * (y 1).val = (y 1).val
    omega
  · show 512 * j.val + 1 * (y 2).val = 512 * j.val + (y 2).val
    omega

theorem read_lastCols : v.readAt (Elt F) (Rect.unit (s := S1x1024x2816) ![0, 0, 2560] S1x1024x256.size inb_S1x1024x2816_S1x1024x256_0_0_2560).toLoadRect X = lastCols (v.read (Elt F) X) := by
  refine funext fun y => congrArg (v.read (Elt F) X) (funext fun a => Fin.ext ?_)
  have h0 : (y 0).val = 0 := Nat.lt_one_iff.mp (y 0).isLt
  fin_cases a
  · show 0 + 1 * (y 0).val = 0
    omega
  · show 0 + 1 * (y 1).val = (y 1).val
    omega
  · show 2560 + 1 * (y 2).val = 2560 + (y 2).val
    omega

/-- The store of a part. -/
abbrev part (j : Fin 5) : View.Piece (Elt F) S256x2816 .bf16 :=
  ⟨Rect.unit (s := S256x2816) ![0, 512 * j.val] S256x512.size (part_inb j),
    k0_pay5 x (v.readAt (Elt F) (Rect.unit (s := S1x1024x2816) ![0, 0, 512 * j.val] S1x1024x512.size (cols_inb j)).toLoadRect X)
      (v'.readAt (Elt F) (Rect.unit (s := S1x1024x2816) ![0, 0, 512 * j.val] S1x1024x512.size (cols_inb j)).toLoadRect X')⟩

/-- The store of the last part. -/
abbrev lastPart : View.Piece (Elt F) S256x2816 .bf16 :=
  ⟨Rect.unit (s := S256x2816) ![0, 2560] S256x256.size inb_S256x2816_S256x256_0_2560,
    k0_pay2 (k0_pay4 x) (v.readAt (Elt F) (Rect.unit (s := S1x1024x2816) ![0, 0, 2560] S1x1024x256.size inb_S1x1024x2816_S1x1024x256_0_0_2560).toLoadRect X)
      (v'.readAt (Elt F) (Rect.unit (s := S1x1024x2816) ![0, 0, 2560] S1x1024x256.size inb_S1x1024x2816_S1x1024x256_0_0_2560).toLoadRect X')⟩

/-- The scratch's stores, the newest first. -/
abbrev parts : List (View.Piece (Elt F) S256x2816 .bf16) :=
  [lastPart v v' X X' x, part v v' X X' x 4, part v v' X X' x 3, part v v' X X' x 2, part v v' X X' x 1, part v v' X X' x 0]

theorem part_apply (j : Fin 5) (y : S256x512.Idx) :
    (part v v' X X' x j).2 y = hidden x (v.read (Elt F) X) (v'.read (Elt F) X') ((part v v' X X' x j).1.emb y) := by
  have h1 : (y 1).val < 512 := (y 1).isLt
  have e1 : (((part v v' X X' x j).1.emb y) 1).val = 512 * j.val + (y 1).val := by
    show 512 * j.val + 1 * (y 1).val = _
    omega
  have e0 : (((part v v' X X' x j).1.emb y) 0).val = (y 0).val := by
    show 0 + 1 * (y 0).val = _
    omega
  show k0_pay5 x _ _ y = _
  rw [read_cols, read_cols]
  unfold hidden
  rw [dif_pos (by rw [e1]; omega)]
  have q : (⟨(((part v v' X X' x j).1.emb y) 1).val / 512, by rw [e1]; omega⟩ : Fin 5) = j := Fin.ext (by show _ / 512 = _; rw [e1]; omega)
  rw [q]
  refine congrArg (k0_pay5 x _ _) (funext fun a => Fin.ext ?_)
  fin_cases a
  · exact e0.symm
  · show (y 1).val = (((part v v' X X' x j).1.emb y) 1).val % 512
    rw [e1]
    omega

theorem lastPart_apply (y : S256x256.Idx) :
    (lastPart v v' X X' x).2 y = hidden x (v.read (Elt F) X) (v'.read (Elt F) X') ((lastPart v v' X X' x).1.emb y) := by
  have h1 : (y 1).val < 256 := (y 1).isLt
  have e1 : (((lastPart v v' X X' x).1.emb y) 1).val = 2560 + (y 1).val := by
    show 2560 + 1 * (y 1).val = _
    omega
  have e0 : (((lastPart v v' X X' x).1.emb y) 0).val = (y 0).val := by
    show 0 + 1 * (y 0).val = _
    omega
  show k0_pay2 _ _ _ y = _
  rw [read_lastCols, read_lastCols]
  unfold hidden
  rw [dif_neg (by rw [e1]; omega)]
  refine congrArg (k0_pay2 _ _ _) (funext fun a => Fin.ext ?_)
  fin_cases a
  · exact e0.symm
  · show (y 1).val = (((lastPart v v' X X' x).1.emb y) 1).val - 2560
    rw [e1]
    omega

/-- The scratch read back. -/
theorem read_parts (w : View sig .tc sp' S256x2816 .bf16) (f : w.ty.Contents (Elt F)) :
    w.read (Elt F) (w.writes (Elt F) f (parts v v' X X' x)) = hidden x (v.read (Elt F) X) (v'.read (Elt F) X') := funext fun y =>
  View.read_writes_apply_of_pieces w f _ _ (by
    intro p hp
    simp only [List.mem_cons, List.not_mem_nil, or_false] at hp
    rcases hp with rfl | rfl | rfl | rfl | rfl | rfl
    · exact lastPart_apply v v' X X' x
    all_goals exact part_apply v v' X X' x _) y
    (View.cover_of_tiledBy (parts v v' X X' x) ![256, 256] (by sl_kernel_rfl) y)

end

set_option maxHeartbeats 1000000 in
/-- A grid point whose tile holds rows. -/
theorem body_run (c : Dev nD) (i : grid0.Coords) (arg3 : Memref sig .tc .vmem S256x1024 .bf16) (harg3 : arg3.IsWhole) (arg4 : Memref sig .tc .vmem S1x1024x2816 .bf16) (harg4 : arg4.IsWhole)
    (arg5 : Memref sig .tc .vmem S1x1024x2816 .bf16) (harg5 : arg5.IsWhole) (arg6 : Memref sig .tc .vmem S1x2816x1024 .bf16) (harg6 : arg6.IsWhole) (arg7 : Memref sig .tc .vmem S256x1024 .bf16) (harg7 : arg7.IsWhole)
    (arg8 : Memref sig .tc .vmem S256x2816 .bf16) (harg8 : arg8.IsWhole)
    (T1 : TbBuf0 (F := F) c tbM0_1)
    (X3 : BufTy.Contents (Elt F) arg3.view.ty) (X4 : BufTy.Contents (Elt F) arg4.view.ty) (X5 : BufTy.Contents (Elt F) arg5.view.ty)
    (X6 : BufTy.Contents (Elt F) arg6.view.ty) (f7 : BufTy.Contents (Elt F) arg7.view.ty) (f8 : BufTy.Contents (Elt F) arg8.view.ty)
    (live : k0_cond1 i (tbM0_1.view.readAt (Elt F) theWord.toLoadRect T1 (Shape.Idx.first (Nat.lt_of_lt_of_eq Nat.one_pos numel1_S1.symm))) = 1#1) :
    iprop(tbPt0 c tbM0_1 T1 ∗ (arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7)
      ∗ (arg8.view.loc (c : Thread nD τ) ↦[arg8.view.set]{fullShare} f8))
    ⊢ wp frame (wpE (defs₀ (F := F)) Variants.none (c : Thread nD τ) none) Set.univ (cc0_moe_expert (F := F) i tbM0_0 htbM0_0 tbM0_1 htbM0_1 arg3 harg3 arg4 harg4 arg5 harg5 arg6 harg6 arg7 harg7 arg8 harg8) (fun _ =>
      (iprop(tbPt0 c tbM0_1 T1 ∗ (arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6)
      ∗ (∃ g7 : BufTy.Contents (Elt F) arg7.view.ty, ⌜arg7.view.read (Elt F) g7 = tileOut (arg3.view.read (Elt F) X3) (arg4.view.read (Elt F) X4) (arg5.view.read (Elt F) X5) (arg6.view.read (Elt F) X6)⌝
          ∗ (arg7.view.loc (c : Thread nD τ) ↦[arg7.view.set]{fullShare} g7))
      ∗ (∃ g8 : BufTy.Contents (Elt F) arg8.view.ty, arg8.view.loc (c : Thread nD τ) ↦[arg8.view.set]{fullShare} g8)) : sProp 𝕄G)) := by
  iintro ⟨HT, H3, H4, H5, H6, H7, H8⟩
  unfold cc0_moe_expert
  sl_exec
  sl_step
  have e : body_run.sl.v88 arg3 arg4 arg5 arg6 arg8 X3 X4 X5 X6 = tileOut (arg3.view.read (Elt F) X3) (arg4.view.read (Elt F) X4) (arg5.view.read (Elt F) X5) (arg6.view.read (Elt F) X6) := by
    show k0_pay3 (arg8.view.readAt (Elt F) (Rect.unit (s := S256x2816) ![0, 0] S256x2816.size inb_S256x2816_S256x2816_0_0).toLoadRect
        (arg8.view.writes (Elt F) arg8.view.junk (parts arg4.view arg5.view X4 X5 (arg3.view.readAt (Elt F) (Rect.unit (s := S256x1024) ![0, 0] S256x1024.size inb_S256x1024_S256x1024_0_0).toLoadRect X3))))
      (arg6.view.readAt (Elt F) (Rect.unit (s := S1x2816x1024) ![0, 0, 0] S1x2816x1024.size inb_S1x2816x1024_S1x2816x1024_0_0_0).toLoadRect X6) = _
    rw [View.readAt_full, View.readAt_full, View.readAt_full, read_parts]
    rfl
  iframe HT
  iframe H3
  iframe H4
  iframe H5
  iframe H6
  isplitl [H7]
  · iexists _
    isplitr
    swap
    · iexact H7
    · ipureintro
      rw [e]
      exact View.read_writes_full _ _ _ _ _
  iexists _
  iexact H8

/-- A grid point past the last tile: it stores nothing. -/
theorem body_skip (c : Dev nD) (i : grid0.Coords) (arg3 : Memref sig .tc .vmem S256x1024 .bf16) (harg3 : arg3.IsWhole) (arg4 : Memref sig .tc .vmem S1x1024x2816 .bf16) (harg4 : arg4.IsWhole)
    (arg5 : Memref sig .tc .vmem S1x1024x2816 .bf16) (harg5 : arg5.IsWhole) (arg6 : Memref sig .tc .vmem S1x2816x1024 .bf16) (harg6 : arg6.IsWhole) (arg7 : Memref sig .tc .vmem S256x1024 .bf16) (harg7 : arg7.IsWhole)
    (arg8 : Memref sig .tc .vmem S256x2816 .bf16) (harg8 : arg8.IsWhole)
    (T1 : TbBuf0 (F := F) c tbM0_1)
    (dead : ¬ k0_cond1 i (tbM0_1.view.readAt (Elt F) theWord.toLoadRect T1 (Shape.Idx.first (Nat.lt_of_lt_of_eq Nat.one_pos numel1_S1.symm))) = 1#1) :
    (tbPt0 c tbM0_1 T1 : sProp 𝕄G)
    ⊢ wp frame (wpE (defs₀ (F := F)) Variants.none (c : Thread nD τ) none) Set.univ (cc0_moe_expert (F := F) i tbM0_0 htbM0_0 tbM0_1 htbM0_1 arg3 harg3 arg4 harg4 arg5 harg5 arg6 harg6 arg7 harg7 arg8 harg8) (fun _ =>
      (tbPt0 c tbM0_1 T1 : sProp 𝕄G)) := by
  iintro HT
  unfold cc0_moe_expert
  sl_exec
  sl_step
  iexact HT

end Cert.Proof.ExpertIdeal

end
-- ==== Proof.ExpertRun.lean ====
/- What every grid point of the expert kernel leaves in its result's buffer. -/
module

public import proofs.«01_k».proof.Proof.ExpertBody
public import Idealize.ShloMosaic.Lib.WordArith

@[expose] public section

set_option maxRecDepth 16384

noncomputable section

namespace Cert.Proof.ExpertIdeal

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The count of tiles the launch finds in its table. -/
structure Tiles (n : ℕ) : Prop where
  pos : 1 ≤ n
  lt : n < 2 ^ 31
  word : (tbl m 1 : S1.Idx → BitVec 32) = fun _ => BitVec.ofNat 32 n

theorem cond_iff (i : grid0.Coords) {n : ℕ} (h : n < 2 ^ 31) : k0_cond1 i (BitVec.ofNat 32 n) = 1#1 ↔ (i 0).val < n := by
  have hi : (i 0).val < 137 := (i 0).isLt
  have e : ∀ b : BitVec 1, Scalar.cmpi .ne (Scalar.extui b : BitVec 32) 0#32 = b := by decide
  unfold k0_cond1
  exact (Iff.of_eq (congrArg (· = 1#1) (e _))).trans (WordCmp.cmpi_slt_ofNat_eq_one_iff (by omega) (by omega))

/-- The tile a point's blocks are. -/
theorem tile_word (i : grid0.Coords) {n : ℕ} (h1 : 1 ≤ n) (h : n < 2 ^ 31) :
    (Scalar.minsi (BitVec.ofNat 32 (i 0).val) (Scalar.subi (BitVec.ofNat 32 n) 1#32)).toNat = min (i 0).val (n - 1) := by
  have hi : (i 0).val < 137 := (i 0).isLt
  have e : Scalar.subi (BitVec.ofNat 32 n) 1#32 = BitVec.ofNat 32 (n - 1) := by
    show BitVec.ofNat 32 n - 1#32 = _
    apply BitVec.eq_of_toNat_eq
    simp only [BitVec.toNat_sub, BitVec.toNat_ofNat]
    omega
  rw [e]
  refine (WordArith.toNat_minsi_of_lt _ _ ?_ ?_).trans ?_ <;> simp only [BitVec.toNat_ofNat] <;> omega

theorem coords_val (t : Fin grid0.N) : (grid0.coords t 0).val = t.val := by
  revert t
  decide +kernel

theorem not_beq {b : BitVec 1} {p : Prop} [Decidable p] (h : b = 1#1 ↔ p) : (!(b == 1#1)) = decide (¬ p) := by
  by_cases hp : p
  · rw [h.mpr hp, decide_eq_false (not_not_intro hp)]
    rfl
  · rw [decide_eq_true hp, beq_eq_false_iff_ne.mpr (mt h.mp hp)]
    rfl

theorem idle_fn (a : (pcfg0 (F := F)).Adm) : (cfg0 a).idle = idle0 a.1 := rfl

theorem idle_at (a : (pcfg0 (F := F)).Adm) (i : grid0.Coords) {p : Prop} [Decidable p] (h : k0_cond1 i (a.1.atD 1 ![0]) = 1#1 ↔ p) :
    (cfg0 a).idle 4 i = decide (¬ p) := by
  rw [idle_fn]
  exact not_beq h

theorem index_at (a : (pcfg0 (F := F)).Adm) (t : Fin grid0.N) : ((cfg0 a).win 4).index t = cc0_transform_4 inb_S1_S1_0 numel1_S1 a.1 (grid0.coords t) := rfl

variable {m} {n : ℕ}

section

variable (hO : Ok m) (T : Tiles m n)

include T

theorem table_read (i : grid0.Coords) : k0_cond1 i (tbM0_1.view.readAt (Elt F) theWord.toLoadRect (tbl m 1) (Shape.Idx.first (Nat.lt_of_lt_of_eq Nat.one_pos numel1_S1.symm))) = 1#1 ↔ (i 0).val < n := by
  refine Iff.trans (Iff.of_eq (congrArg (k0_cond1 i · = 1#1) ?_)) (cond_iff i T.lt)
  exact congrFun T.word _

theorem idle_eq (t : Fin (cfgM m hO).N) : (cfgM m hO).idle 4 ((cfgM m hO).grid.coords t) = decide (¬ t.val < n) := by
  have e : (tbl m).atD 1 ![0] = BitVec.ofNat 32 n := congrFun T.word _
  have h : k0_cond1 (grid0.coords t) ((tbl m).atD 1 ![0]) = 1#1 ↔ t.val < n := by
    rw [e, cond_iff _ T.lt, coords_val]
  exact idle_at (adm m hO) (grid0.coords t) h

theorem index_eq (t : Fin (cfgM m hO).N) : ((cfgM m hO).win 4).index t = (![min t.val (n - 1), 0] : Fin 2 → ℕ) := by
  have e : (tbl m).at 1 (Rect.unit (s := S1) ![0] S1.size inb_S1_S1_0) numel1_S1 = BitVec.ofNat 32 n := congrFun T.word _
  refine (index_at (adm m hO) t).trans ?_
  unfold cc0_transform_4
  simp only []
  rw [e, tile_word _ T.pos T.lt, coords_val]
  rfl

theorem no_flush (t : Fin (cfgM m hO).N) (ht : t.val + 1 < 137) (hn : n ≤ t.val + 1) : ((cfgM m hO).win 4).flush t = false := by
  have hN : (cfgM m hO).grid.N = 137 := N_0
  unfold Window.flush
  rw [Bool.and_eq_false_iff]
  right
  rw [Bool.or_eq_false_iff]
  refine ⟨decide_eq_false (by omega), decide_eq_false ?_⟩
  rintro ⟨h, hne⟩
  refine hne ?_
  rw [index_eq hO T, index_eq hO T]
  have := T.pos
  show (![min (t.val + 1) (n - 1), 0] : Fin 2 → ℕ) = ![min t.val (n - 1), 0]
  rw [show min (t.val + 1) (n - 1) = min t.val (n - 1) from by omega]

/-- Past the last tile the buffer holds what the last tile left. -/
theorem not_fresh (k : ℕ) (hk : n ≤ k) (hN : k < 137) : (cfgM m hO).fresh 4 k = false := by
  have hn := T.pos
  have hg : (cfgM m hO).N = 137 := N_0
  induction k, hk using Nat.le_induction with
  | base =>
    obtain ⟨k, rfl⟩ : ∃ k, n = k + 1 := ⟨n - 1, by omega⟩
    rw [Cfg.fresh_succ _ _ _ (by omega), no_flush hO T ⟨k, by omega⟩ (by omega) (by simp only; omega),
      idle_eq hO T, decide_eq_false (by simp only; omega)]
    rfl
  | succ k hk ih =>
    rw [Cfg.fresh_succ _ _ _ (by omega), no_flush hO T ⟨k, by omega⟩ (by omega) (by simp only; omega), ih (by omega), Bool.and_false]
    rfl

end

variable (m) (n)

/-- The point that computes the tile point `t` leaves in the buffer. -/
def lastLive (hO : Ok m) (t : Fin (cfgM m hO).N) : Fin (cfgM m hO).N := ⟨min t.val (n - 1), lt_of_le_of_lt (Nat.min_le_left _ _) t.isLt⟩

/-- The tile the result's buffer holds after point `t`. -/
def leaves (hO : Ok m) (c : Dev nD) (t : Fin (cfgM m hO).N) : Vec F S256x1024 .bf16 :=
  tileOut (iblk m hO c 0 (lastLive m n hO t)) (iblk m hO c 1 (lastLive m n hO t)) (iblk m hO c 2 (lastLive m n hO t)) (iblk m hO c 3 (lastLive m n hO t))

/-- The proof data: each input's block left in place, the result's tile as its point computes it, the tables' halves with
    the body's own. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => leaves m n hO c t
  Φ _ := iprop(Pipeline.ΦA spec0 c ∗ Pipeline.ΦT pre0 (tbl m) c)
  q _ := fullShare
  owed _ := 0

variable {m} {n}

theorem leaves_carry (hO : Ok m) (T : Tiles m n) (c : Dev nD) (t : Fin (cfgM m hO).N) (h0 : t.val ≠ 0) (h : n ≤ t.val) :
    leaves m n hO c t = leaves m n hO c ⟨t.val - 1, by omega⟩ := by
  have e : lastLive m n hO t = lastLive m n hO ⟨t.val - 1, by omega⟩ := Fin.ext (by
    have := T.pos
    show min t.val (n - 1) = min (t.val - 1) (n - 1)
    omega)
  unfold leaves
  rw [e]

theorem before_idle (hO : Ok m) (T : Tiles m n) (c : Dev nD) (t : Fin (cfgM m hO).N) (h : n ≤ t.val) (d) :
    (dats m n hO 0 c).before 4 t d = leaves m n hO c t := by
  have hn := T.pos
  have hg : (cfgM m hO).N = 137 := N_0
  have ht := t.isLt
  rw [(dats m n hO 0 c).before_out_traj 4 rfl (fun _ _ => rfl) (fun t h0 hi _ => by
      rw [idle_eq hO T, decide_eq_true_eq] at hi
      exact leaves_carry hO T c t h0 (by omega)) t.val t rfl d, not_fresh hO T t.val h (by omega), if_neg Bool.false_ne_true]
  exact (leaves_carry hO T c t (by omega) h).symm

end Cert.Proof.ExpertIdeal

end
-- ==== Proof.ExpertPoint.lean ====
/- The launch of the expert kernel. -/
module

public import proofs.«01_k».proof.Proof.ExpertRun

@[expose] public section

set_option maxRecDepth 16384

noncomputable section

namespace Cert.Proof.ExpertIdeal

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

variable {m : (ℓ : Loc nD τ sig) → Buf (Elt F) ℓ} {n : ℕ}

/-- The point's body, on the buffers `s` names. -/
abbrev pointAt (t : Fin grid0.N) (s : (w : Fin 5) → Fin (spec0 w).nbuf) :=
  cc0_moe_expert (F := F) (grid0.coords t) tbM0_0 htbM0_0 tbM0_1 htbM0_1 (spec0_0.stage (s 0)) (hstage0_0 ((s 0).cast nbuf0_0)) (spec0_1.stage (s 1)) (hstage0_1 ((s 1).cast nbuf0_1))
    (spec0_2.stage (s 2)) (hstage0_2 ((s 2).cast nbuf0_2)) (spec0_3.stage (s 3)) (hstage0_3 ((s 3).cast nbuf0_3)) (spec0_4.stage (s 4)) (hstage0_4 ((s 4).cast nbuf0_4)) (Memref.whole cc0_scratch0) (Memref.isWhole_whole _)

/-- The kernel's own scratch, at anything. -/
abbrev scratch (c : Dev nD) : sProp 𝕄G := iprop(∃ f : Buf (Elt F) ((c : Thread nD τ).loc cc0_scratch0), ((c : Thread nD τ).loc cc0_scratch0) ↦{fullShare} f)

/-- The five buffers `s` names, whole, at their contents. -/
abbrev five (c : Dev nD) (s : (w : Fin 5) → Fin (spec0 w).nbuf) (x0 : Vec F S256x1024 .bf16) (x1 x2 : Vec F S1x1024x2816 .bf16) (x3 : Vec F S1x2816x1024 .bf16) (x4 : Vec F S256x1024 .bf16) : sProp 𝕄G :=
  iprop(owns (c : Thread nD τ) (spec0_0.stage (s 0)) fullShare x0 ∗ owns (c : Thread nD τ) (spec0_1.stage (s 1)) fullShare x1 ∗ owns (c : Thread nD τ) (spec0_2.stage (s 2)) fullShare x2
    ∗ owns (c : Thread nD τ) (spec0_3.stage (s 3)) fullShare x3 ∗ owns (c : Thread nD τ) (spec0_4.stage (s 4)) fullShare x4)

theorem point_live (T : Tiles m n) (c : Dev nD) (t : Fin grid0.N) (s : (w : Fin 5) → Fin (spec0 w).nbuf) (live : t.val < n) (x0 : Vec F S256x1024 .bf16) (x1 x2 : Vec F S1x1024x2816 .bf16) (x3 : Vec F S1x2816x1024 .bf16) (x4 : Vec F S256x1024 .bf16) :
    (iprop((scratch c ∗ tbPt0 c tbM0_1 (tbl m 1)) ∗ five c s x0 x1 x2 x3 x4) : sProp 𝕄G)
    ⊢ wp frame (wpE (defs₀ (F := F)) Variants.none (c : Thread nD τ) none) Set.univ (pointAt t s) (fun _ =>
      iprop((scratch c ∗ tbPt0 c tbM0_1 (tbl m 1)) ∗ five c s x0 x1 x2 x3 (tileOut x0 x1 x2 x3))) := by
  unfold five owns
  iintro ⟨⟨⟨%f8, H8⟩, HT⟩, ⟨%f0, %hf0, H0⟩, ⟨%f1, %hf1, H1⟩, ⟨%f2, %hf2, H2⟩, ⟨%f3, %hf3, H3⟩, ⟨%f4, -, H4⟩⟩
  iapply (wp_wand_r frame _ Set.univ)
  isplitl [HT H0 H1 H2 H3 H4 H8]
  · iapply (body_run c (grid0.coords t) (spec0_0.stage (s 0)) (hstage0_0 ((s 0).cast nbuf0_0)) (spec0_1.stage (s 1)) (hstage0_1 ((s 1).cast nbuf0_1))
      (spec0_2.stage (s 2)) (hstage0_2 ((s 2).cast nbuf0_2)) (spec0_3.stage (s 3)) (hstage0_3 ((s 3).cast nbuf0_3)) (spec0_4.stage (s 4)) (hstage0_4 ((s 4).cast nbuf0_4))
      (Memref.whole cc0_scratch0) (Memref.isWhole_whole _)
      (tbl m 1) f0 f1 f2 f3 f4 f8 ((table_read T (grid0.coords t)).mpr (by rw [coords_val]; exact live)))
    isplitl [HT]; · iexact HT
    isplitl [H0]; · iexact H0
    isplitl [H1]; · iexact H1
    isplitl [H2]; · iexact H2
    isplitl [H3]; · iexact H3
    isplitl [H4]; · iexact H4
    simp only [Memref.view_whole, View.set_whole]
    iexact H8
  iintro %u ⟨HT, H0, H1, H2, H3, ⟨%g4, %hg4, H4⟩, ⟨%g8, H8⟩⟩
  simp only [Memref.view_whole, View.set_whole]
  isplitl [HT H8]
  · isplitl [H8]; · iexists g8; iexact H8
    iexact HT
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  iexists g4; isplitr; swap; (· iexact H4)
  ipureintro
  refine hg4.trans ?_
  rw [hf0, hf1, hf2, hf3]

theorem point_dead (T : Tiles m n) (c : Dev nD) (t : Fin grid0.N) (s : (w : Fin 5) → Fin (spec0 w).nbuf) (dead : ¬ t.val < n) (R : sProp 𝕄G) :
    (iprop((scratch c ∗ tbPt0 c tbM0_1 (tbl m 1)) ∗ R) : sProp 𝕄G)
    ⊢ wp frame (wpE (defs₀ (F := F)) Variants.none (c : Thread nD τ) none) Set.univ (pointAt t s) (fun _ => iprop((scratch c ∗ tbPt0 c tbM0_1 (tbl m 1)) ∗ R)) := by
  iintro ⟨⟨H8, HT⟩, HR⟩
  iapply (wp_wand_r frame _ Set.univ)
  isplitl [HT]
  · iapply (body_skip c (grid0.coords t) (spec0_0.stage (s 0)) (hstage0_0 ((s 0).cast nbuf0_0)) (spec0_1.stage (s 1)) (hstage0_1 ((s 1).cast nbuf0_1))
      (spec0_2.stage (s 2)) (hstage0_2 ((s 2).cast nbuf0_2)) (spec0_3.stage (s 3)) (hstage0_3 ((s 3).cast nbuf0_3)) (spec0_4.stage (s 4)) (hstage0_4 ((s 4).cast nbuf0_4))
      (Memref.whole cc0_scratch0) (Memref.isWhole_whole _) (tbl m 1) (fun h => dead (by rw [← coords_val t]; exact (table_read T (grid0.coords t)).mp h)))
    iexact HT
  iintro %u HT
  isplitl [H8 HT]
  · isplitl [H8]; · iexact H8
    iexact HT
  iexact HR

/-- A point of the grid, whether it computes or not. -/
theorem point (hO : Ok m) (T : Tiles m n) (c : Dev nD) (t : Fin (cfgM m hO).N) (d) :
    (iprop((scratch c ∗ tbPt0 c tbM0_1 (tbl m 1)) ∗ five c ((cfgM m hO).slots t) (iblk m hO c 0 t) (iblk m hO c 1 t) (iblk m hO c 2 t) (iblk m hO c 3 t) ((dats m n hO 0 c).before 4 t d)) : sProp 𝕄G)
    ⊢ wp frame (wpE (defs₀ (F := F)) Variants.none (c : Thread nD τ) none) Set.univ (pointAt t ((cfgM m hO).slots t)) (fun _ =>
      iprop((scratch c ∗ tbPt0 c tbM0_1 (tbl m 1)) ∗ five c ((cfgM m hO).slots t) (iblk m hO c 0 t) (iblk m hO c 1 t) (iblk m hO c 2 t) (iblk m hO c 3 t) (leaves m n hO c t))) := by
  by_cases live : t.val < n
  · have e : lastLive m n hO t = t := Fin.ext (by show min t.val (n - 1) = t.val; omega)
    unfold leaves
    rw [e]
    exact point_live T c t ((cfgM m hO).slots t) live _ _ _ _ _
  · rw [before_idle hO T c t (by omega)]
    exact point_dead T c t ((cfgM m hO).slots t) live _

theorem take_in (hO : Ok m) (c : Dev nD) (t : Fin (cfgM m hO).N) (w : Fin 5) (X) (h : ∀ d, (dats m n hO 0 c).before w t d = X) :
    (iprop(∃ d, owns (c : Thread nD τ) (((cfgM m hO).win w).stage ((cfgM m hO).slots t w)) fullShare ((dats m n hO 0 c).before w t d)) : sProp 𝕄G)
    ⊢ owns (c : Thread nD τ) (((cfgM m hO).win w).stage ((cfgM m hO).slots t w)) fullShare X := by
  iintro ⟨%d, H⟩
  rw [← h d]
  iexact H

theorem before_0 (hO : Ok m) (c : Dev nD) (t : Fin (cfgM m hO).N) (d) : (dats m n hO 0 c).before 0 t d = iblk m hO c 0 t := before0_0_of m hO (dats m n hO 0 c) rfl (fun _ => rfl) t d
theorem before_1 (hO : Ok m) (c : Dev nD) (t : Fin (cfgM m hO).N) (d) : (dats m n hO 0 c).before 1 t d = iblk m hO c 1 t := before0_1_of m hO (dats m n hO 0 c) rfl (fun _ => rfl) t d
theorem before_2 (hO : Ok m) (c : Dev nD) (t : Fin (cfgM m hO).N) (d) : (dats m n hO 0 c).before 2 t d = iblk m hO c 2 t := before0_2_of m hO (dats m n hO 0 c) rfl (fun _ => rfl) t d
theorem before_3 (hO : Ok m) (c : Dev nD) (t : Fin (cfgM m hO).N) (d) : (dats m n hO 0 c).before 3 t d = iblk m hO c 3 t := before0_3_of m hO (dats m n hO 0 c) rfl (fun _ => rfl) t d

/-- Every window's buffer as point `t` is handed it: an input's block, the result's whatever it was. -/
theorem taken (hO : Ok m) (c : Dev nD) (t : Fin (cfgM m hO).N) :
    (bigSep Finset.univ fun w : Fin 5 => iprop(∃ d, owns (c : Thread nD τ) (((cfgM m hO).win w).stage ((cfgM m hO).slots t w)) fullShare ((dats m n hO 0 c).before w t d)) : sProp 𝕄G)
    ⊢ iprop(∃ d, five c ((cfgM m hO).slots t) (iblk m hO c 0 t) (iblk m hO c 1 t) (iblk m hO c 2 t) (iblk m hO c 3 t) ((dats m n hO 0 c).before 4 t d)) := by
  rw [bigSep_W0]
  refine BIBase.Entails.trans (BIClass.sep_mono (take_in hO c t 0 _ (before_0 hO c t)) (BIClass.sep_mono (take_in hO c t 1 _ (before_1 hO c t)) (BIClass.sep_mono (take_in hO c t 2 _ (before_2 hO c t)) (BIClass.sep_mono (take_in hO c t 3 _ (before_3 hO c t)) .refl)))) ?_
  iintro ⟨H0, H1, H2, H3, ⟨%d, H4⟩⟩
  iexists d
  isplitl [H0]; · iexact H0
  isplitl [H1]; · iexact H1
  isplitl [H2]; · iexact H2
  isplitl [H3]; · iexact H3
  iexact H4

/-- The tile in the buffer at a point that computes none: it is what the buffer held. -/
theorem give_idle (hO : Ok m) (T : Tiles m n) (c : Dev nD) (t : Fin (cfgM m hO).N) (h : (cfgM m hO).idle 4 ((cfgM m hO).grid.coords t) = true) :
    (owns (c : Thread nD τ) (((cfgM m hO).win 4).stage ((cfgM m hO).slots t 4)) fullShare (leaves m n hO c t) : sProp 𝕄G)
    ⊢ iprop(∃ d, owns (c : Thread nD τ) (((cfgM m hO).win 4).stage ((cfgM m hO).slots t 4)) fullShare ((dats m n hO 0 c).before 4 t d)) := by
  rw [idle_eq hO T, decide_eq_true_eq] at h
  have e : (owns (c : Thread nD τ) (((cfgM m hO).win 4).stage ((cfgM m hO).slots t 4)) fullShare (leaves m n hO c t) : sProp 𝕄G)
      = owns (c : Thread nD τ) (((cfgM m hO).win 4).stage ((cfgM m hO).slots t 4)) fullShare ((dats m n hO 0 c).before 4 t (leaves m n hO c t)) :=
    congrArg (owns (c : Thread nD τ) (((cfgM m hO).win 4).stage ((cfgM m hO).slots t 4)) fullShare) (before_idle hO T c t (by omega) (leaves m n hO c t)).symm
  rw [e]
  iintro H
  iexists (leaves m n hO c t)
  iexact H

/-- A point of the grid with all it holds. -/
theorem whole_point (hO : Ok m) (T : Tiles m n) (c : Dev nD) (t : Fin (cfgM m hO).N) (Hg HT0 Ho : sProp 𝕄G) (d) :
    (iprop(((scratch c ∗ Hg) ∗ HT0 ∗ tbPt0 c tbM0_1 (tbl m 1)) ∗ Ho ∗ five c ((cfgM m hO).slots t) (iblk m hO c 0 t) (iblk m hO c 1 t) (iblk m hO c 2 t) (iblk m hO c 3 t) ((dats m n hO 0 c).before 4 t d)) : sProp 𝕄G)
    ⊢ wp frame (wpE (defs₀ (F := F)) Variants.none (c : Thread nD τ) none) Set.univ (pointAt t ((cfgM m hO).slots t)) (fun _ =>
      iprop(((scratch c ∗ Hg) ∗ HT0 ∗ tbPt0 c tbM0_1 (tbl m 1)) ∗ Ho ∗ five c ((cfgM m hO).slots t) (iblk m hO c 0 t) (iblk m hO c 1 t) (iblk m hO c 2 t) (iblk m hO c 3 t) (leaves m n hO c t))) := by
  iintro ⟨⟨⟨H8, Hg⟩, HT0, HT1⟩, Howes, H⟩
  iapply (wp_wand_r frame _ Set.univ)
  isplitl [H8 HT1 H]
  · iapply (point hO T c t d)
    isplitl [H8 HT1]
    · isplitl [H8]; · iexact H8
      iexact HT1
    iexact H
  iintro %u ⟨⟨H8, HT1⟩, H⟩
  isplitl [H8 HT1 Hg HT0]
  · isplitl [H8 Hg]
    · isplitl [H8]; · iexact H8
      iexact Hg
    isplitl [HT0]; · iexact HT0
    iexact HT1
  isplitl [Howes]; · iexact Howes
  iexact H

/-- A body obligation from its plain form: the windows an idle point leaves alone are given back as they were taken. -/
theorem obligation_of {cfg : Cfg sig Λ₀} {c : Dev nD} (dat : Dat τ (Elt F) Unit ℕ (UR sig nD τ) ℕ cfg c)
    (h : ∀ t : Fin cfg.N, (iprop(dat.Φ t.castSucc ∗ dat.owesAt () t.castSucc
        ∗ bigSep Finset.univ fun w : Fin cfg.W => iprop(∃ d, owns (c : Thread nD τ) ((cfg.win w).stage (cfg.slots t w)) fullShare (dat.before w t d))) : sProp 𝕄G)
      ⊢ wp frame (wpE (defs₀ (F := F)) Variants.none (c : Thread nD τ) none) Set.univ (defs₀ .tc cfg.body (cfg.bodyArgs t (cfg.slots t))) (fun _ => iprop(dat.Φ t.succ ∗ dat.owesAt () t.succ
        ∗ bigSep Finset.univ fun w : Fin cfg.W => owns (c : Thread nD τ) ((cfg.win w).stage (cfg.slots t w)) fullShare (dat.after w t))))
    (hi : ∀ (w : Fin cfg.W) (t : Fin cfg.N), cfg.idle w (cfg.grid.coords t) = true → (owns (c : Thread nD τ) ((cfg.win w).stage (cfg.slots t w)) fullShare (dat.after w t) : sProp 𝕄G)
      ⊢ iprop(∃ d, owns (c : Thread nD τ) ((cfg.win w).stage (cfg.slots t w)) fullShare (dat.before w t d))) :
    BodyObligation dat (defs₀ (F := F)) Variants.none () Set.univ := fun t => (h t).trans (wp_mono frame _ Set.univ fun _ => BI.sep_mono (BI.Entails.refl _) (BI.sep_mono (BI.Entails.refl _) (bigSep_mono fun w _ => by
  have hw := hi w t
  generalize cfg.idle w (cfg.grid.coords t) = b at hw ⊢
  generalize (cfg.win w).flush t = f
  cases b
  · exact (BI.Entails.refl _)
  · cases f
    · exact hw rfl
    · exact (BI.Entails.refl _))))

theorem idle_only (hO : Ok m) (w : Fin 5) (i : grid0.Coords) (h : (cfgM m hO).idle w i = true) : w = 4 := by
  rw [show (cfgM m hO).idle = idle0 (tbl m) from idle_fn (adm m hO)] at h
  revert h
  match w with
  | 0 => exact fun h => Bool.noConfusion h
  | 1 => exact fun h => Bool.noConfusion h
  | 2 => exact fun h => Bool.noConfusion h
  | 3 => exact fun h => Bool.noConfusion h
  | 4 => exact fun _ => rfl

/-- The body at a grid point, in the pipeline's terms. -/
theorem body_obligation (hO : Ok m) (T : Tiles m n) (c : Dev nD) : BodyObligation (dats m n hO 0 c) (defs₀ (F := F)) Variants.none () Set.univ := by
  refine obligation_of (dats m n hO 0 c) (fun t => ?_) (fun w t h => ?_)
  · rw [show (dats m n hO 0 c).Φ t.castSucc = iprop(Pipeline.ΦA spec0 c ∗ Pipeline.ΦT pre0 (tbl m) c) from rfl,
      show (dats m n hO 0 c).Φ t.succ = iprop(Pipeline.ΦA spec0 c ∗ Pipeline.ΦT pre0 (tbl m) c) from rfl,
      show (dats m n hO 0 c).owesAt () t.succ = (dats m n hO 0 c).owesAt () t.castSucc from rfl]
    unfold Pipeline.ΦA
    rw [scopedRest0_eq, PhiT0_eq]
    refine BIBase.Entails.trans (BIClass.sep_mono .refl (BIClass.sep_mono .refl (taken hO c t))) ?_
    refine BIBase.Entails.trans (Q := iprop(∃ d, ((scratch c ∗ (∃ r, prngReg c r)) ∗ tbPt0 c tbM0_0 (tbl m 0) ∗ tbPt0 c tbM0_1 (tbl m 1)) ∗ (dats m n hO 0 c).owesAt () t.castSucc ∗ five c ((cfgM m hO).slots t) (iblk m hO c 0 t) (iblk m hO c 1 t) (iblk m hO c 2 t) (iblk m hO c 3 t) ((dats m n hO 0 c).before 4 t d))) ?_ ?_
    · iintro ⟨HA, Ho, ⟨%d, H⟩⟩
      iexists d
      isplitl [HA]; · iexact HA
      isplitl [Ho]; · iexact Ho
      iexact H
    · refine exists_elim fun d => (whole_point hO T c t _ _ _ d).trans (wp_mono frame _ Set.univ fun _ => BIClass.sep_mono .refl (BIClass.sep_mono .refl ?_))
      refine BIBase.Entails.trans ?_ (Entails.of_eq (bigSep_W0 _).symm)
      exact .refl
  · obtain rfl := idle_only hO w _ h
    exact give_idle hO T c t h

variable (m) (ρ : Dev nD → PrngReg)

theorem run_main (hO : Ok m) (T : Tiles m n) : θ_run defs (onTc (τ := τ) (main (F := F))) ⟨m, fun _ => 0, ρ⟩ (fun r => Pipeline.FramePost (Pipeline.pin pcfgs fun _ => adm m hO) (dats m n hO) 0 (V m) r ∧ r.2.sem = fun _ => 0) :=
  Pipeline.θ_run_frameP pcfgs (fun _ => adm m hO) (dats m n hO) (0 : Fin 1) launch0 (defs₀ (F := F)) Variants.none (m := m) (g := ρ) (main := main (F := F))
    (hbody := fun c => (body_obligation hO T c).loose) (hshare := fun c w => by unfold Dat.share; split <;> rfl) (howed := fun _ _ => rfl)
    (V := V m) (hmain := hmain m Variants.none) (hA := fun _ _ => rfl) (hpf := fun c k => V_pre m c k) (hΦ := fun _ _ => rfl) (Q' := _)

/-- After the run every argument holds what it held: no window stages one. -/
theorem args_kept (hO : Ok m) (r : PUnit × MemSt nD τ sig (Elt F)) (h : Pipeline.FramePost (Pipeline.pin pcfgs fun _ => adm m hO) (dats m n hO) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  have k : ∀ b (hb : b = main_arg0 ∨ b = main_arg1 ∨ b = main_arg2 ∨ b = main_arg3 ∨ b = main_arg4) (hr : b ∈ Pipeline.restRefs sig spec0), r.2.mem ((c.tc : Thread nD τ).loc b) = m ((c.tc : Thread nD τ).loc b) :=
    fun b hb hr => ((h c).2 b hr).trans (V_arg m c b hb)
  exact ⟨k main_arg0 (.inl rfl) (by decide), k main_arg1 (.inr (.inl rfl)) (by decide), k main_arg2 (.inr (.inr (.inl rfl))) (by decide), k main_arg3 (.inr (.inr (.inr (.inl rfl)))) (by decide), k main_arg4 (.inr (.inr (.inr (.inr rfl)))) (by decide)⟩

end Cert.Proof.ExpertIdeal

end
-- ==== Proof.ExpertCount.lean ====
/- The counting behind the expert call: each expert's rows round up to whole tiles of 256, laid one expert after another. -/
module

public import Idealize.ShloMosaic.Lib.Routing.Ops
public import Idealize.ShloMosaic.Lib.Routing.OpsOrder
public import Idealize.ShloMosaic.Lib.Routing.Words
public import Idealize.ShloMosaic.Lib.ReduceAll
public import Idealize.ShloMosaic.Lib.WordCmp

@[expose] public section

noncomputable section

namespace Cert.Proof.Count

open Idealize.ShloMosaic Idealize.ShloMosaic.Routing Idealize.ShloMosaic.ValueIdx

abbrev Counts := IVec (shape1 8) 32

/-- Expert `q`'s rows. -/
def cnt (x : Counts) (q : Nat) : Nat := if h : q < 8 then (x (ix1 ⟨q, h⟩)).toNat else 0

/-- Expert `q`'s tiles. -/
def tiles (x : Counts) (q : Nat) : Nat := (cnt x q + 255) / 256

/-- The tile after expert `q`'s last. -/
def ends (x : Counts) (q : Nat) : Nat := ((List.range (q + 1)).map (tiles x)).sum

/-- The tiles in all. -/
abbrev total (x : Counts) : Nat := ends x 7

/-- The expert of tile `t`. -/
def expertAt (x : Counts) (t : Nat) : Nat := Nat.count (fun q => ends x q ≤ t) 8

/-- Rows were sent, and no more than there is room for. -/
structure Sent (x : Counts) : Prop where
  le : ∀ q, cnt x q ≤ 33280
  pos : ∃ q, q < 8 ∧ 0 < cnt x q

variable {x : Counts}

theorem cnt_word (x : Counts) (q : Fin 8) : x (ix1 q) = BitVec.ofNat 32 (cnt x q.val) := by
  rw [cnt, dif_pos q.isLt, BitVec.ofNat_toNat, BitVec.setWidth_eq]

theorem ends_succ (x : Counts) (q : Nat) : ends x (q + 1) = ends x q + tiles x (q + 1) := by
  rw [ends, ends, List.range_succ (n := q + 1), List.map_append, List.sum_append]
  simp

theorem ends_zero (x : Counts) : ends x 0 = tiles x 0 := by simp [ends]

theorem tiles_le (hx : Sent x) (q : Nat) : tiles x q ≤ 130 := by
  have := hx.le q
  unfold tiles
  omega

theorem ends_le (hx : Sent x) (q : Nat) : ends x q ≤ 130 * (q + 1) := by
  induction q with
  | zero => rw [ends_zero]; simpa using tiles_le hx 0
  | succ q ih => rw [ends_succ]; have := tiles_le hx (q + 1); omega

theorem ends_mono (x : Counts) {p q : Nat} (h : p ≤ q) : ends x p ≤ ends x q := by
  induction q with
  | zero => obtain rfl : p = 0 := by omega
            exact le_rfl
  | succ q ih =>
    rcases Nat.lt_or_ge q p with hp | hp
    · obtain rfl : p = q + 1 := by omega
      exact le_rfl
    · rw [ends_succ]; have := ih hp; omega

theorem tiles_le_ends (x : Counts) (q : Nat) : tiles x q ≤ ends x q := by
  cases q with
  | zero => exact (ends_zero x).ge
  | succ q => rw [ends_succ]; omega

theorem total_pos (hx : Sent x) : 1 ≤ total x := by
  obtain ⟨q, hq, hp⟩ := hx.pos
  have h1 := tiles_le_ends x q
  have h2 := ends_mono x (show q ≤ 7 by omega)
  have h3 : 1 ≤ tiles x q := by unfold tiles; omega
  exact h3.trans (h1.trans h2)

theorem total_lt (hx : Sent x) : total x < 2 ^ 31 := by
  have := ends_le hx 7
  show ends x 7 < _
  omega

theorem expertAt_lt (x : Counts) {t : Nat} (h : t < total x) : expertAt x t < 8 := by
  unfold expertAt
  rw [Nat.count_succ, if_neg (show ¬ ends x 7 ≤ t from Nat.not_le.mpr h)]
  exact Nat.lt_succ_of_le (Nat.count_le _)

/-- A row's expert is its tile's. -/
theorem expert_of_row (x : Counts) (t a : Nat) (ha : a < 256) : Nat.count (fun q => 256 * ends x q ≤ 256 * t + a) 8 = expertAt x t :=
  count_congr_of_lt 8 fun q _ => by constructor <;> intro h <;> omega

section Words

variable (hx : Sent x)
include hx

/-- A count rounded up to whole tiles, as the host computes it. -/
theorem tiles_word (hb : shape0.BroadcastsInDim (shape1 8) (![] : Fin 0 → Fin (shape1 8).rank)) (q : Fin 8) :
    pyDiv hb (subi (addi x (broadcastInDim (shape1 8) ![] hb (constantI shape0 32 256#32))) (broadcastInDim (shape1 8) ![] hb (constantI shape0 32 1#32)))
      (constantI shape0 32 256#32) (ix1 q) = BitVec.ofNat 32 (tiles x q.val) := by
  have h := hx.le q.val
  refine pyDiv_ap hb _ _ _ (a := cnt x q.val + 255) (b := 256) ?_ rfl (by omega) (by omega) (by omega)
  rw [subi_ap, addi_ap, bc0, bc0, cnt_word x q]
  show BitVec.ofNat 32 _ + BitVec.ofNat 32 256 - BitVec.ofNat 32 1 = _
  apply BitVec.eq_of_toNat_eq
  simp only [BitVec.toNat_sub, BitVec.toNat_add, BitVec.toNat_ofNat]
  omega

/-- Their running sum. -/
theorem ends_word (v : Counts) (hv : ∀ q : Fin 8, v (ix1 q) = BitVec.ofNat 32 (tiles x q.val)) (init : IVec shape0 32) (hinit : init ix0 = 0#32)
    (h : (shape1 8).ReduceWindows (![8] : Fin 1 → Nat) ![1] ![7] ![0] (shape1 8)) (hu : 0 < shape0.numel) (q : Fin 8) :
    Host.reduceWindow IntOp.addi ![8] ![1] ![7] ![0] v init h hu (ix1 q) = BitVec.ofNat 32 (ends x q.val) :=
  cumsum1 rfl v (tiles x) hv init hinit h hu q

/-- How many experts end by a tile, counted as the host counts it. -/
theorem expert_word {n : Nat} (p : IVec (shape1 n) 32) (e : Counts) (g : Fin n → Nat) (hp : ∀ t, p (ix1 t) = BitVec.ofNat 32 (g t)) (hg : ∀ t, g t < 2 ^ 31)
    (s : Nat) (hs : s ≤ 256) (he : ∀ q : Fin 8, e (ix1 q) = BitVec.ofNat 32 (s * ends x q.val))
    (h₁ : (shape1 n).BroadcastsInDim (shape2 n 1) (![0] : Fin 1 → Fin (shape2 n 1).rank)) (h₂ : (shape2 n 1).BroadcastsInDim (shape2 n 8) (![0, 1] : Fin 2 → Fin (shape2 n 8).rank))
    (h₃ : (shape1 8).BroadcastsInDim (shape2 1 8) (![1] : Fin 1 → Fin (shape2 1 8).rank)) (h₄ : (shape2 1 8).BroadcastsInDim (shape2 n 8) (![0, 1] : Fin 2 → Fin (shape2 n 8).rank))
    (hw : 1 < 32) (h : (shape2 n 8).ReducesTo [1] (shape1 n)) (hu : 0 < shape0.numel) (t : Fin n) :
    Host.reduce IntOp.addi (extui 32 (cmpi .sge (broadcastInDim (shape2 n 8) ![0, 1] h₂ (broadcastInDim (shape2 n 1) ![0] h₁ p))
      (broadcastInDim (shape2 n 8) ![0, 1] h₄ (broadcastInDim (shape2 1 8) ![1] h₃ e))) hw) (constantI shape0 32 0#32) h hu (ix1 t)
      = BitVec.ofNat 32 (Nat.count (fun q => s * ends x q ≤ g t) 8) := by
  refine reduce_count (by decide) _ hw h hu t _ fun q => ?_
  show IntOp.cmpi .sge _ _ = 1#1 ↔ _
  rw [bcRows h₁ h₂ p t q, bcCols h₃ h₄ e t q, hp, he]
  have hq := ends_le hx q.val
  have hm : s * ends x q.val ≤ 256 * (130 * 8) := Nat.mul_le_mul hs (by omega)
  rw [WordCmp.cmpi_sge_ofNat (w := 32) (hg t) (by show _ < 2 ^ 31; omega), StableHlo.Predicate.ofBool_eq_one_iff, decide_eq_true_eq]

end Words

/-- The precondition read back: every count is in range and one is positive. -/
theorem sent_of (x : Counts) (hb : shape0.BroadcastsInDim (shape1 8) (![] : Fin 0 → Fin (shape1 8).rank)) (hr : (shape1 8).ReducesTo [0] shape0) (hu : 0 < shape0.numel)
    (h : andi (Host.reduce IntOp.andi (andi (cmpi .sge x (broadcastInDim (shape1 8) ![] hb (constantI shape0 32 0#32)))
        (cmpi .sle x (broadcastInDim (shape1 8) ![] hb (constantI shape0 32 33280#32)))) (constantI shape0 1 1#1) hr hu)
      (Host.reduce IntOp.ori (cmpi .sgt x (broadcastInDim (shape1 8) ![] hb (constantI shape0 32 0#32))) (constantI shape0 1 0#1) hr hu) = fun _ => 1#1) : Sent x := by
  have h0 := congrFun h ix0
  obtain ⟨ha, ho⟩ := IntOp.andi_eq_one.mp h0
  have hle : ∀ q : Fin 8, (x (ix1 q)).toNat ≤ 33280 := by
    intro q
    haveI : Subsingleton shape0.Idx := ⟨fun a b => funext fun k => k.elim0⟩
    have hq := Host.reduce_andi_all _ _ hr hu ix0 ha (ix1 q)
    obtain ⟨h1, h2⟩ := IntOp.andi_eq_one.mp hq
    have h3 := IntOp.cmpi_sge.mp h1
    have h4 := IntOp.cmpi_sle.mp h2
    rw [bc0] at h3 h4
    have e := BitVec.toInt_eq_toNat_cond (x (ix1 q))
    have e1 : (constantI shape0 32 0#32 ix0).toInt = 0 := rfl
    have e2 : (constantI shape0 32 33280#32 ix0).toInt = 33280 := rfl
    rw [e1] at h3
    rw [e2] at h4
    have := (x (ix1 q)).isLt
    split at e <;> omega
  refine ⟨fun q => ?_, ?_⟩
  · unfold cnt
    split
    · exact hle _
    · omega
  · rw [Host.reduce_eq_fold] at ho
    obtain ⟨i, hi, hp⟩ := (fold_ori _ _).mp ho
    have h1 := IntOp.cmpi_sgt.mp hp
    rw [bc0] at h1
    have e1 : (constantI shape0 32 0#32 ix0).toInt = 0 := rfl
    rw [e1] at h1
    obtain ⟨q, rfl⟩ : ∃ q : Fin 8, i = ix1 q := ⟨i 0, eq_ix1 i⟩
    refine ⟨q.val, q.isLt, ?_⟩
    rw [cnt, dif_pos q.isLt]
    show 0 < (x (ix1 q)).toNat
    have h1 : 0 < (x (ix1 q)).toInt := h1
    have e := BitVec.toInt_eq_toNat_cond (x (ix1 q))
    have := hle q
    split at e <;> omega

end Cert.Proof.Count

end
-- ==== Proof.ExpertTables.lean ====
/- The tables the expert kernel is launched with: where each expert's tiles end, and the expert of each tile. -/
module

public import proofs.«01_k».proof.Proof.ExpertKit
public import proofs.«01_k».proof.Proof.ExpertRun
public import proofs.«01_k».proof.Proof.ExpertCount
public import proofs.«01_k».proof.Pre_sent

@[expose] public section

set_option maxRecDepth 16384

noncomputable section

namespace Cert.Proof.ExpertIdeal

open Cert.ExpertIdeal Cert.ExpertIdeal.Gen
open Idealize.ShloMosaic Idealize.ShloMosaic.TcCoe Idealize.ShloMosaic.Tactic
open Idealize.ShloMosaic.Routing

variable {F : FTy → Type} [FloatOps F]

/-- How many tiles each expert's rows take. -/
def tilesOf (count : IVec S8 32) : IVec S8 32 :=
  pyDiv bcast_S_S8 (subi (addi count (broadcastInDim S8 ![] bcast_S_S8 (constantI S_ 32 256#32))) (broadcastInDim S8 ![] bcast_S_S8 (constantI S_ 32 1#32))) (constantI S_ 32 256#32)

/-- The tile after each expert's last. -/
def endsOf (tiles : IVec S8 32) : IVec S8 32 :=
  Host.reduceWindow IntOp.addi ![8] ![1] ![7] ![0] tiles (broadcastInDim S_ ![] bcast_S_S_ (constantI S_ 32 0#32)) reduceWindows_S8_S8_w8s1p7_0 h_S_

/-- How many tiles there are. -/
def totalOf (ends : IVec S8 32) : IVec S_ 32 := shapeCast S_ (extractStridedSlice S1 ![7] ends slices_S8_S1_7) shapeCasts_S1_S_

/-- The tile each point works at. -/
def pointOf (total : IVec S_ 32) : IVec S137 32 :=
  minsi (iotaInDim S137 32 0) (broadcastInDim S137 ![] bcast_S_S137 (subi total (constantI S_ 32 1#32)))

/-- The expert of each point's tile. -/
def expertOf (ends : IVec S8 32) (point : IVec S137 32) : IVec S137 32 :=
  Host.reduce IntOp.addi (extui 32 (cmpi .sge (broadcastInDim S137x8 ![0, 1] bcast_S137x1_S137x8_0_1 (broadcastInDim S137x1 ![0] bcast_S137_S137x1_0 point))
    (broadcastInDim S137x8 ![0, 1] bcast_S1x8_S137x8_0_1 (broadcastInDim S1x8 ![1] bcast_S8_S1x8_1 ends))) natLt_1_32) (constantI S_ 32 0#32) reducesTo_S137x8_S137_d1 h_S_

variable (m : (ℓ : Loc nD τ sig) → Buf (Elt F) ℓ)

/-- The counts the run starts from. -/
abbrev counts (c : Dev nD) : IVec S8 32 := m ((c : Thread nD τ).loc main_arg1)

/-- The host operations, a stretch at a time. -/
theorem V_eq (c : Dev nD) (b : Ref sig .tc) :
    V m c b = StableHlo.after hostOps0_3 (StableHlo.after hostOps0_2 (StableHlo.after hostOps0_1 (StableHlo.after hostOps0 fun b => m (c, b)))) (Proc.devRef .tc b) := rfl

section Stretches

attribute [local irreducible] Host.reduceWindow Host.reduce

variable (W : Valuation τ sig (Elt F))

theorem first_rows : StableHlo.after hostOps0 W (Proc.devRef .tc main_v9) =
    subi (addi (W (Proc.devRef .tc main_arg1)) (broadcastInDim S8 ![] bcast_S_S8 (constantI S_ 32 256#32))) (broadcastInDim S8 ![] bcast_S_S8 (constantI S_ 32 1#32)) := by
  after_results

theorem first_rest : StableHlo.after hostOps0 W (Proc.devRef .tc main_c_1) = constantI S_ 32 256#32 := by
  after_results

theorem second_tiles : StableHlo.after hostOps0_1 W (Proc.devRef .tc main_v10) =
    pyDiv bcast_S_S8 (W (Proc.devRef .tc main_v9)) (W (Proc.devRef .tc main_c_1)) := by
  after_results
  rfl

theorem third_ends : StableHlo.after hostOps0_2 W (Proc.devRef .tc main_v11) = endsOf (W (Proc.devRef .tc main_v10)) := by
  after_results
  rfl

theorem fourth_total : StableHlo.after hostOps0_3 W (Proc.devRef .tc main_v25) = shapeCast S1 (totalOf (W (Proc.devRef .tc main_v11))) shapeCasts_S_S1 := by
  after_results
  rfl

theorem fourth_expert : StableHlo.after hostOps0_3 W (Proc.devRef .tc main_v24) = expertOf (W (Proc.devRef .tc main_v11)) (pointOf (totalOf (W (Proc.devRef .tc main_v11)))) := by
  after_results
  rfl

end Stretches

theorem V_total (c : Dev nD) : V m c main_v25 = shapeCast S1 (totalOf (endsOf (tilesOf (counts m c)))) shapeCasts_S_S1 := by
  rw [V_eq, fourth_total, third_ends, second_tiles, first_rows, first_rest]
  rfl

theorem V_expert (c : Dev nD) : V m c main_v24 = expertOf (endsOf (tilesOf (counts m c))) (pointOf (totalOf (endsOf (tilesOf (counts m c))))) := by
  rw [V_eq, fourth_expert, third_ends, second_tiles, first_rows, first_rest]
  rfl

section Words

variable {x : IVec S8 32} (hx : Count.Sent x)
include hx

theorem tilesOf_at (q : Fin 8) : tilesOf x (ValueIdx.ix1 q) = BitVec.ofNat 32 (Count.tiles x q.val) := Count.tiles_word hx bcast_S_S8 q

theorem endsOf_at (q : Fin 8) : endsOf (tilesOf x) (ValueIdx.ix1 q) = BitVec.ofNat 32 (Count.ends x q.val) :=
  Count.ends_word hx _ (tilesOf_at hx) _ (bc0 bcast_S_S_ _ _) reduceWindows_S8_S8_w8s1p7_0 h_S_ q

theorem totalOf_eq : totalOf (endsOf (tilesOf x)) = fun _ => BitVec.ofNat 32 (Count.total x) := by
  funext i
  unfold totalOf
  rw [shapeCast_apply _ shapeCasts_S1_S_ i (ValueIdx.ix1 (0 : Fin 1)) rfl]
  exact (slice1 7 _ slices_S8_S1_7 (0 : Fin 1) (by decide)).trans (endsOf_at hx 7)

theorem pointOf_at (t : Fin 137) : pointOf (totalOf (endsOf (tilesOf x))) (ValueIdx.ix1 t) = BitVec.ofNat 32 (min t.val (Count.total x - 1)) := by
  have h1 := Count.total_pos hx
  have h2 := Count.total_lt hx
  have ht := t.isLt
  unfold pointOf
  show IntOp.minsi _ _ = _
  rw [iota1_ap, bc0 bcast_S_S137, subi_ap, totalOf_eq hx]
  show IntOp.minsi _ (BitVec.ofNat 32 _ - 1#32) = _
  rw [StableHlo.Predicate.sub_one_ofNat _ h1 (by omega)]
  apply BitVec.eq_of_toNat_eq
  refine (WordArith.toNat_minsi_of_lt _ _ ?_ ?_).trans ?_ <;> simp only [BitVec.toNat_ofNat] <;> omega

/-- The tile point `t` works at is one of the tiles. -/
theorem tile_lt (t : Nat) : min t (Count.total x - 1) < Count.total x := by
  have := Count.total_pos hx
  omega

theorem expertOf_at (t : Fin 137) :
    expertOf (endsOf (tilesOf x)) (pointOf (totalOf (endsOf (tilesOf x)))) (ValueIdx.ix1 t) = BitVec.ofNat 32 (Count.expertAt x (min t.val (Count.total x - 1))) := by
  have h2 := Count.total_lt hx
  refine (Count.expert_word hx _ _ _ (pointOf_at hx) (fun t => by have := t.isLt; omega) 1 (by decide) (fun q => ?_)
    bcast_S137_S137x1_0 bcast_S137x1_S137x8_0_1 bcast_S8_S1x8_1 bcast_S1x8_S137x8_0_1 natLt_1_32 reducesTo_S137x8_S137_d1 h_S_ t).trans ?_
  · rw [Nat.one_mul]; exact endsOf_at hx q
  · simp only [Nat.one_mul]
    rfl

end Words

section Tables

variable (hx : Count.Sent (counts m 0))
include hx

theorem total_table : (tbl m 1 : S1.Idx → BitVec 32) = fun _ => BitVec.ofNat 32 (Count.total (counts m 0)) := by
  refine (V_total m 0).trans ?_
  rw [totalOf_eq hx]
  rfl

theorem tiles_of_sent : Tiles m (Count.total (counts m 0)) := ⟨Count.total_pos hx, Count.total_lt hx, total_table m hx⟩

theorem expert_table (t : Fin 137) : (tbl m 0 : S137.Idx → BitVec 32) (ValueIdx.ix1 t) = BitVec.ofNat 32 (Count.expertAt (counts m 0) (min t.val (Count.total (counts m 0) - 1))) :=
  (congrFun (V_expert m 0) (ValueIdx.ix1 t)).trans (expertOf_at hx t)

/-- The expert the windows of the weights move to. -/
theorem expert_index (i : grid0.Coords) :
    ((tbl m).at 0 (Rect.unit (s := S137) ![(Scalar.indexCast (BitVec.ofNat 32 (i 0).val) : BitVec 32).toNat] S1.size (k0_off1_inb i)) numel1_S1 : BitVec 32).toNat
      = Count.expertAt (counts m 0) (min (i 0).val (Count.total (counts m 0) - 1)) := by
  have hi : (i 0).val < 137 := (i 0).isLt
  have e := expert_table m hx ⟨(i 0).val, hi⟩
  have hlt := Count.expertAt_lt (counts m 0) (tile_lt hx (i 0).val)
  have e' : (Rect.unit (s := S137) ![(Scalar.indexCast (BitVec.ofNat 32 (i 0).val) : BitVec 32).toNat] S1.size (k0_off1_inb i)).emb
      (Shape.Idx.first (numel1_S1.symm ▸ Nat.one_pos)) = ValueIdx.ix1 (⟨(i 0).val, hi⟩ : Fin 137) := by
    funext a
    obtain rfl : a = 0 := Subsingleton.elim _ _
    apply Fin.ext
    show (BitVec.ofNat 32 (i 0).val).toNat + _ * 0 = (i 0).val
    rw [BitVec.toNat_ofNat]
    omega
  refine (congrArg (fun k => ((tbl m 0 : S137.Idx → BitVec 32) k).toNat) e').trans ?_
  show ((tbl m 0 : S137.Idx → BitVec 32) (ValueIdx.ix1 ⟨(i 0).val, hi⟩)).toNat = _
  rw [e, BitVec.toNat_ofNat]
  exact Nat.mod_eq_of_lt (lt_trans hlt (by decide))

theorem tile_index (i : grid0.Coords) :
    (Scalar.minsi (BitVec.ofNat 32 (i 0).val) (Scalar.subi ((tbl m).at 1 (Rect.unit (s := S1) ![0] S1.size inb_S1_S1_0) numel1_S1) 1#32)).toNat
      = min (i 0).val (Count.total (counts m 0) - 1) := by
  have e : (tbl m).at 1 (Rect.unit (s := S1) ![0] S1.size inb_S1_S1_0) numel1_S1 = BitVec.ofNat 32 (Count.total (counts m 0)) := congrFun (total_table m hx) _
  rw [e]
  exact tile_word i (Count.total_pos hx) (Count.total_lt hx)

/-- The tables name blocks of the arrays. -/
theorem ok_of_sent : Ok m := by
  have ht : ∀ i : grid0.Coords, ∃ h : (∀ a, (cc0_transform_0 inb_S1_S1_0 numel1_S1 (tbl m) i a + 1) * S256x1024.size a ≤ S35072x1024.size a),
      EltTy.bits .bf16 = 32 ∨ (Rect.block (s := S35072x1024) S256x1024.size (cc0_transform_0 inb_S1_S1_0 numel1_S1 (tbl m) i) h).WholeWords (EltTy.packing .bf16) := by
    intro i
    have e := tile_index m hx i
    have hi : (i 0).val < 137 := (i 0).isLt
    refine ⟨fun a => ?_, .inr (.inl (.inr ⟨by decide, rfl, .inl ⟨?_, ?_⟩⟩))⟩
    · match a with
      | ⟨0, _⟩ =>
        show (BitVec.toNat _ + 1) * 256 ≤ 35072
        rw [e]
        omega
      | ⟨1, _⟩ => show (0 + 1) * 1024 ≤ 1024; omega
    · show 2 ∣ _ * 256
      exact Dvd.dvd.mul_left (by decide) _
    · show 2 ∣ 256
      decide
  have he : ∀ (f : grid0.Coords → Fin 3 → Nat) (r c : Nat), (∀ i, f i = ![((tbl m).at 0 (Rect.unit (s := S137) ![(Scalar.indexCast (BitVec.ofNat 32 (i 0).val) : BitVec 32).toNat] S1.size (k0_off1_inb i)) numel1_S1 : BitVec 32).toNat, 0, 0]) →
      ∀ i : grid0.Coords, ∃ h : (∀ a, (f i a + 1) * (⟨3, ![1, r, c]⟩ : Shape).size a ≤ (⟨3, ![8, r, c]⟩ : Shape).size a),
        EltTy.bits .bf16 = 32 ∨ (Rect.block (s := ⟨3, ![8, r, c]⟩) (⟨3, ![1, r, c]⟩ : Shape).size (f i) h).WholeWords (EltTy.packing .bf16) := by
    intro f r c hf i
    have e := expert_index m hx i
    have hlt := Count.expertAt_lt (counts m 0) (tile_lt hx (i 0).val)
    have h0 : f i 0 < 8 := by rw [hf i]; exact lt_of_eq_of_lt e hlt
    have h1 : f i 1 = 0 := by rw [hf i]; rfl
    have h2 : f i 2 = 0 := by rw [hf i]; rfl
    refine ⟨fun a => ?_, .inr (.inr ⟨show 2 ≤ 3 by decide, rfl, ?_, rfl⟩)⟩
    · match a with
      | ⟨0, _⟩ => show (f i 0 + 1) * 1 ≤ 8; omega
      | ⟨1, _⟩ => show (f i 1 + 1) * r ≤ r; rw [h1]; omega
      | ⟨2, _⟩ => show (f i 2 + 1) * c ≤ c; rw [h2]; omega
    · show f i 1 * r = 0
      rw [h1, Nat.zero_mul]
  exact ⟨ht, he _ 1024 2816 fun _ => rfl, he _ 1024 2816 fun _ => rfl, he _ 2816 1024 fun _ => rfl, ht⟩

end Tables

end Cert.Proof.ExpertIdeal

end
-- ==== Proof.ExpertFrames.lean ====
/- The frames of the expert call, over the extended reals and over the words, from the one run. -/
module

public import proofs.«01_k».proof.Proof.ExpertPoint
public import proofs.«01_k».proof.Proof.ExpertTables
public import proofs.«01_k».proof.Proof.Frames
public import proofs.«01_k».proof.Proof.Gen.Expert
public import proofs.«01_k».proof.Proof.Gen.Expert.Launch
public import proofs.«01_k».proof.Proof.Gen.Pre_sent
public import proofs.«01_k».proof.Proof.Gen.ExpertReferenceIdeal.Run
public import proofs.«01_k».proof.Proof.Gen.ExpertReferenceIdeal
public import proofs.«01_k».proof.Defs
public import Idealize.ShloMosaic.Lib.Quiescent

@[expose] public section

set_option maxRecDepth 16384

noncomputable section

namespace Cert.Proof

open Idealize.ShloMosaic Idealize.SL.Sem

/-- What the precondition says of the counts. -/
theorem sent_read {F : FTy → Type} [FloatOps F] (x0 : FVec F Cert.Pre_sent.S35072x1024 .f32) (x1 : IVec Cert.Pre_sent.S8 32) (x2 x3 : FVec F Cert.Pre_sent.S1x8x1024x2816 .f32)
    (x4 : FVec F Cert.Pre_sent.S1x8x2816x1024 .f32) (h : Cert.Pre_sent.fn x0 x1 x2 x3 x4 = fun _ => 1#1) : Count.Sent x1 :=
  Count.sent_of x1 Cert.Pre_sent.Facts.bcast_S_S8 Cert.Pre_sent.Facts.reducesTo_S8_S_d0 Cert.Pre_sent.Facts.h_S_ h

namespace ExpertIdeal

open Cert.ExpertIdeal Cert.ExpertIdeal.Gen Idealize.ShloMosaic.TcCoe

/-- The idealized expert call's frame, over any values, when rows were sent. -/
theorem frame_main {F : FTy → Type} [FloatOps F] (m : (ℓ : Loc nD τ sig) → Buf (Elt F) ℓ) (ρ : Dev nD → PrngReg) (hx : Count.Sent (counts m 0)) :
    θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun r h => ⟨args_kept m (ok_of_sent m hx) r h.1, h.2⟩) (run_main m ρ (ok_of_sent m hx) (tiles_of_sent m hx))

end ExpertIdeal

/-- Over the words the idealized expert call's body table is the expert call's. -/
theorem expert_defs₀_eq : Cert.ExpertIdeal.defs₀ (F := Bits) = Cert.Expert.defs₀ := by
  refine congrArg Defs.onTc (funext fun l => ?_)
  match l with
  | ⟨0, _⟩ =>
    refine funext fun a => ?_
    obtain ⟨t, s⟩ := a
    rfl
  | ⟨_ + 1, h⟩ => exact absurd h (by omega)

theorem expert_defs_eq : Cert.ExpertIdeal.defs (F := Bits) = Cert.Expert.defs (F := Bits) := by
  unfold Cert.ExpertIdeal.defs Cert.Expert.defs
  exact congrArg (Pipeline.defs _) expert_defs₀_eq

/-- The idealized expert call's frame. -/
theorem frame_expertIdeal : Cert.quiescent_ExpertIdeal := fun m g h => ExpertIdeal.frame_main (F := Ideal) m g (sent_read _ _ _ _ _ (h 0))

/-! Over the words the two programs' host operations are the same, a stretch at a time. -/

theorem expert_ops0 : Cert.ExpertIdeal.Gen.hostOps0 (F := Bits) = Cert.Expert.Gen.hostOps0 (F := Bits) := by rfl
theorem expert_ops1 : Cert.ExpertIdeal.Gen.hostOps0_1 (F := Bits) = Cert.Expert.Gen.hostOps0_1 (F := Bits) := by rfl
theorem expert_ops2 : Cert.ExpertIdeal.Gen.hostOps0_2 (F := Bits) = Cert.Expert.Gen.hostOps0_2 (F := Bits) := by rfl
theorem expert_ops3 : Cert.ExpertIdeal.Gen.hostOps0_3 (F := Bits) = Cert.Expert.Gen.hostOps0_3 (F := Bits) := by rfl

set_option maxHeartbeats 2000000 in
theorem expert_main_eq : Cert.ExpertIdeal.main (F := Bits) = Cert.Expert.main (F := Bits) := by
  funext c
  refine (Cert.ExpertIdeal.Gen.main_chain c).trans (Eq.trans ?_ (Cert.Expert.Gen.main_chain c).symm)
  exact congrArg Pipeline.chain (congrArg₂ List.cons (congrArg StableHlo.seq expert_ops0) (congrArg₂ List.cons (congrArg StableHlo.seq expert_ops1)
    (congrArg₂ List.cons (congrArg StableHlo.seq expert_ops2) (congrArg₂ List.cons (congrArg StableHlo.seq expert_ops3) rfl))))

/-- The precondition over the words. -/
theorem expert_sent (m : (ℓ : Loc Cert.Expert.nD Cert.Expert.τ Cert.Expert.sig) → Buf (Elt Bits) ℓ) (h : Cert.Pre_Expert m) :
    Count.Sent (m (((0 : Dev Cert.Expert.nD).tc : Thread Cert.Expert.nD Cert.Expert.τ).loc Cert.Expert.main_arg1)) :=
  sent_read _ _ _ _ _ (h 0)

set_option maxHeartbeats 2000000 in
/-- The expert call's frame. -/
theorem frame_expert : Cert.quiescent_Expert := fun m g h => by
  have hx := expert_sent m h
  have k := ExpertIdeal.frame_main (F := Bits) m g hx
  rw [expert_defs_eq, expert_main_eq] at k
  exact k

/-- The reference's frame. -/
theorem frame_expertReferenceIdeal : Cert.quiescent_ExpertReferenceIdeal := fun m g _ =>
  (θ_run _ _ _).mono (fun r h => ⟨fun c => (h c).2, sem_eq_zero_of_no_sems rfl r.2⟩) (Cert.ExpertReferenceIdeal.Value.run m g)

end Cert.Proof

end
-- ==== Proof.ExpertMath.lean ====
/- An expert's network at one row and one column. -/
module

public import Idealize.ShloMosaic.PureOps.Ideal

@[expose] public section

noncomputable section

namespace Cert.Proof.Swiglu

open Idealize.ShloMosaic

/-- A hidden feature, from its gate and its other factor. -/
def unit (a b : EReal) : EReal := a * Ideal.logistic a * b

/-- A column of a row's result. -/
def out (x : Fin 1024 → EReal) (w1 w3 : Fin 1024 → Fin 2816 → EReal) (w2 : Fin 2816 → EReal) : EReal :=
  ∑ f, unit (∑ k, x k * w1 k f) (∑ k, x k * w3 k f) * w2 f

end Cert.Proof.Swiglu

end
-- ==== Proof.ExpertValue.lean ====
/- The tile a point of the expert kernel computes, at an index. -/
module

public import proofs.«01_k».proof.Proof.ExpertMath
public import proofs.«01_k».proof.Proof.ExpertBody

@[expose] public section

set_option maxRecDepth 16384

noncomputable section

namespace Cert.Proof.ExpertIdeal

open Cert.ExpertIdeal Cert.ExpertIdeal.Gen
open Idealize.ShloMosaic

theorem part_value (x : Vec Ideal S256x1024 .bf16) (w1 w3 : Vec Ideal S1x1024x512 .bf16) (a : Fin 256) (f : Fin 512) :
    k0_pay5 (F := Ideal) x w1 w3 (ix2 a f) = Swiglu.unit (∑ k : Fin 1024, x (ix2 a k) * w1 (ix3 0 k f)) (∑ k : Fin 1024, x (ix2 a k) * w3 (ix3 0 k f)) := by
  unfold k0_pay5 k0_pay4
  pointwise
  rfl

theorem lastPart_value (x : Vec Ideal S256x1024 .bf16) (w1 w3 : Vec Ideal S1x1024x256 .bf16) (a : Fin 256) (f : Fin 256) :
    k0_pay2 (F := Ideal) (k0_pay4 x) w1 w3 (ix2 a f) = Swiglu.unit (∑ k : Fin 1024, x (ix2 a k) * w1 (ix3 0 k f)) (∑ k : Fin 1024, x (ix2 a k) * w3 (ix3 0 k f)) := by
  unfold k0_pay2 k0_pay4
  pointwise
  rfl

theorem hidden_value (x : Vec Ideal S256x1024 .bf16) (w1 w3 : Vec Ideal S1x1024x2816 .bf16) (a : Fin 256) (f : Fin 2816) :
    hidden (F := Ideal) x w1 w3 (ix2 a f) = Swiglu.unit (∑ k : Fin 1024, x (ix2 a k) * w1 (ix3 0 k f)) (∑ k : Fin 1024, x (ix2 a k) * w3 (ix3 0 k f)) := by
  have hf := f.isLt
  have key : ∀ f' : Fin 2816, f' = f → Swiglu.unit (∑ k : Fin 1024, x (ix2 a k) * w1 (ix3 0 k f')) (∑ k : Fin 1024, x (ix2 a k) * w3 (ix3 0 k f'))
      = Swiglu.unit (∑ k : Fin 1024, x (ix2 a k) * w1 (ix3 0 k f)) (∑ k : Fin 1024, x (ix2 a k) * w3 (ix3 0 k f)) := by
    rintro _ rfl
    rfl
  unfold hidden
  by_cases h : f.val < 2560
  · refine (dif_pos h).trans ((part_value _ _ _ _ _).trans (key ⟨512 * (f.val / 512) + f.val % 512, by omega⟩ (Fin.ext ?_)))
    show 512 * (f.val / 512) + f.val % 512 = f.val
    omega
  · refine (dif_neg h).trans ((lastPart_value _ _ _ _ _).trans (key ⟨2560 + (f.val - 2560), by omega⟩ (Fin.ext ?_)))
    show 2560 + (f.val - 2560) = f.val
    omega

theorem tile_value (x : Vec Ideal S256x1024 .bf16) (w1 w3 : Vec Ideal S1x1024x2816 .bf16) (w2 : Vec Ideal S1x2816x1024 .bf16) (a : Fin 256) (d : Fin 1024) :
    tileOut (F := Ideal) x w1 w3 w2 (ix2 a d)
      = Swiglu.out (fun k => x (ix2 a k)) (fun k f => w1 (ix3 0 k f)) (fun k f => w3 (ix3 0 k f)) (fun f => w2 (ix3 0 f d)) := by
  have hh := hidden_value x w1 w3 a
  unfold tileOut
  generalize hidden x w1 w3 = H at hh ⊢
  unfold k0_pay3
  pointwise
  exact Finset.sum_congr rfl fun f _ => congrArg (· * w2 (ix3 0 f d)) (hh f)

end Cert.Proof.ExpertIdeal

end
-- ==== Proof.ExpertArray.lean ====
/- The result array of the expert kernel after the run, at a row that was sent. -/
module

public import proofs.«01_k».proof.Proof.ExpertValue
public import proofs.«01_k».proof.Proof.ExpertTables
public import Idealize.ShloMosaic.Lib.Pipeline.Value
public import Idealize.ShloMosaic.Lib.Pipeline.ValueKit.Basic

@[expose] public section

set_option maxRecDepth 16384

noncomputable section

namespace Cert.Proof.ExpertIdeal

open Cert.ExpertIdeal Cert.ExpertIdeal.Gen
open Idealize.ShloMosaic Idealize.ShloMosaic.TcCoe Idealize.ShloMosaic.Tactic
open Idealize.ShloMosaic.Pipeline (Dat Cfg Window)

/-! ## The arrays the windows read -/

section Stretches

attribute [local irreducible] Host.reduceWindow Host.reduce

variable {F : FTy → Type} [FloatOps F] (W : Valuation τ sig (Elt F))

theorem first_w1 : StableHlo.after hostOps0 W (Proc.devRef .tc main_v1) = truncf (F := F) (φ := .f32) .bf16 (shapeCast S8x1024x2816 (W (Proc.devRef .tc main_arg2)) shapeCasts_S1x8x1024x2816_S8x1024x2816) bitsLt_bf16_f32 := by
  after_results
  rfl
theorem first_w3 : StableHlo.after hostOps0 W (Proc.devRef .tc main_v3) = truncf (F := F) (φ := .f32) .bf16 (shapeCast S8x1024x2816 (W (Proc.devRef .tc main_arg3)) shapeCasts_S1x8x1024x2816_S8x1024x2816) bitsLt_bf16_f32 := by
  after_results
  rfl
theorem first_w2 : StableHlo.after hostOps0 W (Proc.devRef .tc main_v5) = truncf (F := F) (φ := .f32) .bf16 (shapeCast S8x2816x1024 (W (Proc.devRef .tc main_arg4)) shapeCasts_S1x8x2816x1024_S8x2816x1024) bitsLt_bf16_f32 := by
  after_results
  rfl
theorem fourth_x : StableHlo.after hostOps0_3 W (Proc.devRef .tc main_v26) = truncf (F := F) (φ := .f32) .bf16 (W (Proc.devRef .tc main_arg0)) bitsLt_bf16_f32 := by
  after_results

/-- The later stretches leave the weights. -/
theorem later_keep (b : Ref sig .tc) (hb : b = main_v1 ∨ b = main_v3 ∨ b = main_v5) :
    StableHlo.after hostOps0_3 (StableHlo.after hostOps0_2 (StableHlo.after hostOps0_1 W)) (Proc.devRef .tc b) = W (Proc.devRef .tc b) := by
  rcases hb with rfl | rfl | rfl <;> after_results

/-- The earlier stretches leave the rows. -/
theorem rows_keep : StableHlo.after hostOps0_2 (StableHlo.after hostOps0_1 (StableHlo.after hostOps0 W)) (Proc.devRef .tc main_arg0) = W (Proc.devRef .tc main_arg0) := by
  after_results

end Stretches

section Arrays

theorem weight_at (w : Vec Ideal S1x8x1024x2816 .f32) (e : Fin 8) (k : Fin 1024) (f : Fin 2816) : shapeCast S8x1024x2816 w shapeCasts_S1x8x1024x2816_S8x1024x2816 (ix3 e k f) = w (ix4 0 e k f) := by
  pointwise

theorem weight2_at (w : Vec Ideal S1x8x2816x1024 .f32) (e : Fin 8) (f : Fin 2816) (d : Fin 1024) : shapeCast S8x2816x1024 w shapeCasts_S1x8x2816x1024_S8x2816x1024 (ix3 e f d) = w (ix4 0 e f d) := by
  pointwise

variable (m : (ℓ : Loc nD τ sig) → Buf (Elt Ideal) ℓ) (c : Dev nD)

theorem V_rows (r : Fin 35072) (k : Fin 1024) : V m c main_v26 (ix2 r k) = m ((c.tc : Thread nD τ).loc main_arg0) (ix2 r k) := by
  rw [V_eq, fourth_x, rows_keep]
  rfl

theorem V_w1 (e : Fin 8) (k : Fin 1024) (f : Fin 2816) : V m c main_v1 (ix3 e k f) = m ((c.tc : Thread nD τ).loc main_arg2) (ix4 0 e k f) := by
  rw [V_eq, later_keep _ _ (.inl rfl), first_w1]
  exact weight_at (m ((c.tc : Thread nD τ).loc main_arg2)) _ _ _

theorem V_w3 (e : Fin 8) (k : Fin 1024) (f : Fin 2816) : V m c main_v3 (ix3 e k f) = m ((c.tc : Thread nD τ).loc main_arg3) (ix4 0 e k f) := by
  rw [V_eq, later_keep _ _ (.inr (.inl rfl)), first_w3]
  exact weight_at (m ((c.tc : Thread nD τ).loc main_arg3)) _ _ _

theorem V_w2 (e : Fin 8) (f : Fin 2816) (d : Fin 1024) : V m c main_v5 (ix3 e f d) = m ((c.tc : Thread nD τ).loc main_arg4) (ix4 0 e f d) := by
  rw [V_eq, later_keep _ _ (.inr (.inr rfl)), first_w2]
  exact weight2_at (m ((c.tc : Thread nD τ).loc main_arg4)) _ _ _

end Arrays

/-! ## The blocks of a point -/

section Blocks

variable {F : FTy → Type} [FloatOps F]

theorem read0_at (a : (pcfg0 (F := F)).Adm) (t : Fin grid0.N) (X : Vec F S35072x1024 .bf16) (n : ℕ) (h : cc0_transform_0 inb_S1_S1_0 numel1_S1 a.1 (grid0.coords t) = ![n, 0])
    (y : Fin 256) (k : Fin 1024) (r : Fin 35072) (hr : r.val = 256 * n + y.val) : (((cfg0 a).win 0).blk t).view.read (Elt F) X (ix2 y k) = X (ix2 r k) := by
  have e0 := congrFun h 0
  have e1 := congrFun h 1
  refine congrArg X (funext fun x => Fin.ext ?_)
  fin_cases x
  · show cc0_transform_0 inb_S1_S1_0 numel1_S1 a.1 (grid0.coords t) 0 * 256 + 1 * y.val = r.val
    rw [e0]
    show n * 256 + 1 * y.val = r.val
    omega
  · show cc0_transform_0 inb_S1_S1_0 numel1_S1 a.1 (grid0.coords t) 1 * 1024 + 1 * k.val = k.val
    rw [e1]
    show 0 * 1024 + 1 * k.val = k.val
    omega

theorem read4_at (a : (pcfg0 (F := F)).Adm) (t : Fin grid0.N) (X : Vec F S35072x1024 .bf16) (n : ℕ) (h : cc0_transform_4 inb_S1_S1_0 numel1_S1 a.1 (grid0.coords t) = ![n, 0])
    (y : Fin 256) (k : Fin 1024) (r : Fin 35072) (hr : r.val = 256 * n + y.val) : (((cfg0 a).win 4).blk t).view.read (Elt F) X (ix2 y k) = X (ix2 r k) :=
  read0_at a t X n h y k r hr

theorem mem4_at (a : (pcfg0 (F := F)).Adm) (t : Fin grid0.N) (n : ℕ) (h : cc0_transform_4 inb_S1_S1_0 numel1_S1 a.1 (grid0.coords t) = ![n, 0])
    (i : S35072x1024.Idx) (hi : (i 0).val / 256 = n) : i ∈ (((cfg0 a).win 4).blk t).view.set := by
  have e0 := congrFun h 0
  have e1 := congrFun h 1
  have h1 : (i 1).val < 1024 := (i 1).isLt
  refine (Finset.ext_iff.mp (View.set_slice_whole main_v27 (((cfg0 a).win 4).rect _)) i).mpr ((Pipeline.Window.mem_rect_iff ((cfg0 a).win 4) _ i rfl).mpr fun x => ?_)
  match x with
  | ⟨0, _⟩ =>
    show cc0_transform_4 inb_S1_S1_0 numel1_S1 a.1 (grid0.coords t) 0 * 256 ≤ (i 0).val ∧ (i 0).val < cc0_transform_4 inb_S1_S1_0 numel1_S1 a.1 (grid0.coords t) 0 * 256 + 256
    rw [e0]
    show n * 256 ≤ (i 0).val ∧ (i 0).val < n * 256 + 256
    omega
  | ⟨1, _⟩ =>
    show cc0_transform_4 inb_S1_S1_0 numel1_S1 a.1 (grid0.coords t) 1 * 1024 ≤ (i 1).val ∧ (i 1).val < cc0_transform_4 inb_S1_S1_0 numel1_S1 a.1 (grid0.coords t) 1 * 1024 + 1024
    rw [e1]
    show 0 * 1024 ≤ (i 1).val ∧ (i 1).val < 0 * 1024 + 1024
    omega

theorem read1_at (a : (pcfg0 (F := F)).Adm) (t : Fin grid0.N) (X : Vec F S8x1024x2816 .bf16) (n : ℕ) (h : cc0_transform_1 k0_off1_inb numel1_S1 a.1 (grid0.coords t) = ![n, 0, 0])
    (k : Fin 1024) (f : Fin 2816) (E : Fin 8) (hE : n = E.val) : (((cfg0 a).win 1).blk t).view.read (Elt F) X (ix3 0 k f) = X (ix3 E k f) := by
  have e0 := congrFun h 0
  have e1 := congrFun h 1
  have e2 := congrFun h 2
  refine congrArg X (funext fun x => Fin.ext ?_)
  fin_cases x
  · show cc0_transform_1 k0_off1_inb numel1_S1 a.1 (grid0.coords t) 0 * 1 + 1 * 0 = E.val
    rw [e0]
    show n * 1 + 1 * 0 = E.val
    omega
  · show cc0_transform_1 k0_off1_inb numel1_S1 a.1 (grid0.coords t) 1 * 1024 + 1 * k.val = k.val
    rw [e1]
    show 0 * 1024 + 1 * k.val = k.val
    omega
  · show cc0_transform_1 k0_off1_inb numel1_S1 a.1 (grid0.coords t) 2 * 2816 + 1 * f.val = f.val
    rw [e2]
    show 0 * 2816 + 1 * f.val = f.val
    omega

theorem read2_at (a : (pcfg0 (F := F)).Adm) (t : Fin grid0.N) (X : Vec F S8x1024x2816 .bf16) (n : ℕ) (h : cc0_transform_2 k0_off1_inb numel1_S1 a.1 (grid0.coords t) = ![n, 0, 0])
    (k : Fin 1024) (f : Fin 2816) (E : Fin 8) (hE : n = E.val) : (((cfg0 a).win 2).blk t).view.read (Elt F) X (ix3 0 k f) = X (ix3 E k f) :=
  read1_at a t X n h k f E hE

theorem read3_at (a : (pcfg0 (F := F)).Adm) (t : Fin grid0.N) (X : Vec F S8x2816x1024 .bf16) (n : ℕ) (h : cc0_transform_3 k0_off1_inb numel1_S1 a.1 (grid0.coords t) = ![n, 0, 0])
    (f : Fin 2816) (d : Fin 1024) (E : Fin 8) (hE : n = E.val) : (((cfg0 a).win 3).blk t).view.read (Elt F) X (ix3 0 f d) = X (ix3 E f d) := by
  have e0 := congrFun h 0
  have e1 := congrFun h 1
  have e2 := congrFun h 2
  refine congrArg X (funext fun x => Fin.ext ?_)
  fin_cases x
  · show cc0_transform_3 k0_off1_inb numel1_S1 a.1 (grid0.coords t) 0 * 1 + 1 * 0 = E.val
    rw [e0]
    show n * 1 + 1 * 0 = E.val
    omega
  · show cc0_transform_3 k0_off1_inb numel1_S1 a.1 (grid0.coords t) 1 * 2816 + 1 * f.val = f.val
    rw [e1]
    show 0 * 2816 + 1 * f.val = f.val
    omega
  · show cc0_transform_3 k0_off1_inb numel1_S1 a.1 (grid0.coords t) 2 * 1024 + 1 * d.val = d.val
    rw [e2]
    show 0 * 1024 + 1 * d.val = d.val
    omega

variable (m : (ℓ : Loc nD τ sig) → Buf (Elt F) ℓ) (hx : Count.Sent (counts m 0)) (hO : Ok m)
include hx

/-- The tile of a point. -/
abbrev tileNo (t : ℕ) : ℕ := min t (Count.total (counts m 0) - 1)

theorem rows_offset (t : Fin grid0.N) : cc0_transform_0 inb_S1_S1_0 numel1_S1 (tbl m) (grid0.coords t) = ![tileNo m t.val, 0] := by
  have e := tile_index m hx (grid0.coords t)
  have q : min (grid0.coords t 0).val (Count.total (counts m 0) - 1) = tileNo m t.val := by rw [coords_val]
  rw [q] at e
  exact congrArg (fun k => (![k, 0] : Fin 2 → ℕ)) e

theorem expert_offset (t : Fin grid0.N) :
    (![((tbl m).at 0 (Rect.unit (s := S137) ![(Scalar.indexCast (BitVec.ofNat 32 (grid0.coords t 0).val) : BitVec 32).toNat] S1.size (k0_off1_inb (grid0.coords t))) numel1_S1 : BitVec 32).toNat, 0, 0] : Fin 3 → ℕ)
      = ![Count.expertAt (counts m 0) (tileNo m t.val), 0, 0] := by
  have e := expert_index m hx (grid0.coords t)
  rw [show min (grid0.coords t 0).val (Count.total (counts m 0) - 1) = tileNo m t.val by rw [coords_val]] at e
  exact congrArg (fun k => (![k, 0, 0] : Fin 3 → ℕ)) e

theorem block0_eq (c : Dev nD) (t : Fin (cfgM m hO).N) (a : Fin 256) (k : Fin 1024) (r : Fin 35072) (hr : r.val = 256 * tileNo m t.val + a.val) :
    iblk m hO c 0 t (ix2 a k) = V m c main_v26 (ix2 r k) := read0_at (adm m hO) t (V m c main_v26) _ (rows_offset m hx t) a k r hr

theorem block1_eq (c : Dev nD) (t : Fin (cfgM m hO).N) (k : Fin 1024) (f : Fin 2816) (E : Fin 8) (hE : Count.expertAt (counts m 0) (tileNo m t.val) = E.val) :
    iblk m hO c 1 t (ix3 0 k f) = V m c main_v1 (ix3 E k f) := read1_at (adm m hO) t (V m c main_v1) _ (expert_offset m hx t) k f E hE

theorem block2_eq (c : Dev nD) (t : Fin (cfgM m hO).N) (k : Fin 1024) (f : Fin 2816) (E : Fin 8) (hE : Count.expertAt (counts m 0) (tileNo m t.val) = E.val) :
    iblk m hO c 2 t (ix3 0 k f) = V m c main_v3 (ix3 E k f) := read2_at (adm m hO) t (V m c main_v3) _ (expert_offset m hx t) k f E hE

theorem block3_eq (c : Dev nD) (t : Fin (cfgM m hO).N) (f : Fin 2816) (d : Fin 1024) (E : Fin 8) (hE : Count.expertAt (counts m 0) (tileNo m t.val) = E.val) :
    iblk m hO c 3 t (ix3 0 f d) = V m c main_v5 (ix3 E f d) := read3_at (adm m hO) t (V m c main_v5) _ (expert_offset m hx t) f d E hE

end Blocks

/-! ## The array -/

section Whole

variable {F : FTy → Type} [FloatOps F] (m : (ℓ : Loc nD τ sig) → Buf (Elt F) ℓ) (hO : Ok m)

theorem points : (cfgM m hO).N = 137 := N_0

/-- The tile a point computes. -/
def tileAt (c : Dev nD) (t : Fin (cfgM m hO).N) : Vec F S256x1024 .bf16 :=
  tileOut (iblk m hO c 0 t) (iblk m hO c 1 t) (iblk m hO c 2 t) (iblk m hO c 3 t)

/-- The tiles, one below the other. -/
def whole (c : Dev nD) : Vec F S35072x1024 .bf16 := fun i =>
  tileAt m hO c ⟨(i 0).val / 256, by have h : (i 0).val < 35072 := (i 0).isLt; rw [points m hO]; omega⟩ (ix2 ⟨(i 0).val % 256, by omega⟩ (i 1))

theorem whole_at (c : Dev nD) (t : Fin (cfgM m hO).N) (a : Fin 256) (d : Fin 1024) (i : S35072x1024.Idx) (h0 : (i 0).val = 256 * t.val + a.val) (h1 : (i 1).val = d.val) :
    whole m hO c i = tileAt m hO c t (ix2 a d) := by
  have ha := a.isLt
  have et : (⟨(i 0).val / 256, by have h : (i 0).val < 35072 := (i 0).isLt; rw [points m hO]; omega⟩ : Fin (cfgM m hO).N) = t := Fin.ext (by show (i 0).val / 256 = _; omega)
  have ea : (⟨(i 0).val % 256, by omega⟩ : Fin 256) = a := Fin.ext (by show (i 0).val % 256 = _; omega)
  have ed : (i 1 : Fin 1024) = d := Fin.ext h1
  unfold whole
  rw [et, ea]
  exact congrArg (fun d => tileAt m hO c t (ix2 a d)) ed

variable {m} {n : ℕ} (T : Tiles m n)
include T

include hO in
theorem tile_offset (t : Fin grid0.N) : cc0_transform_4 inb_S1_S1_0 numel1_S1 (tbl m) (grid0.coords t) = ![min t.val (n - 1), 0] := index_eq hO T t

/-- What a point writes back is its tile. -/
theorem flushed_tile (c : Dev nD) (t : Fin (cfgM m hO).N) :
    (dats m n hO 0 c).flushed 4 t = (((cfgM m hO).win 4).blk t).view.read (Elt F) (whole m hO c) := by
  have hN := points m hO
  have ht := t.isLt
  refine funext fun (y : S256x1024.Idx) => ?_
  obtain ⟨a, d, rfl⟩ : ∃ (a : Fin 256) (d : Fin 1024), y = ix2 a d := ⟨y 0, y 1, funext fun a => by fin_cases a <;> rfl⟩
  have ha := a.isLt
  have e := read4_at (adm m hO) t (whole m hO c) _ (tile_offset hO T t) a d ⟨256 * min t.val (n - 1) + a.val, by omega⟩ rfl
  exact Eq.trans (b := tileAt m hO c (lastLive m n hO t) (ix2 a d)) rfl ((whole_at m hO c (lastLive m n hO t) a d _ rfl rfl).symm.trans e.symm)

/-- A row of the tiles is in a block that is written back. -/
theorem row_covered (i : S35072x1024.Idx) (h : (i 0).val < 256 * n) :
    ∃ t : Fin (cfgM m hO).N, ((cfgM m hO).win 4).flush t = true ∧ i ∈ (((cfgM m hO).win 4).blk t).view.set := by
  have h0 : (i 0).val < 35072 := (i 0).isLt
  have h1 : (i 1).val < 1024 := (i 1).isLt
  have hN := points m hO
  have key : ∀ t : Fin (cfgM m hO).N, min t.val (n - 1) = (i 0).val / 256 → i ∈ (((cfgM m hO).win 4).blk t).view.set :=
    fun t ht => mem4_at (adm m hO) t _ (tile_offset hO T t) i ht.symm
  by_cases hl : (i 0).val / 256 + 1 < n ∧ (i 0).val / 256 < 136
  · refine ⟨⟨(i 0).val / 256, by omega⟩, ?_, key _ (by show min ((i 0).val / 256) _ = _; omega)⟩
    unfold Window.flush
    rw [Bool.and_eq_true]
    refine ⟨rfl, (Bool.or_eq_true _ _).mpr (.inr (decide_eq_true ⟨by show _ < (cfgM m hO).N; simp only; omega, fun q => ?_⟩))⟩
    rw [index_eq hO T, index_eq hO T] at q
    have q0 : min ((i 0).val / 256 + 1) (n - 1) = min ((i 0).val / 256) (n - 1) := congrFun q 0
    omega
  · refine ⟨⟨136, by omega⟩, ?_, key _ (by show min 136 _ = _; omega)⟩
    unfold Window.flush
    rw [Bool.and_eq_true]
    exact ⟨rfl, (Bool.or_eq_true _ _).mpr (.inl (decide_eq_true (by show 137 = (cfgM m hO).N; omega)))⟩

theorem array_at (c : Dev nD) (i : S35072x1024.Idx) (h : (i 0).val < 256 * n) : (dats m n hO 0 c).arrAt 4 (cfgM m hO).N i = whole m hO c i := by
  obtain ⟨t, hf, hi⟩ := row_covered hO T i h
  exact (dats m n hO 0 c).arrAt_apply_of_mem 4 (whole m hO c) (fun t _ => flushed_tile hO T c t) _ t i t.isLt hf hi

end Whole

/-! ## The value -/

section Value

variable (m : (ℓ : Loc nD τ sig) → Buf (Elt Ideal) ℓ) (hx : Count.Sent (counts m 0)) (hO : Ok m)
include hx

/-- The result at a row that was sent to expert `E`. -/
theorem whole_apply (c : Dev nD) (r : Fin 35072) (d : Fin 1024) (E : Fin 8) (h : r.val < 256 * Count.total (counts m 0)) (hE : Count.expertAt (counts m 0) (r.val / 256) = E.val) :
    whole m hO c (ix2 r d) = Swiglu.out (fun k => m ((c.tc : Thread nD τ).loc main_arg0) (ix2 r k)) (fun k f => m ((c.tc : Thread nD τ).loc main_arg2) (ix4 0 E k f))
      (fun k f => m ((c.tc : Thread nD τ).loc main_arg3) (ix4 0 E k f)) (fun f => m ((c.tc : Thread nD τ).loc main_arg4) (ix4 0 E f d)) := by
  have hr := r.isLt
  have hN := points m hO
  have et : tileNo m (r.val / 256) = r.val / 256 := by show min _ _ = _; omega
  refine (whole_at m hO c ⟨r.val / 256, by omega⟩ ⟨r.val % 256, by omega⟩ d (ix2 r d) (by show r.val = 256 * (r.val / 256) + r.val % 256; omega) rfl).trans ?_
  refine (tile_value _ _ _ _ _ d).trans ?_
  have b0 : ∀ k, iblk m hO c 0 ⟨r.val / 256, by omega⟩ (ix2 (⟨r.val % 256, by omega⟩ : Fin 256) k) = m ((c.tc : Thread nD τ).loc main_arg0) (ix2 r k) := fun k =>
    (block0_eq m hx hO c _ _ k r (by rw [et]; show r.val = 256 * (r.val / 256) + r.val % 256; omega)).trans (V_rows m c r k)
  have b1 : ∀ k f, iblk m hO c 1 ⟨r.val / 256, by omega⟩ (ix3 0 k f) = m ((c.tc : Thread nD τ).loc main_arg2) (ix4 0 E k f) := fun k f =>
    (block1_eq m hx hO c _ k f E (by rw [et]; exact hE)).trans (V_w1 m c E k f)
  have b2 : ∀ k f, iblk m hO c 2 ⟨r.val / 256, by omega⟩ (ix3 0 k f) = m ((c.tc : Thread nD τ).loc main_arg3) (ix4 0 E k f) := fun k f =>
    (block2_eq m hx hO c _ k f E (by rw [et]; exact hE)).trans (V_w3 m c E k f)
  have b3 : ∀ f, iblk m hO c 3 ⟨r.val / 256, by omega⟩ (ix3 0 f d) = m ((c.tc : Thread nD τ).loc main_arg4) (ix4 0 E f d) := fun f =>
    (block3_eq m hx hO c _ f d E (by rw [et]; exact hE)).trans (V_w2 m c E f d)
  simp only [Swiglu.out]
  refine Finset.sum_congr rfl fun f _ => congrArg₂ (· * ·) (congrArg₂ Swiglu.unit ?_ ?_) (b3 f)
  · exact Finset.sum_congr rfl fun k _ => congrArg₂ (· * ·) (b0 k) (b1 k f)
  · exact Finset.sum_congr rfl fun k _ => congrArg₂ (· * ·) (b0 k) (b2 k f)

end Value

end Cert.Proof.ExpertIdeal

end
-- ==== Proof.ExpertReference.lean ====
/- The expert call's reference, at an index. -/
module

public import proofs.«01_k».proof.Proof.ExpertMath
public import proofs.«01_k».proof.Proof.ExpertCount
public import proofs.«01_k».proof.Proof.Gen.ExpertReferenceIdeal
public import proofs.«01_k».proof.Proof.Gen.ExpertReferenceIdeal.Read
public import Idealize.ShloMosaic.Lib.Pointwise

@[expose] public section

set_option maxRecDepth 16384

noncomputable section

namespace Cert.Proof.ExpertReference

open Cert.ExpertReferenceIdeal Cert.ExpertReferenceIdeal.Gen Cert.ExpertReferenceIdeal.Read
open Idealize.ShloMosaic

/-- Every row times one expert's matrix. -/
def rows (x : Vec Ideal S35072x1024 .f32) (w : Vec Ideal S8x1024x2816 .f32) (e : ℕ) (h : S8x1024x2816.Slices ![e, 0, 0] S1x1024x2816) : Vec Ideal S35072x2816 .f32 :=
  Host.dotGeneral (F := Ideal) (φ₁ := .f32) (φ₂ := .f32) dot_S35072x1024_S1024x2816_S35072x2816_1_0_0_1_n_n none x
    (shapeCast S1024x2816 (extractStridedSlice S1x1024x2816 ![e, 0, 0] w h) shapeCasts_S1x1024x2816_S1024x2816)

/-- One all over. -/
def ones : Vec Ideal S35072x2816 .f32 := broadcastInDim S35072x2816 ![] bcast_S_S35072x2816 (constant (F := Ideal) S_ .f32 0x3F800000#32)

/-- The hidden features of every row, from the two products. -/
def hiddens (a b : Vec Ideal S35072x2816 .f32) : Vec Ideal S35072x2816 .f32 :=
  mulf (F := Ideal) (φ := .f32) (mulf (F := Ideal) (φ := .f32) a (Host.divf (F := Ideal) (φ := .f32) ones (addf (F := Ideal) (φ := .f32) ones (Host.exp (F := Ideal) (φ := .f32) (Host.negf (F := Ideal) (φ := .f32) a))))) b

/-- One expert's addend. -/
def addend (gate : Vec Ideal S35072x8 .f32) (x : Vec Ideal S35072x1024 .f32) (w1 w3 : Vec Ideal S8x1024x2816 .f32) (w2 : Vec Ideal S8x2816x1024 .f32) (e : ℕ)
    (hg : S35072x8.Slices ![0, e] S35072x1) (h : S8x1024x2816.Slices ![e, 0, 0] S1x1024x2816) (h2 : S8x2816x1024.Slices ![e, 0, 0] S1x2816x1024) : Vec Ideal S35072x1024 .f32 :=
  mulf (F := Ideal) (φ := .f32) (broadcastInDim S35072x1024 ![0, 1] bcast_S35072x1_S35072x1024_0_1 (extractStridedSlice S35072x1 ![0, e] gate hg))
    (Host.dotGeneral (F := Ideal) (φ₁ := .f32) (φ₂ := .f32) dot_S35072x2816_S2816x1024_S35072x1024_1_0_0_1_n_n none (hiddens (rows x w1 e h) (rows x w3 e h))
      (shapeCast S2816x1024 (extractStridedSlice S1x2816x1024 ![e, 0, 0] w2 h2) shapeCasts_S1x2816x1024_S2816x1024))

theorem rows_apply (x : Vec Ideal S35072x1024 .f32) (w : Vec Ideal S8x1024x2816 .f32) (e : Fin 8) (h : S8x1024x2816.Slices ![e.val, 0, 0] S1x1024x2816) (r : Fin 35072) (f : Fin 2816) :
    rows x w e.val h (ix2 r f) = ∑ k : Fin 1024, x (ix2 r k) * w (ix3 e k f) := by
  unfold rows
  pointwise

theorem hiddens_apply (a b : Vec Ideal S35072x2816 .f32) (r : Fin 35072) (f : Fin 2816) : hiddens a b (ix2 r f) = Swiglu.unit (a (ix2 r f)) (b (ix2 r f)) := by
  unfold hiddens ones
  pointwise
  rfl

theorem addend_apply (gate : Vec Ideal S35072x8 .f32) (x : Vec Ideal S35072x1024 .f32) (w1 w3 : Vec Ideal S8x1024x2816 .f32) (w2 : Vec Ideal S8x2816x1024 .f32) (e : Fin 8)
    (hg : S35072x8.Slices ![0, e.val] S35072x1) (h : S8x1024x2816.Slices ![e.val, 0, 0] S1x1024x2816) (h2 : S8x2816x1024.Slices ![e.val, 0, 0] S1x2816x1024) (r : Fin 35072) (d : Fin 1024) :
    addend gate x w1 w3 w2 e.val hg h h2 (ix2 r d)
      = gate (ix2 r e) * Swiglu.out (fun k => x (ix2 r k)) (fun k f => w1 (ix3 e k f)) (fun k f => w3 (ix3 e k f)) (fun f => w2 (ix3 e f d)) := by
  have hr := rows_apply x w1 e h r
  have hr3 := rows_apply x w3 e h r
  have hh := hiddens_apply (rows x w1 e.val h) (rows x w3 e.val h) r
  unfold addend
  generalize hiddens (rows x w1 e.val h) (rows x w3 e.val h) = H at hh ⊢
  pointwise
  refine congrArg (gate (ix2 r e) * ·) (Finset.sum_congr rfl fun f _ => congrArg (· * w2 (ix3 e f d)) ?_)
  rw [hh, hr, hr3]

section Gate

variable {x : IVec S8 32} (hx : Count.Sent x)
include hx

theorem tiles_at (q : Fin 8) : val_main_v8 (F := Ideal) x (ValueIdx.ix1 q) = BitVec.ofNat 32 (Count.tiles x q.val) := Count.tiles_word hx bcast_S_S8 q

theorem ends_at (q : Fin 8) : val_main_v11 (F := Ideal) x (ValueIdx.ix1 q) = BitVec.ofNat 32 (256 * Count.ends x q.val) := by
  refine (Routing.cumsum1 rfl (val_main_v10 (F := Ideal) x) (fun q => 256 * Count.tiles x q) (fun q => ?_) (val_main_call1_call0_v0 (F := Ideal))
    (Routing.bc0 bcast_S_S_ _ _) reduceWindows_S8_S8_w8s1p7_0 h_S_ q).trans ?_
  · show val_main_v8 (F := Ideal) x (ValueIdx.ix1 q) * val_main_v9 (F := Ideal) (ValueIdx.ix1 q) = _
    rw [tiles_at hx, show val_main_v9 (F := Ideal) (ValueIdx.ix1 q) = BitVec.ofNat 32 256 from Routing.bc0 bcast_S_S8 _ _, BitVec.ofNat_mul_ofNat, Nat.mul_comm]
  · rw [List.sum_map_mul_left]
    rfl

/-- The expert the reference finds for a row is the expert of the row's tile. -/
theorem expert_at (r : Fin 35072) : val_main_v18 (F := Ideal) x (ValueIdx.ix1 r) = BitVec.ofNat 32 (Count.expertAt x (r.val / 256)) := by
  refine (Count.expert_word hx (val_main_v3 (F := Ideal)) (val_main_v11 (F := Ideal) x) (fun r => r.val) (fun _ => rfl) (fun r => by have := r.isLt; omega) 256 le_rfl (ends_at hx)
    bcast_S35072_S35072x1_0 bcast_S35072x1_S35072x8_0_1 bcast_S8_S1x8_1 bcast_S1x8_S35072x8_0_1 natLt_1_32 reducesTo_S35072x8_S35072_d1 h_S_ r).trans ?_
  have e := Count.expert_of_row x (r.val / 256) (r.val % 256) (by omega)
  rw [show 256 * (r.val / 256) + r.val % 256 = r.val by omega] at e
  exact congrArg (BitVec.ofNat 32) e

theorem gate_at (r : Fin 35072) (e : Fin 8) (h : Count.expertAt x (r.val / 256) < 8) :
    val_main_v19 (F := Ideal) x (ix2 r e) = if Count.expertAt x (r.val / 256) = e.val then 1 else 0 := by
  have h1 : val_main_call2_v2 (F := Ideal) x (ix2 r e) = BitVec.ofNat 32 (Count.expertAt x (r.val / 256)) :=
    (Routing.bcRows bcast_S35072_S35072x1_0 bcast_S35072x1_S35072x8_0_1 (val_main_v18 (F := Ideal) x) r e).trans (expert_at hx r)
  have h2 : val_main_call2_v3 (F := Ideal) (ix2 r e) = BitVec.ofNat 32 e.val := rfl
  have he := e.isLt
  have k : IntOp.cmpi .eq (val_main_call2_v2 (F := Ideal) x (ix2 r e)) (val_main_call2_v3 (F := Ideal) (ix2 r e)) = 1#1 ↔ Count.expertAt x (r.val / 256) = e.val := by
    rw [h1, h2]
    exact WordCmp.cmpi_eq_ofNat_eq_one_iff (by omega) (by omega)
  refine (?_ : (((IntOp.cmpi .eq (val_main_call2_v2 (F := Ideal) x (ix2 r e)) (val_main_call2_v3 (F := Ideal) (ix2 r e))).toNat : ℝ) : EReal) = _)
  generalize IntOp.cmpi .eq (val_main_call2_v2 (F := Ideal) x (ix2 r e)) (val_main_call2_v3 (F := Ideal) (ix2 r e)) = b at k
  have hb : ∀ b : BitVec 1, b = 0#1 ∨ b = 1#1 := by decide
  rcases hb b with rfl | rfl
  · rw [if_neg fun q => absurd (k.mpr q) (by decide)]
    simp
  · rw [if_pos (k.mp rfl)]
    simp

end Gate

variable (x0 : Vec Ideal S35072x1024 .f32) (x1 : IVec S8 32) (x2 x3 : Vec Ideal S1x8x1024x2816 .f32) (x4 : Vec Ideal S1x8x2816x1024 .f32)

theorem weight_apply (w : Vec Ideal S1x8x1024x2816 .f32) (e : Fin 8) (k : Fin 1024) (f : Fin 2816) : val_main_v0 (F := Ideal) w (ix3 e k f) = w (ix4 0 e k f) := by
  pointwise [val_main_v0]

theorem weight2_apply (w : Vec Ideal S1x8x2816x1024 .f32) (e : Fin 8) (f : Fin 2816) (d : Fin 1024) : val_main_v2 (F := Ideal) w (ix3 e f d) = w (ix4 0 e f d) := by
  pointwise [val_main_v2]

/-- One expert's addend, of the reference's own arrays. -/
abbrev term (e : ℕ) (hg : S35072x8.Slices ![0, e] S35072x1) (h : S8x1024x2816.Slices ![e, 0, 0] S1x1024x2816) (h2 : S8x2816x1024.Slices ![e, 0, 0] S1x2816x1024) : Vec Ideal S35072x1024 .f32 :=
  addend (val_main_v19 (F := Ideal) x1) x0 (val_main_v0 (F := Ideal) x2) (val_main_v1 (F := Ideal) x3) (val_main_v2 (F := Ideal) x4) e hg h h2

/-- The reference adds up the experts' addends. -/
theorem result_terms (i : S35072x1024.Idx) : val_main_v141 (F := Ideal) x0 x1 x2 x3 x4 i =
    val_main_v20 (F := Ideal) i
    + term x0 x1 x2 x3 x4 0 slices_S35072x8_S35072x1_0_0 slices_S8x1024x2816_S1x1024x2816_0_0_0 slices_S8x2816x1024_S1x2816x1024_0_0_0 i
    + term x0 x1 x2 x3 x4 1 slices_S35072x8_S35072x1_0_1 slices_S8x1024x2816_S1x1024x2816_1_0_0 slices_S8x2816x1024_S1x2816x1024_1_0_0 i
    + term x0 x1 x2 x3 x4 2 slices_S35072x8_S35072x1_0_2 slices_S8x1024x2816_S1x1024x2816_2_0_0 slices_S8x2816x1024_S1x2816x1024_2_0_0 i
    + term x0 x1 x2 x3 x4 3 slices_S35072x8_S35072x1_0_3 slices_S8x1024x2816_S1x1024x2816_3_0_0 slices_S8x2816x1024_S1x2816x1024_3_0_0 i
    + term x0 x1 x2 x3 x4 4 slices_S35072x8_S35072x1_0_4 slices_S8x1024x2816_S1x1024x2816_4_0_0 slices_S8x2816x1024_S1x2816x1024_4_0_0 i
    + term x0 x1 x2 x3 x4 5 slices_S35072x8_S35072x1_0_5 slices_S8x1024x2816_S1x1024x2816_5_0_0 slices_S8x2816x1024_S1x2816x1024_5_0_0 i
    + term x0 x1 x2 x3 x4 6 slices_S35072x8_S35072x1_0_6 slices_S8x1024x2816_S1x1024x2816_6_0_0 slices_S8x2816x1024_S1x2816x1024_6_0_0 i
    + term x0 x1 x2 x3 x4 7 slices_S35072x8_S35072x1_0_7 slices_S8x1024x2816_S1x1024x2816_7_0_0 slices_S8x2816x1024_S1x2816x1024_7_0_0 i := rfl

variable {x1}

/-- An addend of an expert the row was not sent to is nothing; the other is that expert's network at the row. -/
theorem term_apply (hx : Count.Sent x1) (r : Fin 35072) (d : Fin 1024) (E : Fin 8) (hE : Count.expertAt x1 (r.val / 256) = E.val) (e : Fin 8)
    (hg : S35072x8.Slices ![0, e.val] S35072x1) (h : S8x1024x2816.Slices ![e.val, 0, 0] S1x1024x2816) (h2 : S8x2816x1024.Slices ![e.val, 0, 0] S1x2816x1024) :
    term x0 x1 x2 x3 x4 e.val hg h h2 (ix2 r d) = if E = e then
      Swiglu.out (fun k => x0 (ix2 r k)) (fun k f => x2 (ix4 0 E k f)) (fun k f => x3 (ix4 0 E k f)) (fun f => x4 (ix4 0 E f d)) else 0 := by
  rw [term, addend_apply, gate_at hx r e (by rw [hE]; exact E.isLt), hE]
  by_cases q : E = e
  · subst q
    rw [if_pos rfl, if_pos rfl, one_mul]
    simp only [weight_apply, weight2_apply, show val_main_v1 (F := Ideal) x3 = val_main_v0 (F := Ideal) x3 from rfl]
  · rw [if_neg (fun w => q (Fin.ext w)), if_neg q, zero_mul]

theorem zero_add_sum (i : S35072x1024.Idx) : val_main_v20 (F := Ideal) i = 0 := by
  rw [val_main_v20_apply, val_main_cst_apply]
  exact Ideal.ofBits_zero_f32

theorem congr_sum8 {a0 a1 a2 a3 a4 a5 a6 a7 b0 b1 b2 b3 b4 b5 b6 b7 : EReal} (h0 : a0 = b0) (h1 : a1 = b1) (h2 : a2 = b2) (h3 : a3 = b3)
    (h4 : a4 = b4) (h5 : a5 = b5) (h6 : a6 = b6) (h7 : a7 = b7) : 0 + a0 + a1 + a2 + a3 + a4 + a5 + a6 + a7 = 0 + b0 + b1 + b2 + b3 + b4 + b5 + b6 + b7 := by
  rw [h0, h1, h2, h3, h4, h5, h6, h7]

/-- The reference's result at a row that was sent to expert `E`. -/
theorem reference_apply (hx : Count.Sent x1) (r : Fin 35072) (d : Fin 1024) (E : Fin 8) (hE : Count.expertAt x1 (r.val / 256) = E.val) :
    val_main_v141 (F := Ideal) x0 x1 x2 x3 x4 (ix2 r d)
      = Swiglu.out (fun k => x0 (ix2 r k)) (fun k f => x2 (ix4 0 E k f)) (fun k f => x3 (ix4 0 E k f)) (fun f => x4 (ix4 0 E f d)) := by
  have t := term_apply x0 x2 x3 x4 hx r d E hE
  rw [result_terms, zero_add_sum]
  generalize Swiglu.out (fun k => x0 (ix2 r k)) (fun k f => x2 (ix4 0 E k f)) (fun k f => x3 (ix4 0 E k f)) (fun f => x4 (ix4 0 E f d)) = o at t ⊢
  have t0 := t 0 slices_S35072x8_S35072x1_0_0 slices_S8x1024x2816_S1x1024x2816_0_0_0 slices_S8x2816x1024_S1x2816x1024_0_0_0
  have t1 := t 1 slices_S35072x8_S35072x1_0_1 slices_S8x1024x2816_S1x1024x2816_1_0_0 slices_S8x2816x1024_S1x2816x1024_1_0_0
  have t2 := t 2 slices_S35072x8_S35072x1_0_2 slices_S8x1024x2816_S1x1024x2816_2_0_0 slices_S8x2816x1024_S1x2816x1024_2_0_0
  have t3 := t 3 slices_S35072x8_S35072x1_0_3 slices_S8x1024x2816_S1x1024x2816_3_0_0 slices_S8x2816x1024_S1x2816x1024_3_0_0
  have t4 := t 4 slices_S35072x8_S35072x1_0_4 slices_S8x1024x2816_S1x1024x2816_4_0_0 slices_S8x2816x1024_S1x2816x1024_4_0_0
  have t5 := t 5 slices_S35072x8_S35072x1_0_5 slices_S8x1024x2816_S1x1024x2816_5_0_0 slices_S8x2816x1024_S1x2816x1024_5_0_0
  have t6 := t 6 slices_S35072x8_S35072x1_0_6 slices_S8x1024x2816_S1x1024x2816_6_0_0 slices_S8x2816x1024_S1x2816x1024_6_0_0
  have t7 := t 7 slices_S35072x8_S35072x1_0_7 slices_S8x1024x2816_S1x1024x2816_7_0_0 slices_S8x2816x1024_S1x2816x1024_7_0_0
  refine (congr_sum8 t0 t1 t2 t3 t4 t5 t6 t7).trans ?_
  clear * -
  revert E
  intro E
  fin_cases E <;> simp

end Cert.Proof.ExpertReference

end
-- ==== Proof.ExpertResult.lean ====
/- The expert call against its reference, at the rows that were sent. -/
module

public import proofs.«01_k».proof.Proof.ExpertArray
public import proofs.«01_k».proof.Proof.ExpertReference
public import proofs.«01_k».proof.Proof.ExpertFrames
public import proofs.«01_k».proof.Proof.Gen.On_sent_rows

@[expose] public section

set_option maxRecDepth 16384

noncomputable section

namespace Cert.Proof

open Idealize.ShloMosaic Idealize.SL.Sem

/-- A row the mask names is a row of the tiles. -/
theorem mask_read (x0 : FVec Ideal Cert.On_sent_rows.S35072x1024 .f32) (x1 : IVec Cert.On_sent_rows.S8 32) (x2 x3 : FVec Ideal Cert.On_sent_rows.S1x8x1024x2816 .f32)
    (x4 : FVec Ideal Cert.On_sent_rows.S1x8x2816x1024 .f32) (hx : Count.Sent x1) (i : Cert.On_sent_rows.S35072x1024.Idx)
    (h : Cert.On_sent_rows.fn x0 x1 x2 x3 x4 i = 1#1) : (i 0).val < 256 * Count.total x1 := by
  have h0 : (i 0).val < 35072 := (i 0).isLt
  have hm := Count.ends_le hx 7
  have ht := Routing.reduce_sum _ (Count.tiles x1) (Count.tiles_word hx Cert.On_sent_rows.Facts.bcast_S_S8) Cert.On_sent_rows.Facts.reducesTo_S8_S_d0 Cert.On_sent_rows.Facts.h_S_
  have k : IntOp.cmpi .slt (BitVec.ofNat 32 (i 0).val) (BitVec.ofNat 32 (Count.total x1) * 256#32) = 1#1 := by
    refine Eq.trans (congrArg (IntOp.cmpi .slt (BitVec.ofNat 32 (i 0).val)) ?_) h
    exact ((Routing.bc0 Cert.On_sent_rows.Facts.bcast_S_S35072x1024 _ i).trans (congrArg (· * 256#32) ht)).symm
  rw [show (256#32 : BitVec 32) = BitVec.ofNat 32 256 from rfl, BitVec.ofNat_mul_ofNat] at k
  have q := (WordCmp.cmpi_slt_ofNat_eq_one_iff (w := 32) (by omega) (by show Count.ends x1 7 * 256 < 2 ^ 31; omega)).mp k
  omega

namespace ExpertIdeal

open Cert.ExpertIdeal Cert.ExpertIdeal.Gen Idealize.ShloMosaic.TcCoe

variable (m : (ℓ : Loc nD τ sig) → Buf (Elt Ideal) ℓ) (ρ : Dev nD → PrngReg)

theorem result_of {n : ℕ} (hO : Ok m) (r : PUnit × MemSt nD τ sig (Elt Ideal)) (h : Pipeline.FramePost (Pipeline.pin pcfgs fun _ => adm m hO) (dats m n hO) 0 (V m) r) (c : Dev nD) :
    r.2.mem ((c.tc : Thread nD τ).loc main_v27) = (dats m n hO 0 c).arrAt 4 (cfgM m hO).N := (h c).1 4

/-- The run, read at a row of the tiles. -/
theorem run_rows (hx : Count.Sent (counts m 0)) : θ_run defs (onTc (τ := τ) (main (F := Ideal))) ⟨m, fun _ => 0, ρ⟩ (fun r => ∀ c : Dev nD,
    (∀ i : S35072x1024.Idx, (i 0).val < 256 * Count.total (counts m 0) → r.2.mem ((c.tc : Thread nD τ).loc main_v27) i = whole m (ok_of_sent m hx) c i)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => ⟨fun i hi => (congrFun (result_of m (ok_of_sent m hx) r h.1 c) i).trans (array_at (ok_of_sent m hx) (tiles_of_sent m hx) c i hi),
    args_kept m (ok_of_sent m hx) r h.1 c⟩) (run_main m ρ (ok_of_sent m hx) (tiles_of_sent m hx))

/-- The reference's array at a row of the tiles. -/
theorem whole_eq (hx : Count.Sent (counts m 0)) (c : Dev nD) (i : S35072x1024.Idx) (hi : (i 0).val < 256 * Count.total (counts m 0)) :
    Cert.ExpertReferenceIdeal.Read.val_main_v141 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) i = whole m (ok_of_sent m hx) c i := by
  obtain rfl : c = 0 := Subsingleton.elim _ _
  obtain ⟨r, d, rfl⟩ : ∃ (r : Fin 35072) (d : Fin 1024), i = ix2 r d := ⟨i 0, i 1, funext fun a => by fin_cases a <;> rfl⟩
  have hr : r.val < 256 * Count.total (counts m 0) := hi
  have hE := Count.expertAt_lt (counts m 0) (t := r.val / 256) (by omega)
  exact (ExpertReference.reference_apply _ _ _ _ hx r d ⟨_, hE⟩ rfl).trans (whole_apply m hx (ok_of_sent m hx) 0 r d ⟨_, hE⟩ hr rfl).symm

end ExpertIdeal

/-- The expert call's result is the reference's, at every row of a tile that holds rows sent. -/
theorem algebraic_expert : Cert.algebraic_ExpertIdeal_ExpertReferenceIdeal_on_sent_rows := fun m g m' g' hp hm => by
  have hx : Count.Sent (ExpertIdeal.counts m 0) := sent_read _ _ _ _ _ (hp 0)
  refine ⟨fun c => ExpertIdeal.whole m (ExpertIdeal.ok_of_sent m hx) c, ?_, ?_⟩
  · refine (θ_run _ _ _).mono (fun r h c => ⟨fun i hi => (h c).1 i ?_, (h c).2⟩) (ExpertIdeal.run_rows m g hx)
    obtain rfl : c = 0 := Subsingleton.elim _ _
    exact mask_read _ _ _ _ _ hx i hi
  · refine (θ_run _ _ _).mono (fun r h c => ⟨fun i hi => ?_, (h c).2⟩) (Cert.ExpertReferenceIdeal.Value.run m' g')
    obtain ⟨h0, h1, h2, h3, h4⟩ := hm c
    have hi' : (i 0).val < 256 * Count.total (ExpertIdeal.counts m 0) := by
      obtain rfl : c = 0 := Subsingleton.elim _ _
      exact mask_read _ _ _ _ _ hx i hi
    refine Eq.trans ?_ (ExpertIdeal.whole_eq m hx c i hi')
    rw [← h0, ← h1, ← h2, ← h3, ← h4]
    exact congrFun ((h c).1.trans (Cert.ExpertReferenceIdeal.Read.val_main_v141_eq (Idealize.ShloMosaic.StableHlo.launchContents m' c))) i

end Cert.Proof

end
-- ==== Proof.DenseMath.lean ====
/- The dense feed-forward part at one row and one column. -/
module

public import proofs.«01_k».proof.Proof.ExpertMath

@[expose] public section

noncomputable section

namespace Cert.Proof.Dense

open Idealize.ShloMosaic

/-- A row scaled by the root of its mean square, and by the norm's weights. -/
def norm (x g : Fin 1024 → EReal) (k : Fin 1024) : EReal :=
  x k * Ideal.rsqrt (Ideal.div (∑ j, x j * x j) (Scalar.ofBits (F := Ideal) .f32 0x44800000#32) + Scalar.ofBits (F := Ideal) .f32 0x358637BD#32) * g k

/-- A column of a row's result. -/
def out (x g : Fin 1024 → EReal) (w1 w3 : Fin 1024 → Fin 2816 → EReal) (w2 : Fin 2816 → EReal) (d : Fin 1024) : EReal :=
  x d + Swiglu.out (norm x g) w1 w3 w2

end Cert.Proof.Dense

end
-- ==== Proof.DenseValue.lean ====
/- The block a point of the dense kernel computes, at an index. -/
module

public import proofs.«01_k».proof.Proof.DenseMath
public import proofs.«01_k».proof.Proof.Gen.DenseIdeal.Frame
public import Idealize.ShloMosaic.Lib.VecWindow
public import Idealize.ShloMosaic.Lib.Pointwise

@[expose] public section

set_option maxRecDepth 16384

noncomputable section

namespace Cert.Proof.DenseIdeal

open Cert.DenseIdeal Cert.DenseIdeal.Gen
open Idealize.ShloMosaic

theorem norm_value (x : Vec Ideal S512x1024 .f32) (g : Vec Ideal S1x1024 .f32) (a : Fin 512) (k : Fin 1024) :
    k0_pay5 (F := Ideal) x g (ix2 a k) = Dense.norm (fun k => x (ix2 a k)) (fun k => g (ix2 0 k)) k := by
  pointwise [k0_pay5, k0_pay4]
  rfl

/-- The hidden features of a block of rows. -/
def hidden (n : Vec Ideal S512x1024 .bf16) (w1 w3 : Vec Ideal S1024x2816 .bf16) : Vec Ideal S512x2816 .bf16 := fun y =>
  Swiglu.unit (∑ k : Fin 1024, n (ix2 (y 0) k) * w1 (ix2 k (y 1))) (∑ k : Fin 1024, n (ix2 (y 0) k) * w3 (ix2 k (y 1)))

theorem part_value (n : Vec Ideal S512x1024 .bf16) (w1 w3 : Vec Ideal S1024x512 .bf16) (a : Fin 512) (f : Fin 512) :
    k0_pay11 (F := Ideal) n w1 w3 (ix2 a f) = Swiglu.unit (∑ k : Fin 1024, n (ix2 a k) * w1 (ix2 k f)) (∑ k : Fin 1024, n (ix2 a k) * w3 (ix2 k f)) := by
  pointwise [k0_pay11]
  rfl

theorem lastPart_value (n : Vec Ideal S512x1024 .bf16) (w1 w3 : Vec Ideal S1024x256 .bf16) (a : Fin 512) (f : Fin 256) :
    k0_pay2 (F := Ideal) n w1 w3 (ix2 a f) = Swiglu.unit (∑ k : Fin 1024, n (ix2 a k) * w1 (ix2 k f)) (∑ k : Fin 1024, n (ix2 a k) * w3 (ix2 k f)) := by
  pointwise [k0_pay2]
  rfl

theorem sum_value (x : Vec Ideal S512x1024 .f32) (h : Vec Ideal S512x2816 .bf16) (w2 : Vec Ideal S2816x1024 .bf16) (a : Fin 512) (d : Fin 1024) :
    k0_pay3 (F := Ideal) (k0_pay4 x) h w2 (ix2 a d) = x (ix2 a d) + ∑ f : Fin 2816, h (ix2 a f) * w2 (ix2 f d) := by
  pointwise [k0_pay3, k0_pay4]

section Scratch

variable {sp sp' : Space} (v v' : View sig .tc sp S1024x2816 .bf16) (X : v.ty.Contents (Elt Ideal)) (X' : v'.ty.Contents (Elt Ideal)) (n : Vec Ideal S512x1024 .bf16)

theorem cols_inb : ∀ j : Fin 5, ∀ a, (![0, 512 * j.val] : Fin 2 → ℕ) a + S1024x512.size a ≤ S1024x2816.size a := by decide
theorem part_inb : ∀ j : Fin 5, ∀ a, (![0, 512 * j.val] : Fin 2 → ℕ) a + S512x512.size a ≤ S512x2816.size a := by decide

/-- The store of the `j`-th five hundred and twelve columns. -/
abbrev part (j : Fin 5) : View.Piece (Elt Ideal) S512x2816 .bf16 :=
  ⟨Rect.unit (s := S512x2816) ![0, 512 * j.val] S512x512.size (part_inb j),
    k0_pay11 n (v.readAt (Elt Ideal) (Rect.unit (s := S1024x2816) ![0, 512 * j.val] S1024x512.size (cols_inb j)).toLoadRect X)
      (v'.readAt (Elt Ideal) (Rect.unit (s := S1024x2816) ![0, 512 * j.val] S1024x512.size (cols_inb j)).toLoadRect X')⟩

/-- The store of the last columns. -/
abbrev lastPart : View.Piece (Elt Ideal) S512x2816 .bf16 :=
  ⟨Rect.unit (s := S512x2816) ![0, 2560] S512x256.size inb_S512x2816_S512x256_0_2560,
    k0_pay2 n (v.readAt (Elt Ideal) (Rect.unit (s := S1024x2816) ![0, 2560] S1024x256.size inb_S1024x2816_S1024x256_0_2560).toLoadRect X)
      (v'.readAt (Elt Ideal) (Rect.unit (s := S1024x2816) ![0, 2560] S1024x256.size inb_S1024x2816_S1024x256_0_2560).toLoadRect X')⟩

/-- The scratch's stores, the newest first. -/
abbrev parts : List (View.Piece (Elt Ideal) S512x2816 .bf16) :=
  [lastPart v v' X X' n, part v v' X X' n 4, part v v' X X' n 3, part v v' X X' n 2, part v v' X X' n 1, part v v' X X' n 0]

/-- Columns of a weight, read through the rectangle that starts at column `o`. -/
theorem read_cols {W : ℕ} (o : ℕ) (h : ∀ a, (![0, o] : Fin 2 → ℕ) a + (![1024, W] : Fin 2 → ℕ) a ≤ S1024x2816.size a) (k : Fin 1024) (f : Fin W) (g : Fin 2816) (hg : g.val = o + f.val) :
    v.readAt (Elt Ideal) (Rect.unit (s := S1024x2816) ![0, o] ![1024, W] h).toLoadRect X (ix2 k f) = v.read (Elt Ideal) X (ix2 k g) := by
  refine congrArg (v.read (Elt Ideal) X) (funext fun a => Fin.ext ?_)
  fin_cases a
  · show 0 + 1 * k.val = k.val
    omega
  · show o + 1 * f.val = g.val
    omega

theorem unit_cols {W : ℕ} (o : ℕ) (h : ∀ a, (![0, o] : Fin 2 → ℕ) a + (![1024, W] : Fin 2 → ℕ) a ≤ S1024x2816.size a) (a a' : Fin 512) (ha : a' = a) (f : Fin W) (g : Fin 2816) (hg : g.val = o + f.val) :
    Swiglu.unit (∑ k : Fin 1024, n (ix2 a k) * v.readAt (Elt Ideal) (Rect.unit (s := S1024x2816) ![0, o] ![1024, W] h).toLoadRect X (ix2 k f))
      (∑ k : Fin 1024, n (ix2 a k) * v'.readAt (Elt Ideal) (Rect.unit (s := S1024x2816) ![0, o] ![1024, W] h).toLoadRect X' (ix2 k f))
    = hidden n (v.read (Elt Ideal) X) (v'.read (Elt Ideal) X') (ix2 a' g) := by
  subst ha
  exact congr (congrArg Swiglu.unit (Finset.sum_congr rfl fun k _ => congrArg (n (ix2 a' k) * ·) (read_cols v X o h k f g hg)))
    (Finset.sum_congr rfl fun k _ => congrArg (n (ix2 a' k) * ·) (read_cols v' X' o h k f g hg))

theorem part_apply (j : Fin 5) (y : S512x512.Idx) :
    (part v v' X X' n j).2 y = hidden n (v.read (Elt Ideal) X) (v'.read (Elt Ideal) X') ((part v v' X X' n j).1.emb y) := by
  obtain ⟨a, f, rfl⟩ : ∃ (a : Fin 512) (f : Fin 512), y = ix2 a f := ⟨y 0, y 1, funext fun x => by fin_cases x <;> rfl⟩
  refine ((part_value n _ _ a f).trans (unit_cols v v' X X' n (512 * j.val) (cols_inb j) a a rfl f ⟨512 * j.val + f.val, by omega⟩ rfl)).trans (congrArg _ (funext fun x => Fin.ext ?_))
  fin_cases x
  · show a.val = 0 + 1 * a.val
    omega
  · show 512 * j.val + f.val = 512 * j.val + 1 * f.val
    omega

theorem lastPart_apply (y : S512x256.Idx) :
    (lastPart v v' X X' n).2 y = hidden n (v.read (Elt Ideal) X) (v'.read (Elt Ideal) X') ((lastPart v v' X X' n).1.emb y) := by
  obtain ⟨a, f, rfl⟩ : ∃ (a : Fin 512) (f : Fin 256), y = ix2 a f := ⟨y 0, y 1, funext fun x => by fin_cases x <;> rfl⟩
  refine ((lastPart_value n _ _ a f).trans (unit_cols v v' X X' n 2560 inb_S1024x2816_S1024x256_0_2560 a a rfl f ⟨2560 + f.val, by omega⟩ rfl)).trans (congrArg _ (funext fun x => Fin.ext ?_))
  fin_cases x
  · show a.val = 0 + 1 * a.val
    omega
  · show 2560 + f.val = 2560 + 1 * f.val
    omega

/-- The scratch read back. -/
theorem read_parts (w : View sig .tc sp' S512x2816 .bf16) (f : w.ty.Contents (Elt Ideal)) :
    w.read (Elt Ideal) (w.writes (Elt Ideal) f (parts v v' X X' n)) = hidden n (v.read (Elt Ideal) X) (v'.read (Elt Ideal) X') := funext fun y =>
  View.read_writes_apply_of_pieces w f _ _ (by
    intro p hp
    simp only [List.mem_cons, List.not_mem_nil, or_false] at hp
    rcases hp with rfl | rfl | rfl | rfl | rfl | rfl
    · exact lastPart_apply v v' X X' n
    all_goals exact part_apply v v' X X' n _) y
    (View.cover_of_tiledBy (parts v v' X X' n) ![512, 256] (by sl_kernel_rfl) y)

end Scratch

/-- The block a point leaves. -/
theorem out_eq (c : Dev nD) (i : grid0.Coords) (arg1 : Memref sig .tc .vmem S512x1024 .f32) (harg1 : arg1.IsWhole) (arg2 : Memref sig .tc .vmem S1x1024 .f32) (harg2 : arg2.IsWhole)
    (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole)
    (arg6 : Memref sig .tc .vmem S512x1024 .f32) (harg6 : arg6.IsWhole) (arg7 : Memref sig .tc .vmem S512x2816 .bf16) (harg7 : arg7.IsWhole)
    (x0 : Vec Ideal S512x1024 .f32) (x1 : Vec Ideal S1x1024 .f32) (x2 x3 : Vec Ideal S1024x2816 .bf16) (x4 : Vec Ideal S2816x1024 .bf16) :
    out0_A_5 (F := Ideal) c i arg1 harg1 arg2 harg2 arg3 harg3 arg4 harg4 arg5 harg5 arg6 harg6 arg7 harg7 x0 x1 x2 x3 x4 = k0_pay3 (k0_pay4 x0) (hidden (k0_pay5 x0 x1) x2 x3) x4 := by
  unfold out0_A_5
  refine (View.read_writes_full _ _ _ _ _ : _ = k0_pay3 (k0_pay4 (arg1.view.readAt (Elt Ideal) (Rect.unit (s := S512x1024) ![0, 0] S512x1024.size inb_S512x1024_S512x1024_0_0).toLoadRect (harg1.unread x0)))
      (arg7.view.readAt (Elt Ideal) (Rect.unit (s := S512x2816) ![0, 0] S512x2816.size inb_S512x2816_S512x2816_0_0).toLoadRect
        (arg7.view.writes (Elt Ideal) arg7.view.junk (parts arg3.view arg4.view (harg3.unread x2) (harg4.unread x3)
          (k0_pay5 (arg1.view.readAt (Elt Ideal) (Rect.unit (s := S512x1024) ![0, 0] S512x1024.size inb_S512x1024_S512x1024_0_0).toLoadRect (harg1.unread x0))
            (arg2.view.readAt (Elt Ideal) (Rect.unit (s := S1x1024) ![0, 0] S1x1024.size inb_S1x1024_S1x1024_0_0).toLoadRect (harg2.unread x1))))))
      (arg5.view.readAt (Elt Ideal) (Rect.unit (s := S2816x1024) ![0, 0] S2816x1024.size inb_S2816x1024_S2816x1024_0_0).toLoadRect (harg5.unread x4))).trans ?_
  rw [View.readAt_full, View.readAt_full, View.readAt_full, View.readAt_full, read_parts, harg1.read_unread, harg2.read_unread, harg3.read_unread, harg4.read_unread, harg5.read_unread]

/-- A block of the result, at an index, from the blocks it was computed from. -/
theorem block_value (x : Vec Ideal S512x1024 .f32) (g : Vec Ideal S1x1024 .f32) (w1 w3 : Vec Ideal S1024x2816 .bf16) (w2 : Vec Ideal S2816x1024 .bf16) (a : Fin 512) (d : Fin 1024) :
    k0_pay3 (F := Ideal) (k0_pay4 x) (hidden (k0_pay5 x g) w1 w3) w2 (ix2 a d)
      = Dense.out (fun k => x (ix2 a k)) (fun k => g (ix2 0 k)) (fun k f => w1 (ix2 k f)) (fun k f => w3 (ix2 k f)) (fun f => w2 (ix2 f d)) d := by
  have hn := norm_value x g a
  refine (sum_value _ _ _ a d).trans (congrArg (x (ix2 a d) + ·) (Finset.sum_congr rfl fun f _ => congrArg (· * w2 (ix2 f d)) ?_))
  exact congr (congrArg Swiglu.unit (Finset.sum_congr rfl fun k _ => congrArg (· * w1 (ix2 k f)) (hn k)))
    (Finset.sum_congr rfl fun k _ => congrArg (· * w3 (ix2 k f)) (hn k))

end Cert.Proof.DenseIdeal

end
-- ==== Proof.DenseReference.lean ====
/- The dense part's reference, at an index. -/
module

public import proofs.«01_k».proof.Proof.DenseMath
public import proofs.«01_k».proof.Proof.Gen.DenseReferenceIdeal
public import proofs.«01_k».proof.Proof.Gen.DenseReferenceIdeal.Read
public import Idealize.ShloMosaic.Lib.Pointwise

@[expose] public section

set_option maxRecDepth 16384

noncomputable section

namespace Cert.Proof.DenseReference

open Cert.DenseReferenceIdeal Cert.DenseReferenceIdeal.Gen Cert.DenseReferenceIdeal.Read
open Idealize.ShloMosaic

theorem norm_apply (x0 : Vec Ideal S8x2048x1024 .f32) (x1 : Vec Ideal S2x1024 .f32) (b : Fin 8) (t : Fin 2048) (k : Fin 1024) :
    val_main_v14 (F := Ideal) x0 x1 (ix3 b t k) = Dense.norm (fun k => x0 (ix3 b t k)) (fun k => x1 (ix2 0 k)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem proj_apply (n : Vec Ideal S8x2048x1024 .f32) (w : Vec Ideal S1x1024x2816 .f32) (b : Fin 8) (t : Fin 2048) (f : Fin 2816) :
    Host.dotGeneral (F := Ideal) (φ₁ := .f32) (φ₂ := .f32) dot_S8x2048x1024_S1024x2816_S8x2048x2816_2_0_01_1_n_n none n (shapeCast S1024x2816 w shapeCasts_S1x1024x2816_S1024x2816) (ix3 b t f)
      = ∑ k : Fin 1024, n (ix3 b t k) * w (ix3 0 k f) := by
  pointwise

theorem gated_apply (a c : Vec Ideal S8x2048x2816 .f32) (i : S8x2048x2816.Idx) :
    mulf (F := Ideal) (φ := .f32) (mulf (F := Ideal) (φ := .f32) a (Host.divf (F := Ideal) (φ := .f32) (val_main_call0_v4 (F := Ideal)) (addf (F := Ideal) (φ := .f32) (val_main_call0_v2 (F := Ideal)) (Host.exp (F := Ideal) (φ := .f32) (Host.negf (F := Ideal) (φ := .f32) a))))) c i
      = Swiglu.unit (a i) (c i) := by
  pointwise [val_main_call0_v4, val_main_call0_v2, val_main_call0_cst, val_main_call0_cst_0]
  rfl

theorem hidden_apply (x0 : Vec Ideal S8x2048x1024 .f32) (x1 : Vec Ideal S2x1024 .f32) (x2 x3 : Vec Ideal S1x1024x2816 .f32) (b : Fin 8) (t : Fin 2048) (f : Fin 2816) :
    val_main_v21 (F := Ideal) x0 x1 x2 x3 (ix3 b t f) = Swiglu.unit (∑ k : Fin 1024, Dense.norm (fun k => x0 (ix3 b t k)) (fun k => x1 (ix2 0 k)) k * x2 (ix3 0 k f))
      (∑ k : Fin 1024, Dense.norm (fun k => x0 (ix3 b t k)) (fun k => x1 (ix2 0 k)) k * x3 (ix3 0 k f)) := by
  have hp : ∀ w : Vec Ideal S1x1024x2816 .f32, Host.dotGeneral (F := Ideal) (φ₁ := .f32) (φ₂ := .f32) dot_S8x2048x1024_S1024x2816_S8x2048x2816_2_0_01_1_n_n none (val_main_v14 (F := Ideal) x0 x1) (shapeCast S1024x2816 w shapeCasts_S1x1024x2816_S1024x2816) (ix3 b t f)
      = ∑ k : Fin 1024, Dense.norm (fun k => x0 (ix3 b t k)) (fun k => x1 (ix2 0 k)) k * w (ix3 0 k f) := fun w =>
    (proj_apply _ w b t f).trans (Finset.sum_congr rfl fun k _ => congrArg (· * w (ix3 0 k f)) (norm_apply x0 x1 b t k))
  exact (gated_apply _ _ _).trans (congr (congrArg Swiglu.unit (hp x2)) (hp x3))

theorem last_apply (x0 : Vec Ideal S8x2048x1024 .f32) (h : Vec Ideal S8x2048x2816 .f32) (w : Vec Ideal S1x2816x1024 .f32) (r : Fin 16384) (d : Fin 1024) (b : Fin 8) (t : Fin 2048) (hr : r.val = 2048 * b.val + t.val) :
    shapeCast S16384x1024 (addf (F := Ideal) (φ := .f32) x0 (Host.dotGeneral (F := Ideal) (φ₁ := .f32) (φ₂ := .f32) dot_S8x2048x2816_S2816x1024_S8x2048x1024_2_0_01_1_n_n none h (shapeCast S2816x1024 w shapeCasts_S1x2816x1024_S2816x1024))) shapeCasts_S8x2048x1024_S16384x1024 (ix2 r d)
      = x0 (ix3 b t d) + ∑ f : Fin 2816, h (ix3 b t f) * w (ix3 0 f d) := by
  refine (shapeCast_apply _ shapeCasts_S8x2048x1024_S16384x1024 (ix2 r d) (ix3 b t d) (by
    rewrite [Shape.rowMajor_val_three, Shape.rowMajor_val_two]
    show (b.val * 2048 + t.val) * 1024 + d.val = r.val * 1024 + d.val
    omega)).trans ?_
  pointwise

/-- The reference's result at a row of the prompt. -/
theorem reference_apply (x0 : Vec Ideal S8x2048x1024 .f32) (x1 : Vec Ideal S2x1024 .f32) (x2 x3 : Vec Ideal S1x1024x2816 .f32) (x4 : Vec Ideal S1x2816x1024 .f32) (r : Fin 16384) (d : Fin 1024) (b : Fin 8) (t : Fin 2048) (hr : r.val = 2048 * b.val + t.val) :
    val_main_v24 (F := Ideal) x0 x1 x2 x3 x4 (ix2 r d)
      = Dense.out (fun k => x0 (ix3 b t k)) (fun k => x1 (ix2 0 k)) (fun k f => x2 (ix3 0 k f)) (fun k f => x3 (ix3 0 k f)) (fun f => x4 (ix3 0 f d)) d :=
  (last_apply x0 _ x4 r d b t hr).trans (congrArg (x0 (ix3 b t d) + ·) (Finset.sum_congr rfl fun f _ => congrArg (· * x4 (ix3 0 f d)) (hidden_apply x0 x1 x2 x3 b t f)))

end Cert.Proof.DenseReference

end
-- ==== Proof.DenseArray.lean ====
/- The result array of the dense kernel after the run. -/
module

public import proofs.«01_k».proof.Proof.DenseValue
public import proofs.«01_k».proof.Proof.DenseReference
public import proofs.«01_k».proof.Proof.Gen.DenseIdeal.Value
public import proofs.«01_k».proof.Proof.Gen.Dense.Frame
public import proofs.«01_k».proof.Proof.Gen.DenseIdeal.Frame
public import proofs.«01_k».proof.Proof.Gen.DenseReferenceIdeal.Run
public import Idealize.ShloMosaic.Lib.Pipeline.ValueKit.Basic
public import proofs.«01_k».proof.Defs

@[expose] public section

set_option maxRecDepth 16384

noncomputable section

namespace Cert.Proof.DenseIdeal

open Cert.DenseIdeal Cert.DenseIdeal.Gen
open Idealize.ShloMosaic Idealize.ShloMosaic.TcCoe Idealize.ShloMosaic.Tactic

/-! ## The arrays the windows read -/

section Stretch

variable {F : FTy → Type} [FloatOps F] (W : Valuation τ sig (Elt F))

theorem host_w1 : StableHlo.after hostOps0 W (Proc.devRef .tc main_v1) = truncf (F := F) (φ := .f32) .bf16 (shapeCast S1024x2816 (W (Proc.devRef .tc main_arg2)) shapeCasts_S1x1024x2816_S1024x2816) bitsLt_bf16_f32 := by
  after_results
  rfl
theorem host_w3 : StableHlo.after hostOps0 W (Proc.devRef .tc main_v3) = truncf (F := F) (φ := .f32) .bf16 (shapeCast S1024x2816 (W (Proc.devRef .tc main_arg3)) shapeCasts_S1x1024x2816_S1024x2816) bitsLt_bf16_f32 := by
  after_results
  rfl
theorem host_w2 : StableHlo.after hostOps0 W (Proc.devRef .tc main_v5) = truncf (F := F) (φ := .f32) .bf16 (shapeCast S2816x1024 (W (Proc.devRef .tc main_arg4)) shapeCasts_S1x2816x1024_S2816x1024) bitsLt_bf16_f32 := by
  after_results
  rfl
theorem host_rows : StableHlo.after hostOps0 W (Proc.devRef .tc main_v6) = shapeCast S16384x1024 (W (Proc.devRef .tc main_arg0)) shapeCasts_S8x2048x1024_S16384x1024 := by
  after_results
  rfl
theorem host_gain : StableHlo.after hostOps0 W (Proc.devRef .tc main_v9)
    = shapeCast S1x1024 (shapeCast S1024 (extractStridedSlice S1x1024 ![0, 0] (W (Proc.devRef .tc main_arg1)) slices_S2x1024_S1x1024_0_0) shapeCasts_S1x1024_S1024) shapeCasts_S1024_S1x1024 := by
  after_results
  rfl

end Stretch

section Arrays

theorem weight_at (w : Vec Ideal S1x1024x2816 .f32) (k : Fin 1024) (f : Fin 2816) : shapeCast S1024x2816 w shapeCasts_S1x1024x2816_S1024x2816 (ix2 k f) = w (ix3 0 k f) := by
  pointwise

theorem weight2_at (w : Vec Ideal S1x2816x1024 .f32) (f : Fin 2816) (d : Fin 1024) : shapeCast S2816x1024 w shapeCasts_S1x2816x1024_S2816x1024 (ix2 f d) = w (ix3 0 f d) := by
  pointwise

theorem gain_at (g : Vec Ideal S2x1024 .f32) (k : Fin 1024) :
    shapeCast S1x1024 (shapeCast S1024 (extractStridedSlice S1x1024 ![0, 0] g slices_S2x1024_S1x1024_0_0) shapeCasts_S1x1024_S1024) shapeCasts_S1024_S1x1024 (ix2 0 k) = g (ix2 0 k) := by
  pointwise

theorem row_at (x : Vec Ideal S8x2048x1024 .f32) (r : Fin 16384) (k : Fin 1024) (b : Fin 8) (t : Fin 2048) (hr : r.val = 2048 * b.val + t.val) :
    shapeCast S16384x1024 x shapeCasts_S8x2048x1024_S16384x1024 (ix2 r k) = x (ix3 b t k) :=
  shapeCast_apply _ shapeCasts_S8x2048x1024_S16384x1024 (ix2 r k) (ix3 b t k) (by
    rewrite [Shape.rowMajor_val_three, Shape.rowMajor_val_two]
    show (b.val * 2048 + t.val) * 1024 + k.val = r.val * 1024 + k.val
    omega)

end Arrays

/-! ## The blocks of a point -/

section Blocks

variable (t : Fin cfg0.N)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = t.val ∧ win0_5.index t 1 = 0 := by decide +kernel
theorem flush5 : ∀ t : Fin cfg0.N, (cfg0.win 5).flush t = true := by decide +kernel

theorem read0_at (X : Vec Ideal S16384x1024 .f32) (a : Fin 512) (k : Fin 1024) (r : Fin 16384) (hr : r.val = 512 * t.val + a.val) : ((cfg0.win 0).blk t).view.read (Elt Ideal) X (ix2 a k) = X (ix2 r k) := by
  obtain ⟨e0, e1⟩ := index0 t
  refine congrArg X (funext fun x => Fin.ext ?_)
  fin_cases x
  · show win0_0.index t 0 * 512 + 1 * a.val = r.val
    omega
  · show win0_0.index t 1 * 1024 + 1 * k.val = k.val
    omega

theorem read5_at (X : Vec Ideal S16384x1024 .f32) (a : Fin 512) (k : Fin 1024) (r : Fin 16384) (hr : r.val = 512 * t.val + a.val) : ((cfg0.win 5).blk t).view.read (Elt Ideal) X (ix2 a k) = X (ix2 r k) := by
  obtain ⟨e0, e1⟩ := index5 t
  refine congrArg X (funext fun x => Fin.ext ?_)
  fin_cases x
  · show win0_5.index t 0 * 512 + 1 * a.val = r.val
    omega
  · show win0_5.index t 1 * 1024 + 1 * k.val = k.val
    omega

theorem read1_at (X : Vec Ideal S1x1024 .f32) (k : Fin 1024) : ((cfg0.win 1).blk t).view.read (Elt Ideal) X (ix2 0 k) = X (ix2 0 k) := by
  obtain ⟨e0, e1⟩ := index1 t
  refine congrArg X (funext fun x => Fin.ext ?_)
  fin_cases x
  · show win0_1.index t 0 * 1 + 1 * 0 = 0
    omega
  · show win0_1.index t 1 * 1024 + 1 * k.val = k.val
    omega

theorem read2_at (X : Vec Ideal S1024x2816 .bf16) (k : Fin 1024) (f : Fin 2816) : ((cfg0.win 2).blk t).view.read (Elt Ideal) X (ix2 k f) = X (ix2 k f) := by
  obtain ⟨e0, e1⟩ := index2 t
  refine congrArg X (funext fun x => Fin.ext ?_)
  fin_cases x
  · show win0_2.index t 0 * 1024 + 1 * k.val = k.val
    omega
  · show win0_2.index t 1 * 2816 + 1 * f.val = f.val
    omega

theorem read3_at (X : Vec Ideal S1024x2816 .bf16) (k : Fin 1024) (f : Fin 2816) : ((cfg0.win 3).blk t).view.read (Elt Ideal) X (ix2 k f) = X (ix2 k f) := by
  obtain ⟨e0, e1⟩ := index3 t
  refine congrArg X (funext fun x => Fin.ext ?_)
  fin_cases x
  · show win0_3.index t 0 * 1024 + 1 * k.val = k.val
    omega
  · show win0_3.index t 1 * 2816 + 1 * f.val = f.val
    omega

theorem read4_at (X : Vec Ideal S2816x1024 .bf16) (f : Fin 2816) (d : Fin 1024) : ((cfg0.win 4).blk t).view.read (Elt Ideal) X (ix2 f d) = X (ix2 f d) := by
  obtain ⟨e0, e1⟩ := index4 t
  refine congrArg X (funext fun x => Fin.ext ?_)
  fin_cases x
  · show win0_4.index t 0 * 2816 + 1 * f.val = f.val
    omega
  · show win0_4.index t 1 * 1024 + 1 * d.val = d.val
    omega

end Blocks

section Run

open Cert.DenseIdeal.Value

variable (m : (ℓ : Loc nD τ sig) → Buf (Elt Ideal) ℓ)

theorem rows_at (c : Dev nD) (t : Fin cfg0.N) (a : Fin 512) (k : Fin 1024) (r : Fin 16384) (b : Fin 8) (p : Fin 2048) (hr : r.val = 512 * t.val + a.val) (hb : r.val = 2048 * b.val + p.val) :
    iblk m c 0 t (ix2 a k) = m ((c.tc : Thread nD τ).loc main_arg0) (ix3 b p k) :=
  (read0_at t _ a k r hr).trans ((congrFun (host_rows (F := Ideal) (fun b => m (c, b))) _).trans (row_at _ r k b p hb))

theorem norm_at (c : Dev nD) (t : Fin cfg0.N) (k : Fin 1024) : iblk m c 1 t (ix2 0 k) = m ((c.tc : Thread nD τ).loc main_arg1) (ix2 0 k) :=
  (read1_at t _ k).trans ((congrFun (host_gain (F := Ideal) (fun b => m (c, b))) _).trans (gain_at _ k))

theorem w1_at (c : Dev nD) (t : Fin cfg0.N) (k : Fin 1024) (f : Fin 2816) : iblk m c 2 t (ix2 k f) = m ((c.tc : Thread nD τ).loc main_arg2) (ix3 0 k f) :=
  (read2_at t _ k f).trans ((congrFun (host_w1 (F := Ideal) (fun b => m (c, b))) _).trans (weight_at _ k f))

theorem w3_at (c : Dev nD) (t : Fin cfg0.N) (k : Fin 1024) (f : Fin 2816) : iblk m c 3 t (ix2 k f) = m ((c.tc : Thread nD τ).loc main_arg3) (ix3 0 k f) :=
  (read3_at t _ k f).trans ((congrFun (host_w3 (F := Ideal) (fun b => m (c, b))) _).trans (weight_at _ k f))

theorem w2_at (c : Dev nD) (t : Fin cfg0.N) (f : Fin 2816) (d : Fin 1024) : iblk m c 4 t (ix2 f d) = m ((c.tc : Thread nD τ).loc main_arg4) (ix3 0 f d) :=
  (read4_at t _ f d).trans ((congrFun (host_w2 (F := Ideal) (fun b => m (c, b))) _).trans (weight2_at _ f d))

/-- What the result holds after the run: the reference's array. -/
abbrev whole (c : Dev nD) : Vec Ideal S16384x1024 .f32 :=
  Cert.DenseReferenceIdeal.Read.val_main_v24 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- A grid point computes its 512 rows of the reference's array. -/
theorem point_apply (c : Dev nD) (t : Fin cfg0.N) (a : Fin 512) (d : Fin 1024) (r : Fin 16384) (hr : r.val = 512 * t.val + a.val) :
    k0_pay3 (k0_pay4 (iblk m c 0 t)) (hidden (k0_pay5 (iblk m c 0 t) (iblk m c 1 t)) (iblk m c 2 t) (iblk m c 3 t)) (iblk m c 4 t) (ix2 a d) = whole m c (ix2 r d) := by
  have hb : r.val = 2048 * (r.val / 2048) + r.val % 2048 := (Nat.div_add_mod _ _).symm
  have h0 : r.val / 2048 < 8 := by omega
  have h1 : r.val % 2048 < 2048 := Nat.mod_lt _ (by norm_num)
  refine (block_value _ _ _ _ _ a d).trans (Eq.trans ?_ (DenseReference.reference_apply _ _ _ _ _ r d ⟨r.val / 2048, h0⟩ ⟨r.val % 2048, h1⟩ hb).symm)
  have ex := funext fun k => rows_at m c t a k r ⟨r.val / 2048, h0⟩ ⟨r.val % 2048, h1⟩ hr hb
  have eg := funext fun k => norm_at m c t k
  have e1 := funext fun k => funext fun f => w1_at m c t k f
  have e3 := funext fun k => funext fun f => w3_at m c t k f
  have e2 := funext fun f => w2_at m c t f d
  exact congr (congr (congr (congr (congr (congrArg Dense.out ex) eg) e1) e3) e2) rfl

theorem flushed_eq (c : Dev nD) (t : Fin cfg0.N) : (dats m 0 c).flushed 5 t = ((cfg0.win 5).blk t).view.read (Elt Ideal) (whole m c) := by
  refine (flushed5_A m c t).trans ((congrArg ((cfg0.win 5).cut (grid0.coords t)) (out_eq c (grid0.coords t) _ _ _ _ _ _ _ _ _ _ _ _ _ _ _ _ _ _ _)).trans ?_)
  refine funext fun (y : S512x1024.Idx) => ?_
  obtain ⟨a, d, rfl⟩ : ∃ (a : Fin 512) (d : Fin 1024), y = ix2 a d := ⟨y 0, y 1, funext fun x => by fin_cases x <;> rfl⟩
  have ht : t.val < 32 := t.isLt
  exact (point_apply m c t a d ⟨512 * t.val + a.val, by omega⟩ rfl).trans (read5_at t (whole m c) a d _ rfl).symm

/-- The blocks cover the result. -/
theorem cover (i : S16384x1024.Idx) : ∃ t : Fin cfg0.N, (cfg0.win 5).flush t = true ∧ i ∈ ((cfg0.win 5).blk t).view.set := by
  have h0 : (i 0).val < 16384 := (i 0).isLt
  have h1 : (i 1).val < 1024 := (i 1).isLt
  have ht : (i 0).val / 512 < cfg0.N := (by omega : (i 0).val / 512 < 32)
  refine ⟨⟨(i 0).val / 512, ht⟩, flush5 _, ?_⟩
  obtain ⟨e0, e1⟩ := index5 ⟨(i 0).val / 512, ht⟩
  refine (Finset.ext_iff.mp (View.set_slice_whole main_v10 (win0_5.rect _)) i).mpr ((Pipeline.Window.mem_rect_iff win0_5 _ i rfl).mpr fun x => ?_)
  fin_cases x
  · show win0_5.index _ 0 * 512 ≤ (i 0).val ∧ (i 0).val < win0_5.index _ 0 * 512 + 512
    rw [e0]
    show (i 0).val / 512 * 512 ≤ _ ∧ _ < (i 0).val / 512 * 512 + 512
    omega
  · show win0_5.index _ 1 * 1024 ≤ (i 1).val ∧ (i 1).val < win0_5.index _ 1 * 1024 + 1024
    omega

theorem result_eq (c : Dev nD) : (dats m 0 c).arrAt 5 cfg0.N = whole m c :=
  (dats m 0 c).arrAt_eq_of_cover 5 (whole m c) (fun t _ => flushed_eq m c t) cover

end Run

end Cert.Proof.DenseIdeal

namespace Cert.Proof

open Idealize.ShloMosaic Idealize.SL.Sem

/-- The dense call's result is its reference's. -/
theorem algebraic_dense : Cert.algebraic_DenseIdeal_DenseReferenceIdeal := fun m g m' g' _ hm =>
  ⟨DenseIdeal.whole m, (θ_run _ _ _).mono (fun r h c => ⟨(h c).1.trans (DenseIdeal.result_eq m c), (h c).2⟩) (Cert.DenseIdeal.Value.run_blocks m g),
    (θ_run _ _ _).mono (fun r h c => by
      obtain ⟨h0, h1, h2, h3, h4⟩ := hm c
      refine ⟨(h c).1.trans ((Cert.DenseReferenceIdeal.Read.val_main_v24_eq _ _ _ _ _).trans ?_), (h c).2⟩
      rw [h0, h1, h2, h3, h4]) (Cert.DenseReferenceIdeal.Value.run m' g')⟩

theorem frame_dense : Cert.quiescent_Dense := fun m g _ => Cert.Dense.Gen.frame m g

theorem frame_denseIdeal : Cert.quiescent_DenseIdeal := fun m g _ => Cert.DenseIdeal.Gen.frame m g

theorem frame_denseReferenceIdeal : Cert.quiescent_DenseReferenceIdeal := fun m g _ =>
  (θ_run _ _ _).mono (fun r h => ⟨fun c => (h c).2, sem_eq_zero_of_no_sems rfl r.2⟩) (Cert.DenseReferenceIdeal.Value.run m g)

end Cert.Proof

end
-- ==== Proof.ProjectMath.lean ====
/- The input projections at one row and one column. -/
module

public import proofs.«01_k».proof.Proof.DenseMath

@[expose] public section

noncomputable section

namespace Cert.Proof.Project

open Idealize.ShloMosaic

/-- A column of a row's projection: the scaled row against a column of the weight. -/
def proj (x g : Fin 1024 → EReal) (w : Fin 1024 → Fin 6144 → EReal) (j : Fin 6144) : EReal :=
  ∑ k, Dense.norm x g k * w k j

/-- A feature times the squashed other half. -/
def gated (a b : EReal) : EReal := a * Ideal.logistic b

/-- A query's entry, scaled. -/
def scaled (a : EReal) : EReal := a * Scalar.ofBits (F := Ideal) .f32 0x3E000000#32

end Cert.Proof.Project

end
-- ==== Proof.ProjectValue.lean ====
/- The blocks a point of the projection kernel computes, at an index. -/
module

public import proofs.«01_k».proof.Proof.ProjectMath
public import proofs.«01_k».proof.Proof.Gen.ProjectIdeal.Frame
public import Idealize.ShloMosaic.Lib.VecWindow
public import Idealize.ShloMosaic.Lib.Pointwise

@[expose] public section

set_option maxRecDepth 16384

noncomputable section

namespace Cert.Proof.ProjectIdeal

open Cert.ProjectIdeal Cert.ProjectIdeal.Gen
open Idealize.ShloMosaic

/-! ## The payloads -/

theorem norm_value (x : Vec Ideal S512x1024 .f32) (g : Vec Ideal S1x1024 .f32) (a : Fin 512) (k : Fin 1024) :
    k0_pay2 (F := Ideal) x g (ix2 a k) = Dense.norm (fun k => x (ix2 a k)) (fun k => g (ix2 0 k)) k := by
  pointwise [k0_pay2]
  rfl

section Payload

variable (n : Vec Ideal S512x1024 .bf16) (w : Vec Ideal S1024x512 .bf16) (a f : Fin 512)

/-- A row against a column. -/
abbrev dot : EReal := ∑ k : Fin 1024, n (ix2 a k) * w (ix2 k f)

theorem k_value : k0_pay6 (F := Ideal) (k0_pay5 n w) (ix4 0 0 f a) = dot n w a f := by
  pointwise [k0_pay6, k0_pay5]

theorem v_value : k0_pay8 (F := Ideal) (k0_pay7 n w) (ix4 0 0 f a) = dot n w a f := by
  pointwise [k0_pay8, k0_pay7]

theorem p_value : k0_pay9 (F := Ideal) n w (ix2 a f) = dot n w a f := by
  pointwise [k0_pay9]

theorem gate0_value : k0_pay11 (F := Ideal) n (k0_pay10 w) (constant S512x512 .f32 0x00000000#32) (ix2 a f) = Ideal.logistic (dot n w a f) := by
  pointwise [k0_pay11, k0_pay10]

theorem gate1_value : k0_pay12 (F := Ideal) n w (ix2 a f) = Ideal.logistic (dot n w a f) := by
  pointwise [k0_pay12]

theorem gate2_value : k0_pay13 (F := Ideal) n w (ix2 a f) = Ideal.logistic (dot n w a f) := by
  pointwise [k0_pay13]

theorem gate3_value : k0_pay14 (F := Ideal) n w (ix2 a f) = Ideal.logistic (dot n w a f) := by
  pointwise [k0_pay14]

theorem gate4_value : k0_pay15 (F := Ideal) n w (ix2 a f) = Ideal.logistic (dot n w a f) := by
  pointwise [k0_pay15]

theorem gate5_value : k0_pay1 (F := Ideal) n (k0_pay16 w) (constant S512x512 .f32 0x00000000#32) (ix2 a f) = Ideal.logistic (dot n w a f) := by
  pointwise [k0_pay1, k0_pay16]

end Payload

theorem u_value (x : Vec Ideal S512x1024 .f32) (g : Vec Ideal S1x1024 .f32) (w w' : Vec Ideal S1024x512 .bf16) (a f : Fin 512) :
    k0_pay3 (F := Ideal) x g w w' (ix2 a f) = Project.gated (dot (k0_pay2 x g) w a f) (dot (k0_pay2 x g) w' a f) := by
  unfold k0_pay3
  generalize k0_pay2 x g = n
  pointwise
  rfl

theorem q_value (x : Vec Ideal S512x1024 .f32) (g : Vec Ideal S1x1024 .f32) (w : Vec Ideal S1024x512 .bf16) (a f : Fin 512) :
    k0_pay4 (F := Ideal) x g w (ix2 a f) = Project.scaled (dot (k0_pay2 x g) w a f) := by
  unfold k0_pay4
  generalize k0_pay2 x g = n
  pointwise
  rfl

/-! ## Columns of the weight -/

/-- The five hundred and twelve columns that start at column `o`. -/
def cols (o : ℕ) (h : o + 512 ≤ 6144) (w : Vec Ideal S1024x6144 .bf16) : Vec Ideal S1024x512 .bf16 := fun y =>
  w (ix2 (y 0) ⟨o + (y 1).val, by have : (y 1).val < 512 := (y 1).isLt; omega⟩)

theorem read_cols {sp : Space} (v : View sig .tc sp S1024x6144 .bf16) (X : v.ty.Contents (Elt Ideal)) (o : ℕ) (ho : o + 512 ≤ 6144) (h : ∀ a, (![0, o] : Fin 2 → ℕ) a + S1024x512.size a ≤ S1024x6144.size a) :
    v.readAt (Elt Ideal) (Rect.unit (s := S1024x6144) ![0, o] S1024x512.size h).toLoadRect X = cols o ho (v.read (Elt Ideal) X) := by
  refine funext fun y => congrArg (v.read (Elt Ideal) X) (funext fun a => Fin.ext ?_)
  fin_cases a
  · show 0 + 1 * (y 0).val = (y 0).val
    omega
  · show o + 1 * (y 1).val = o + (y 1).val
    omega

/-- A row's projection of a block, at a column. -/
abbrev entry (x : Vec Ideal S512x1024 .f32) (g : Vec Ideal S1x1024 .f32) (w : Vec Ideal S1024x6144 .bf16) (a : Fin 512) (j : Fin 6144) : EReal :=
  Project.proj (fun k => x (ix2 a k)) (fun k => g (ix2 0 k)) (fun k j => w (ix2 k j)) j

theorem dot_cols (x : Vec Ideal S512x1024 .f32) (g : Vec Ideal S1x1024 .f32) (w : Vec Ideal S1024x6144 .bf16) (o : ℕ) (ho : o + 512 ≤ 6144) (a f : Fin 512) (j : Fin 6144) (hj : j.val = o + f.val) :
    dot (k0_pay2 x g) (cols o ho w) a f = entry x g w a j := by
  refine Finset.sum_congr rfl fun k _ => congr (congrArg (· * ·) (norm_value x g a k)) (congrArg w (funext fun i => Fin.ext ?_))
  fin_cases i
  · rfl
  · exact hj.symm

/-! ## The gates, six stores -/

/-- The gates of a block of rows. -/
def gates (n : Vec Ideal S512x1024 .bf16) (w : Vec Ideal S1024x6144 .bf16) : Vec Ideal S512x3072 .bf16 := fun y =>
  Ideal.logistic (∑ k : Fin 1024, n (ix2 (y 0) k) * w (ix2 k ⟨3072 + (y 1).val, by have : (y 1).val < 3072 := (y 1).isLt; omega⟩))

theorem piece_apply (n : Vec Ideal S512x1024 .bf16) (w : Vec Ideal S1024x6144 .bf16) (o o' : ℕ) (ho : o' = 3072 + o) (ho' : o' + 512 ≤ 6144) (h : ∀ a, (![0, o] : Fin 2 → ℕ) a + S512x512.size a ≤ S512x3072.size a)
    (pay : Vec Ideal S512x512 .bf16) (hp : ∀ a f, pay (ix2 a f) = Ideal.logistic (dot n (cols o' ho' w) a f)) (y : S512x512.Idx) :
    pay y = gates n w ((Rect.unit (s := S512x3072) ![0, o] S512x512.size h).emb y) := by
  subst ho
  obtain ⟨a, f, rfl⟩ : ∃ (a : Fin 512) (f : Fin 512), y = ix2 a f := ⟨y 0, y 1, funext fun x => by fin_cases x <;> rfl⟩
  refine (hp a f).trans (congrArg Ideal.logistic (Finset.sum_congr rfl fun k _ => congr (congrArg (· * ·) (congrArg n (funext fun i => Fin.ext ?_))) (congrArg w (funext fun i => Fin.ext ?_))))
  · fin_cases i
    · show a.val = 0 + 1 * a.val
      omega
    · rfl
  · fin_cases i
    · rfl
    · show 3072 + o + f.val = 3072 + (o + 1 * f.val)
      omega

section Parts

variable {sp sp' : Space} (v : View sig .tc sp S1024x6144 .bf16) (X : v.ty.Contents (Elt Ideal)) (n : Vec Ideal S512x1024 .bf16)

/-- The gates' stores, the newest first. -/
abbrev parts : List (View.Piece (Elt Ideal) S512x3072 .bf16) :=
  [⟨Rect.unit (s := S512x3072) ![0, 2560] S512x512.size inb_S512x3072_S512x512_0_2560,
      k0_pay1 n (k0_pay16 (v.readAt (Elt Ideal) (Rect.unit (s := S1024x6144) ![0, 5632] S1024x512.size inb_S1024x6144_S1024x512_0_5632).toLoadRect X)) (constant S512x512 .f32 0x00000000#32)⟩,
    ⟨Rect.unit (s := S512x3072) ![0, 2048] S512x512.size inb_S512x3072_S512x512_0_2048,
      k0_pay15 n (v.readAt (Elt Ideal) (Rect.unit (s := S1024x6144) ![0, 5120] S1024x512.size inb_S1024x6144_S1024x512_0_5120).toLoadRect X)⟩,
    ⟨Rect.unit (s := S512x3072) ![0, 1536] S512x512.size inb_S512x3072_S512x512_0_1536,
      k0_pay14 n (v.readAt (Elt Ideal) (Rect.unit (s := S1024x6144) ![0, 4608] S1024x512.size inb_S1024x6144_S1024x512_0_4608).toLoadRect X)⟩,
    ⟨Rect.unit (s := S512x3072) ![0, 1024] S512x512.size inb_S512x3072_S512x512_0_1024,
      k0_pay13 n (v.readAt (Elt Ideal) (Rect.unit (s := S1024x6144) ![0, 4096] S1024x512.size inb_S1024x6144_S1024x512_0_4096).toLoadRect X)⟩,
    ⟨Rect.unit (s := S512x3072) ![0, 512] S512x512.size inb_S512x3072_S512x512_0_512,
      k0_pay12 n (v.readAt (Elt Ideal) (Rect.unit (s := S1024x6144) ![0, 3584] S1024x512.size inb_S1024x6144_S1024x512_0_3584).toLoadRect X)⟩,
    ⟨Rect.unit (s := S512x3072) ![0, 0] S512x512.size inb_S512x3072_S512x512_0_0,
      k0_pay11 n (k0_pay10 (v.readAt (Elt Ideal) (Rect.unit (s := S1024x6144) ![0, 3072] S1024x512.size inb_S1024x6144_S1024x512_0_3072).toLoadRect X)) (constant S512x512 .f32 0x00000000#32)⟩]

/-- The gates' buffer read back. -/
theorem read_parts (u : View sig .tc sp' S512x3072 .bf16) (f : u.ty.Contents (Elt Ideal)) :
    u.read (Elt Ideal) (u.writes (Elt Ideal) f (parts v X n)) = gates n (v.read (Elt Ideal) X) := funext fun y =>
  View.read_writes_apply_of_pieces u f _ _ (by
    intro p hp
    simp only [List.mem_cons, List.not_mem_nil, or_false] at hp
    rcases hp with rfl | rfl | rfl | rfl | rfl | rfl
    · exact piece_apply n _ 2560 5632 rfl (by norm_num) inb_S512x3072_S512x512_0_2560 _ fun a f => (congrArg (fun w => k0_pay1 (F := Ideal) n (k0_pay16 w) (constant S512x512 .f32 0x00000000#32) (ix2 a f)) (read_cols v X 5632 (by norm_num) _)).trans (gate5_value n _ a f)
    · exact piece_apply n _ 2048 5120 rfl (by norm_num) inb_S512x3072_S512x512_0_2048 _ fun a f => (congrArg (fun w => k0_pay15 (F := Ideal) n w (ix2 a f)) (read_cols v X 5120 (by norm_num) _)).trans (gate4_value n _ a f)
    · exact piece_apply n _ 1536 4608 rfl (by norm_num) inb_S512x3072_S512x512_0_1536 _ fun a f => (congrArg (fun w => k0_pay14 (F := Ideal) n w (ix2 a f)) (read_cols v X 4608 (by norm_num) _)).trans (gate3_value n _ a f)
    · exact piece_apply n _ 1024 4096 rfl (by norm_num) inb_S512x3072_S512x512_0_1024 _ fun a f => (congrArg (fun w => k0_pay13 (F := Ideal) n w (ix2 a f)) (read_cols v X 4096 (by norm_num) _)).trans (gate2_value n _ a f)
    · exact piece_apply n _ 512 3584 rfl (by norm_num) inb_S512x3072_S512x512_0_512 _ fun a f => (congrArg (fun w => k0_pay12 (F := Ideal) n w (ix2 a f)) (read_cols v X 3584 (by norm_num) _)).trans (gate1_value n _ a f)
    · exact piece_apply n _ 0 3072 rfl (by norm_num) inb_S512x3072_S512x512_0_0 _ fun a f => (congrArg (fun w => k0_pay11 (F := Ideal) n (k0_pay10 w) (constant S512x512 .f32 0x00000000#32) (ix2 a f)) (read_cols v X 3072 (by norm_num) _)).trans (gate0_value n _ a f)) y
    (View.cover_of_tiledBy (parts v X n) ![512, 512] (by sl_kernel_rfl) y)

end Parts

/-! ## What a point leaves -/

section Out

variable (c : Dev nD) (i : grid0.Coords) (arg1 : Memref sig .tc .vmem S512x1024 .f32) (harg1 : arg1.IsWhole) (arg2 : Memref sig .tc .vmem S1x1024 .f32) (harg2 : arg2.IsWhole)
    (arg3 : Memref sig .tc .vmem S1024x6144 .bf16) (harg3 : arg3.IsWhole) (arg4 : Memref sig .tc .vmem S512x512 .f32) (harg4 : arg4.IsWhole) (arg5 : Memref sig .tc .vmem S512x512 .bf16) (harg5 : arg5.IsWhole)
    (arg6 : Memref sig .tc .vmem S1x1x512x512 .f32) (harg6 : arg6.IsWhole) (arg7 : Memref sig .tc .vmem S1x1x512x512 .f32) (harg7 : arg7.IsWhole) (arg8 : Memref sig .tc .vmem S512x512 .f32) (harg8 : arg8.IsWhole)
    (arg9 : Memref sig .tc .vmem S512x3072 .bf16) (harg9 : arg9.IsWhole) (arg10 : Memref sig .tc .vmem S512x512 .f32) (harg10 : arg10.IsWhole)
    (x0 : Vec Ideal S512x1024 .f32) (x1 : Vec Ideal S1x1024 .f32) (x2 : Vec Ideal S1024x6144 .bf16)

/-- The rows as they are loaded. -/
abbrev loaded0 : Vec Ideal S512x1024 .f32 := arg1.view.readAt (Elt Ideal) (Rect.unit (s := S512x1024) ![0, 0] S512x1024.size inb_S512x1024_S512x1024_0_0).toLoadRect (harg1.unread x0)
/-- The norm's weights as they are loaded. -/
abbrev loaded1 : Vec Ideal S1x1024 .f32 := arg2.view.readAt (Elt Ideal) (Rect.unit (s := S1x1024) ![0, 0] S1x1024.size inb_S1x1024_S1x1024_0_0).toLoadRect (harg2.unread x1)

theorem loaded0_eq : loaded0 arg1 harg1 x0 = x0 := by
  rw [loaded0, View.readAt_full, harg1.read_unread]
theorem loaded1_eq : loaded1 arg2 harg2 x1 = x1 := by
  rw [loaded1, View.readAt_full, harg2.read_unread]

theorem out3_eq : out0_A_3 (F := Ideal) c i arg1 harg1 arg2 harg2 arg3 harg3 arg4 harg4 arg5 harg5 arg6 harg6 arg7 harg7 arg8 harg8 arg9 harg9 arg10 harg10 x0 x1 x2
    = k0_pay3 x0 x1 (cols 0 (by norm_num) x2) (cols 512 (by norm_num) x2) := by
  unfold out0_A_3
  refine (View.read_writes_full _ _ _ _ _ : _ = k0_pay3 (loaded0 arg1 harg1 x0) (loaded1 arg2 harg2 x1)
    (arg3.view.readAt (Elt Ideal) (Rect.unit (s := S1024x6144) ![0, 0] S1024x512.size inb_S1024x6144_S1024x512_0_0).toLoadRect (harg3.unread x2))
    (arg3.view.readAt (Elt Ideal) (Rect.unit (s := S1024x6144) ![0, 512] S1024x512.size inb_S1024x6144_S1024x512_0_512).toLoadRect (harg3.unread x2))).trans ?_
  rw [loaded0_eq, loaded1_eq, read_cols arg3.view _ 0 (by norm_num), read_cols arg3.view _ 512 (by norm_num), harg3.read_unread]

theorem out4_eq : out0_A_4 (F := Ideal) c i arg1 harg1 arg2 harg2 arg3 harg3 arg4 harg4 arg5 harg5 arg6 harg6 arg7 harg7 arg8 harg8 arg9 harg9 arg10 harg10 x0 x1 x2
    = k0_pay4 x0 x1 (cols 1024 (by norm_num) x2) := by
  unfold out0_A_4
  refine (View.read_writes_full _ _ _ _ _ : _ = k0_pay4 (loaded0 arg1 harg1 x0) (loaded1 arg2 harg2 x1)
    (arg3.view.readAt (Elt Ideal) (Rect.unit (s := S1024x6144) ![0, 1024] S1024x512.size inb_S1024x6144_S1024x512_0_1024).toLoadRect (harg3.unread x2))).trans ?_
  rw [loaded0_eq, loaded1_eq, read_cols arg3.view _ 1024 (by norm_num), harg3.read_unread]

/-- The keys as they are put down before they are turned. -/
abbrev stage5 : View.Piece (Elt Ideal) S512x512 .f32 := ⟨Rect.unit (s := S512x512) ![0, 0] S512x512.size inb_S512x512_S512x512_0_0, k0_pay5 (k0_pay2 (loaded0 arg1 harg1 x0) (loaded1 arg2 harg2 x1))
  (arg3.view.readAt (Elt Ideal) (Rect.unit (s := S1024x6144) ![0, 1536] S1024x512.size inb_S1024x6144_S1024x512_0_1536).toLoadRect (harg3.unread x2))⟩
/-- The values as they are put down before they are turned. -/
abbrev stage6 : View.Piece (Elt Ideal) S512x512 .f32 := ⟨Rect.unit (s := S512x512) ![0, 0] S512x512.size inb_S512x512_S512x512_0_0, k0_pay7 (k0_pay2 (loaded0 arg1 harg1 x0) (loaded1 arg2 harg2 x1))
  (arg3.view.readAt (Elt Ideal) (Rect.unit (s := S1024x6144) ![0, 2048] S1024x512.size inb_S1024x6144_S1024x512_0_2048).toLoadRect (harg3.unread x2))⟩

theorem out5_eq : out0_A_5 (F := Ideal) c i arg1 harg1 arg2 harg2 arg3 harg3 arg4 harg4 arg5 harg5 arg6 harg6 arg7 harg7 arg8 harg8 arg9 harg9 arg10 harg10 x0 x1 x2
    = k0_pay6 (k0_pay5 (k0_pay2 x0 x1) (cols 1536 (by norm_num) x2)) := by
  unfold out0_A_5
  refine (View.read_writes_full _ _ _ _ _ : _ = k0_pay6 (arg10.view.readAt (Elt Ideal) (Rect.unit (s := S512x512) ![0, 0] S512x512.size inb_S512x512_S512x512_0_0).toLoadRect
    (arg10.view.writes (Elt Ideal) arg10.view.junk [stage5 arg1 harg1 arg2 harg2 arg3 harg3 x0 x1 x2]))).trans ?_
  rw [View.readAt_full, View.read_writes_full, loaded0_eq, loaded1_eq, read_cols arg3.view _ 1536 (by norm_num), harg3.read_unread]

theorem out6_eq : out0_A_6 (F := Ideal) c i arg1 harg1 arg2 harg2 arg3 harg3 arg4 harg4 arg5 harg5 arg6 harg6 arg7 harg7 arg8 harg8 arg9 harg9 arg10 harg10 x0 x1 x2
    = k0_pay8 (k0_pay7 (k0_pay2 x0 x1) (cols 2048 (by norm_num) x2)) := by
  unfold out0_A_6
  refine (View.read_writes_full _ _ _ _ _ : _ = k0_pay8 (arg10.view.readAt (Elt Ideal) (Rect.unit (s := S512x512) ![0, 0] S512x512.size inb_S512x512_S512x512_0_0).toLoadRect
    (arg10.view.writes (Elt Ideal) arg10.view.junk [stage6 arg1 harg1 arg2 harg2 arg3 harg3 x0 x1 x2, stage5 arg1 harg1 arg2 harg2 arg3 harg3 x0 x1 x2]))).trans ?_
  rw [View.readAt_full, View.read_writes_full, loaded0_eq, loaded1_eq, read_cols arg3.view _ 2048 (by norm_num), harg3.read_unread]

theorem out7_eq : out0_A_7 (F := Ideal) c i arg1 harg1 arg2 harg2 arg3 harg3 arg4 harg4 arg5 harg5 arg6 harg6 arg7 harg7 arg8 harg8 arg9 harg9 arg10 harg10 x0 x1 x2
    = k0_pay9 (k0_pay2 x0 x1) (cols 2560 (by norm_num) x2) := by
  unfold out0_A_7
  refine (View.read_writes_full _ _ _ _ _ : _ = k0_pay9 (k0_pay2 (loaded0 arg1 harg1 x0) (loaded1 arg2 harg2 x1))
    (arg3.view.readAt (Elt Ideal) (Rect.unit (s := S1024x6144) ![0, 2560] S1024x512.size inb_S1024x6144_S1024x512_0_2560).toLoadRect (harg3.unread x2))).trans ?_
  rw [loaded0_eq, loaded1_eq, read_cols arg3.view _ 2560 (by norm_num), harg3.read_unread]

theorem out8_eq : out0_A_8 (F := Ideal) c i arg1 harg1 arg2 harg2 arg3 harg3 arg4 harg4 arg5 harg5 arg6 harg6 arg7 harg7 arg8 harg8 arg9 harg9 arg10 harg10 x0 x1 x2
    = gates (k0_pay2 x0 x1) x2 := by
  unfold out0_A_8
  refine (read_parts arg3.view (harg3.unread x2) (k0_pay2 (loaded0 arg1 harg1 x0) (loaded1 arg2 harg2 x1)) VO0_8 VO0_8.junk).trans ?_
  rw [loaded0_eq, loaded1_eq, harg3.read_unread]

end Out

/-! ## The blocks, at an index -/

section Block

variable (x : Vec Ideal S512x1024 .f32) (g : Vec Ideal S1x1024 .f32) (w : Vec Ideal S1024x6144 .bf16) (a f : Fin 512)

theorem u_block (ja jb : Fin 6144) (ha : ja.val = f.val) (hb : jb.val = 512 + f.val) :
    k0_pay3 (F := Ideal) x g (cols 0 (by norm_num) w) (cols 512 (by norm_num) w) (ix2 a f) = Project.gated (entry x g w a ja) (entry x g w a jb) :=
  (u_value x g _ _ a f).trans (congr (congrArg Project.gated (dot_cols x g w 0 _ a f ja (by omega))) (dot_cols x g w 512 _ a f jb hb))

theorem q_block (j : Fin 6144) (hj : j.val = 1024 + f.val) : k0_pay4 (F := Ideal) x g (cols 1024 (by norm_num) w) (ix2 a f) = Project.scaled (entry x g w a j) :=
  (q_value x g _ a f).trans (congrArg Project.scaled (dot_cols x g w 1024 _ a f j hj))

theorem k_block (j : Fin 6144) (hj : j.val = 1536 + f.val) : k0_pay6 (F := Ideal) (k0_pay5 (k0_pay2 x g) (cols 1536 (by norm_num) w)) (ix4 0 0 f a) = entry x g w a j :=
  (k_value _ _ a f).trans (dot_cols x g w 1536 _ a f j hj)

theorem v_block (j : Fin 6144) (hj : j.val = 2048 + f.val) : k0_pay8 (F := Ideal) (k0_pay7 (k0_pay2 x g) (cols 2048 (by norm_num) w)) (ix4 0 0 f a) = entry x g w a j :=
  (v_value _ _ a f).trans (dot_cols x g w 2048 _ a f j hj)

theorem p_block (j : Fin 6144) (hj : j.val = 2560 + f.val) : k0_pay9 (F := Ideal) (k0_pay2 x g) (cols 2560 (by norm_num) w) (ix2 a f) = entry x g w a j :=
  (p_value _ _ a f).trans (dot_cols x g w 2560 _ a f j hj)

omit f in
theorem g_block (f : Fin 3072) (j : Fin 6144) (hj : j.val = 3072 + f.val) : gates (k0_pay2 (F := Ideal) x g) w (ix2 a f) = Ideal.logistic (entry x g w a j) := by
  refine congrArg Ideal.logistic (Finset.sum_congr rfl fun k _ => congr (congrArg (· * ·) (norm_value x g a k)) (congrArg w (funext fun i => Fin.ext ?_)))
  fin_cases i
  · rfl
  · exact hj.symm

end Block

end Cert.Proof.ProjectIdeal

end
-- ==== Proof.ProjectReference.lean ====
/- The input projections' reference, at an index. -/
module

public import proofs.«01_k».proof.Proof.ProjectMath
public import proofs.«01_k».proof.Proof.Gen.ProjectReferenceIdeal
public import proofs.«01_k».proof.Proof.Gen.ProjectReferenceIdeal.Read
public import Idealize.ShloMosaic.Lib.Pointwise

@[expose] public section

set_option maxRecDepth 16384

noncomputable section

namespace Cert.Proof.ProjectReference

open Cert.ProjectReferenceIdeal Cert.ProjectReferenceIdeal.Gen Cert.ProjectReferenceIdeal.Read
open Idealize.ShloMosaic

theorem norm_apply (x0 : Vec Ideal S8x2048x1024 .f32) (x1 : Vec Ideal S2x1024 .f32) (b : Fin 8) (t : Fin 2048) (k : Fin 1024) :
    val_main_v14 (F := Ideal) x0 x1 (ix3 b t k) = Dense.norm (fun k => x0 (ix3 b t k)) (fun k => x1 (ix2 0 k)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem dot_apply (n : Vec Ideal S8x2048x1024 .f32) (w : Vec Ideal S2x1024x6144 .f32) (b : Fin 8) (t : Fin 2048) (j : Fin 6144) :
    Host.dotGeneral (F := Ideal) (φ₁ := .f32) (φ₂ := .f32) dot_S8x2048x1024_S1024x6144_S8x2048x6144_2_0_01_1_n_n none n
        (shapeCast S1024x6144 (extractStridedSlice S1x1024x6144 ![0, 0, 0] w slices_S2x1024x6144_S1x1024x6144_0_0_0) shapeCasts_S1x1024x6144_S1024x6144) (ix3 b t j)
      = ∑ k : Fin 1024, n (ix3 b t k) * w (ix3 0 k j) := by
  pointwise

variable (x0 : Vec Ideal S8x2048x1024 .f32) (x1 : Vec Ideal S2x1024 .f32) (x2 : Vec Ideal S2x1024x6144 .f32)

/-- A row's projection, at a column. -/
abbrev entry (b : Fin 8) (t : Fin 2048) (j : Fin 6144) : EReal :=
  Project.proj (fun k => x0 (ix3 b t k)) (fun k => x1 (ix2 0 k)) (fun k j => x2 (ix3 0 k j)) j

theorem proj_apply (b : Fin 8) (t : Fin 2048) (j : Fin 6144) : val_main_v17 (F := Ideal) x0 x1 x2 (ix3 b t j) = entry x0 x1 x2 b t j :=
  (dot_apply _ x2 b t j).trans (Finset.sum_congr rfl fun k _ => congrArg (· * x2 (ix3 0 k j)) (norm_apply x0 x1 b t k))

/-! The layouts, over any array. -/

section Layout

variable (n : Vec Ideal S8x2048x6144 .f32) (b : Fin 8) (t : Fin 2048)

theorem slice_apply (o : ℕ) (h : S8x2048x6144.Slices ![0, 0, o] S8x2048x512) (f : Fin 512) (j : Fin 6144) (hj : j.val = o + f.val) :
    extractStridedSlice S8x2048x512 ![0, 0, o] n h (ix3 b t f) = n (ix3 b t j) := by
  refine congrArg n (funext fun x => Fin.ext ?_)
  fin_cases x
  · show 0 + b.val = b.val
    omega
  · show 0 + t.val = t.val
    omega
  · show o + f.val = j.val
    omega

theorem rows_apply (v : Vec Ideal S8x2048x512 .f32) (r : Fin 16384) (f : Fin 512) (hr : r.val = 2048 * b.val + t.val) :
    shapeCast S16384x512 v shapeCasts_S8x2048x512_S16384x512 (ix2 r f) = v (ix3 b t f) :=
  shapeCast_apply _ shapeCasts_S8x2048x512_S16384x512 (ix2 r f) (ix3 b t f) (by
    rewrite [Shape.rowMajor_val_three, Shape.rowMajor_val_two]
    show (b.val * 2048 + t.val) * 512 + f.val = r.val * 512 + f.val
    omega)

theorem wide_apply (v : Vec Ideal S8x2048x3072 .f32) (r : Fin 16384) (f : Fin 3072) (hr : r.val = 2048 * b.val + t.val) :
    shapeCast S16384x3072 v shapeCasts_S8x2048x3072_S16384x3072 (ix2 r f) = v (ix3 b t f) :=
  shapeCast_apply _ shapeCasts_S8x2048x3072_S16384x3072 (ix2 r f) (ix3 b t f) (by
    rewrite [Shape.rowMajor_val_three, Shape.rowMajor_val_two]
    show (b.val * 2048 + t.val) * 3072 + f.val = r.val * 3072 + f.val
    omega)

theorem gated_apply (a c : Vec Ideal S8x2048x512 .f32) (i : S8x2048x512.Idx) :
    mulf (F := Ideal) (φ := .f32) a (Host.divf (F := Ideal) (φ := .f32) (val_main_v30 (F := Ideal)) (addf (F := Ideal) (φ := .f32) (val_main_v28 (F := Ideal)) (Host.exp (F := Ideal) (φ := .f32) (Host.negf (F := Ideal) (φ := .f32) c)))) i
      = Project.gated (a i) (c i) := by
  pointwise [val_main_v30, val_main_v28, val_main_cst_2, val_main_cst_3]
  rfl

theorem gate_apply (j : Fin 6144) (f : Fin 3072) (hj : j.val = 3072 + f.val) :
    Host.divf (F := Ideal) (φ := .f32) (val_main_v47 (F := Ideal)) (addf (F := Ideal) (φ := .f32) (val_main_v45 (F := Ideal)) (Host.exp (F := Ideal) (φ := .f32) (Host.negf (F := Ideal) (φ := .f32)
        (extractStridedSlice S8x2048x3072 ![0, 0, 3072] n slices_S8x2048x6144_S8x2048x3072_0_0_3072)))) (ix3 b t f)
      = Ideal.logistic (n (ix3 b t j)) := by
  have e : extractStridedSlice S8x2048x3072 ![0, 0, 3072] n slices_S8x2048x6144_S8x2048x3072_0_0_3072 (ix3 b t f) = n (ix3 b t j) := by
    refine congrArg n (funext fun x => Fin.ext ?_)
    fin_cases x
    · show 0 + b.val = b.val
      omega
    · show 0 + t.val = t.val
      omega
    · show 3072 + f.val = j.val
      omega
  rw [← e]
  generalize extractStridedSlice S8x2048x3072 ![0, 0, 3072] n slices_S8x2048x6144_S8x2048x3072_0_0_3072 = v
  pointwise [val_main_v47, val_main_v45, val_main_cst_5, val_main_cst_6]
  rfl

theorem scaled_apply (a : Vec Ideal S8x2048x512 .f32) (i : S8x2048x512.Idx) :
    mulf (F := Ideal) (φ := .f32) a (val_main_v34 (F := Ideal)) i = Project.scaled (a i) := by
  pointwise [val_main_v34, val_main_cst_4]
  rfl

theorem plane_apply (v : Vec Ideal S8x2048x512 .f32) (l : Fin 2) (f : Fin 512) :
    broadcastInDim S2x8x512x2048 ![1, 2, 3] bcast_S8x512x2048_S2x8x512x2048_1_2_3 (transpose S8x512x2048 [0, 2, 1] v transposes_S8x2048x512_S8x512x2048_0_2_1) (ix4 l b f t) = v (ix3 b t f) := by
  pointwise

end Layout

variable (r : Fin 16384) (b : Fin 8) (t : Fin 2048) (hr : r.val = 2048 * b.val + t.val) (f : Fin 512)
include hr

theorem u_apply (ja jb : Fin 6144) (ha : ja.val = f.val) (hb : jb.val = 512 + f.val) :
    val_main_v33 (F := Ideal) x0 x1 x2 (ix2 r f) = Project.gated (entry x0 x1 x2 b t ja) (entry x0 x1 x2 b t jb) := by
  refine (rows_apply b t _ r f hr).trans ((gated_apply _ _ _).trans (congr (congrArg Project.gated ?_) ?_))
  · refine Eq.trans ?_ (proj_apply x0 x1 x2 b t ja)
    refine congrArg (val_main_v17 (F := Ideal) x0 x1 x2) (funext fun x => Fin.ext ?_)
    fin_cases x
    · show 0 + (0 + b.val) = b.val
      omega
    · show 0 + (0 + t.val) = t.val
      omega
    · show 0 + (0 + f.val) = ja.val
      omega
  · refine Eq.trans ?_ (proj_apply x0 x1 x2 b t jb)
    refine congrArg (val_main_v17 (F := Ideal) x0 x1 x2) (funext fun x => Fin.ext ?_)
    fin_cases x
    · show 0 + (0 + b.val) = b.val
      omega
    · show 0 + (0 + t.val) = t.val
      omega
    · show 0 + (512 + f.val) = jb.val
      omega

theorem q_apply (j : Fin 6144) (hj : j.val = 1024 + f.val) : val_main_v37 (F := Ideal) x0 x1 x2 (ix2 r f) = Project.scaled (entry x0 x1 x2 b t j) :=
  (rows_apply b t _ r f hr).trans ((scaled_apply _ _).trans (congrArg Project.scaled ((slice_apply _ b t 1024 slices_S8x2048x6144_S8x2048x512_0_0_1024 f j hj).trans (proj_apply x0 x1 x2 b t j))))

theorem p_apply (j : Fin 6144) (hj : j.val = 2560 + f.val) : val_main_v42 (F := Ideal) x0 x1 x2 (ix2 r f) = entry x0 x1 x2 b t j :=
  (rows_apply b t _ r f hr).trans ((slice_apply _ b t 2560 slices_S8x2048x6144_S8x2048x512_0_0_2560 f j hj).trans (proj_apply x0 x1 x2 b t j))

omit f in
theorem g_apply (f : Fin 3072) (j : Fin 6144) (hj : j.val = 3072 + f.val) : val_main_v50 (F := Ideal) x0 x1 x2 (ix2 r f) = Ideal.logistic (entry x0 x1 x2 b t j) :=
  (wide_apply b t _ r f hr).trans ((gate_apply _ b t j f hj).trans (congrArg Ideal.logistic (proj_apply x0 x1 x2 b t j)))

omit r hr in
theorem k_apply (l : Fin 2) (j : Fin 6144) (hj : j.val = 1536 + f.val) : val_main_v39 (F := Ideal) x0 x1 x2 (ix4 l b f t) = entry x0 x1 x2 b t j :=
  (plane_apply b t _ l f).trans ((slice_apply _ b t 1536 slices_S8x2048x6144_S8x2048x512_0_0_1536 f j hj).trans (proj_apply x0 x1 x2 b t j))

omit r hr in
theorem v_apply (l : Fin 2) (j : Fin 6144) (hj : j.val = 2048 + f.val) : val_main_v41 (F := Ideal) x0 x1 x2 (ix4 l b f t) = entry x0 x1 x2 b t j :=
  (plane_apply b t _ l f).trans ((slice_apply _ b t 2048 slices_S8x2048x6144_S8x2048x512_0_0_2048 f j hj).trans (proj_apply x0 x1 x2 b t j))

end Cert.Proof.ProjectReference

end
-- ==== Proof.ProjectArray.lean ====
/- The result arrays of the projection kernel after the run. -/
module

public import proofs.«01_k».proof.Proof.ProjectValue
public import proofs.«01_k».proof.Proof.ProjectReference
public import proofs.«01_k».proof.Proof.ExpertCount
public import proofs.«01_k».proof.Proof.Gen.ProjectIdeal.Value
public import proofs.«01_k».proof.Proof.Gen.Project.Frame
public import proofs.«01_k».proof.Proof.Gen.ProjectIdeal.Frame
public import proofs.«01_k».proof.Proof.Gen.ProjectReferenceIdeal.Run
public import proofs.«01_k».proof.Proof.Gen.On_layer_0
public import Idealize.ShloMosaic.Lib.Pipeline.ValueKit.Basic
public import proofs.«01_k».proof.Defs

@[expose] public section

set_option maxRecDepth 16384

noncomputable section

namespace Cert.Proof.ProjectIdeal

open Cert.ProjectIdeal Cert.ProjectIdeal.Gen
open Idealize.ShloMosaic Idealize.ShloMosaic.TcCoe Idealize.ShloMosaic.Tactic

/-! ## The arrays the windows read -/

section Stretch

variable {F : FTy → Type} [FloatOps F] (W : Valuation τ sig (Elt F))

theorem host_rows : StableHlo.after hostOps0 W (Proc.devRef .tc main_v0) = shapeCast S16384x1024 (W (Proc.devRef .tc main_arg0)) shapeCasts_S8x2048x1024_S16384x1024 := by
  after_results
  rfl
theorem host_gain : StableHlo.after hostOps0 W (Proc.devRef .tc main_v6)
    = shapeCast S1x1024 (shapeCast S1024 (extractStridedSlice S1x1024 ![0, 0] (W (Proc.devRef .tc main_arg1)) slices_S2x1024_S1x1024_0_0) shapeCasts_S1x1024_S1024) shapeCasts_S1024_S1x1024 := by
  after_results
  rfl
theorem host_weight : StableHlo.after hostOps0 W (Proc.devRef .tc main_v5)
    = truncf (F := F) (φ := .f32) .bf16 (shapeCast S1024x6144 (extractStridedSlice S1x1024x6144 ![0, 0, 0] (W (Proc.devRef .tc main_arg2)) slices_S2x1024x6144_S1x1024x6144_0_0_0) shapeCasts_S1x1024x6144_S1024x6144) bitsLt_bf16_f32 := by
  after_results
  rfl

end Stretch

section Arrays

theorem weight_at (w : Vec Ideal S2x1024x6144 .f32) (k : Fin 1024) (j : Fin 6144) :
    shapeCast S1024x6144 (extractStridedSlice S1x1024x6144 ![0, 0, 0] w slices_S2x1024x6144_S1x1024x6144_0_0_0) shapeCasts_S1x1024x6144_S1024x6144 (ix2 k j) = w (ix3 0 k j) := by
  pointwise

theorem gain_at (g : Vec Ideal S2x1024 .f32) (k : Fin 1024) :
    shapeCast S1x1024 (shapeCast S1024 (extractStridedSlice S1x1024 ![0, 0] g slices_S2x1024_S1x1024_0_0) shapeCasts_S1x1024_S1024) shapeCasts_S1024_S1x1024 (ix2 0 k) = g (ix2 0 k) := by
  pointwise

theorem row_at (x : Vec Ideal S8x2048x1024 .f32) (r : Fin 16384) (k : Fin 1024) (b : Fin 8) (t : Fin 2048) (hr : r.val = 2048 * b.val + t.val) :
    shapeCast S16384x1024 x shapeCasts_S8x2048x1024_S16384x1024 (ix2 r k) = x (ix3 b t k) :=
  shapeCast_apply _ shapeCasts_S8x2048x1024_S16384x1024 (ix2 r k) (ix3 b t k) (by
    rewrite [Shape.rowMajor_val_three, Shape.rowMajor_val_two]
    show (b.val * 2048 + t.val) * 1024 + k.val = r.val * 1024 + k.val
    omega)

end Arrays

/-! ## The blocks of a point -/

section Blocks

variable (t : Fin cfg0.N)

theorem index0 : ∀ t : Fin cfg0.N, win0_0.index t 0 = t.val ∧ win0_0.index t 1 = 0 := by decide +kernel
theorem index3 : ∀ t : Fin cfg0.N, win0_3.index t 0 = t.val ∧ win0_3.index t 1 = 0 := by decide +kernel
theorem index4 : ∀ t : Fin cfg0.N, win0_4.index t 0 = t.val ∧ win0_4.index t 1 = 0 := by decide +kernel
theorem index7 : ∀ t : Fin cfg0.N, win0_7.index t 0 = t.val ∧ win0_7.index t 1 = 0 := by decide +kernel
theorem index8 : ∀ t : Fin cfg0.N, win0_8.index t 0 = t.val ∧ win0_8.index t 1 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = 0 := by decide +kernel
theorem index5 : ∀ t : Fin cfg0.N, win0_5.index t 0 = 0 ∧ win0_5.index t 1 = t.val / 4 ∧ win0_5.index t 2 = 0 ∧ win0_5.index t 3 = t.val % 4 := by decide +kernel
theorem index6 : ∀ t : Fin cfg0.N, win0_6.index t 0 = 0 ∧ win0_6.index t 1 = t.val / 4 ∧ win0_6.index t 2 = 0 ∧ win0_6.index t 3 = t.val % 4 := by decide +kernel
theorem flush3 : ∀ t : Fin cfg0.N, (cfg0.win 3).flush t = true := by decide +kernel
theorem flush4 : ∀ t : Fin cfg0.N, (cfg0.win 4).flush t = true := by decide +kernel
theorem flush5 : ∀ t : Fin cfg0.N, (cfg0.win 5).flush t = true := by decide +kernel
theorem flush6 : ∀ t : Fin cfg0.N, (cfg0.win 6).flush t = true := by decide +kernel
theorem flush7 : ∀ t : Fin cfg0.N, (cfg0.win 7).flush t = true := by decide +kernel
theorem flush8 : ∀ t : Fin cfg0.N, (cfg0.win 8).flush t = true := by decide +kernel

theorem read0_at (X : Vec Ideal S16384x1024 .f32) (a : Fin 512) (k : Fin 1024) (r : Fin 16384) (hr : r.val = 512 * t.val + a.val) : ((cfg0.win 0).blk t).view.read (Elt Ideal) X (ix2 a k) = X (ix2 r k) := by
  obtain ⟨e0, e1⟩ := index0 t
  refine congrArg X (funext fun x => Fin.ext ?_)
  fin_cases x
  · show win0_0.index t 0 * 512 + 1 * a.val = r.val
    omega
  · show win0_0.index t 1 * 1024 + 1 * k.val = k.val
    omega

theorem read3_at (X : Vec Ideal S16384x512 .f32) (a : Fin 512) (k : Fin 512) (r : Fin 16384) (hr : r.val = 512 * t.val + a.val) : ((cfg0.win 3).blk t).view.read (Elt Ideal) X (ix2 a k) = X (ix2 r k) := by
  obtain ⟨e0, e1⟩ := index3 t
  refine congrArg X (funext fun x => Fin.ext ?_)
  fin_cases x
  · show win0_3.index t 0 * 512 + 1 * a.val = r.val
    omega
  · show win0_3.index t 1 * 512 + 1 * k.val = k.val
    omega

theorem read4_at (X : Vec Ideal S16384x512 .bf16) (a : Fin 512) (k : Fin 512) (r : Fin 16384) (hr : r.val = 512 * t.val + a.val) : ((cfg0.win 4).blk t).view.read (Elt Ideal) X (ix2 a k) = X (ix2 r k) := by
  obtain ⟨e0, e1⟩ := index4 t
  refine congrArg X (funext fun x => Fin.ext ?_)
  fin_cases x
  · show win0_4.index t 0 * 512 + 1 * a.val = r.val
    omega
  · show win0_4.index t 1 * 512 + 1 * k.val = k.val
    omega

theorem read7_at (X : Vec Ideal S16384x512 .f32) (a : Fin 512) (k : Fin 512) (r : Fin 16384) (hr : r.val = 512 * t.val + a.val) : ((cfg0.win 7).blk t).view.read (Elt Ideal) X (ix2 a k) = X (ix2 r k) := by
  obtain ⟨e0, e1⟩ := index7 t
  refine congrArg X (funext fun x => Fin.ext ?_)
  fin_cases x
  · show win0_7.index t 0 * 512 + 1 * a.val = r.val
    omega
  · show win0_7.index t 1 * 512 + 1 * k.val = k.val
    omega

theorem read8_at (X : Vec Ideal S16384x3072 .bf16) (a : Fin 512) (k : Fin 3072) (r : Fin 16384) (hr : r.val = 512 * t.val + a.val) : ((cfg0.win 8).blk t).view.read (Elt Ideal) X (ix2 a k) = X (ix2 r k) := by
  obtain ⟨e0, e1⟩ := index8 t
  refine congrArg X (funext fun x => Fin.ext ?_)
  fin_cases x
  · show win0_8.index t 0 * 512 + 1 * a.val = r.val
    omega
  · show win0_8.index t 1 * 3072 + 1 * k.val = k.val
    omega

theorem read1_at (X : Vec Ideal S1x1024 .f32) (k : Fin 1024) : ((cfg0.win 1).blk t).view.read (Elt Ideal) X (ix2 0 k) = X (ix2 0 k) := by
  obtain ⟨e0, e1⟩ := index1 t
  refine congrArg X (funext fun x => Fin.ext ?_)
  fin_cases x
  · show win0_1.index t 0 * 1 + 1 * 0 = 0
    omega
  · show win0_1.index t 1 * 1024 + 1 * k.val = k.val
    omega

theorem read2_at (X : Vec Ideal S1024x6144 .bf16) (k : Fin 1024) (j : Fin 6144) : ((cfg0.win 2).blk t).view.read (Elt Ideal) X (ix2 k j) = X (ix2 k j) := by
  obtain ⟨e0, e1⟩ := index2 t
  refine congrArg X (funext fun x => Fin.ext ?_)
  fin_cases x
  · show win0_2.index t 0 * 1024 + 1 * k.val = k.val
    omega
  · show win0_2.index t 1 * 6144 + 1 * j.val = j.val
    omega

theorem read5_at (X : Vec Ideal S2x8x512x2048 .f32) (f a : Fin 512) (b : Fin 8) (p : Fin 2048) (hb : b.val = t.val / 4) (hp : p.val = 512 * (t.val % 4) + a.val) :
    ((cfg0.win 5).blk t).view.read (Elt Ideal) X (ix4 0 0 f a) = X (ix4 0 b f p) := by
  obtain ⟨e0, e1, e2, e3⟩ := index5 t
  refine congrArg X (funext fun x => Fin.ext ?_)
  fin_cases x
  · show win0_5.index t 0 * 1 + 1 * 0 = 0
    omega
  · show win0_5.index t 1 * 1 + 1 * 0 = b.val
    omega
  · show win0_5.index t 2 * 512 + 1 * f.val = f.val
    omega
  · show win0_5.index t 3 * 512 + 1 * a.val = p.val
    omega

theorem read6_at (X : Vec Ideal S2x8x512x2048 .f32) (f a : Fin 512) (b : Fin 8) (p : Fin 2048) (hb : b.val = t.val / 4) (hp : p.val = 512 * (t.val % 4) + a.val) :
    ((cfg0.win 6).blk t).view.read (Elt Ideal) X (ix4 0 0 f a) = X (ix4 0 b f p) := by
  obtain ⟨e0, e1, e2, e3⟩ := index6 t
  refine congrArg X (funext fun x => Fin.ext ?_)
  fin_cases x
  · show win0_6.index t 0 * 1 + 1 * 0 = 0
    omega
  · show win0_6.index t 1 * 1 + 1 * 0 = b.val
    omega
  · show win0_6.index t 2 * 512 + 1 * f.val = f.val
    omega
  · show win0_6.index t 3 * 512 + 1 * a.val = p.val
    omega

end Blocks

section Run

open Cert.ProjectIdeal.Value

variable (m : (ℓ : Loc nD τ sig) → Buf (Elt Ideal) ℓ)

theorem rows_at (c : Dev nD) (t : Fin cfg0.N) (a : Fin 512) (k : Fin 1024) (r : Fin 16384) (b : Fin 8) (p : Fin 2048) (hr : r.val = 512 * t.val + a.val) (hb : r.val = 2048 * b.val + p.val) :
    iblk m c 0 t (ix2 a k) = m ((c.tc : Thread nD τ).loc main_arg0) (ix3 b p k) :=
  (read0_at t _ a k r hr).trans ((congrFun (host_rows (F := Ideal) (fun b => m (c, b))) _).trans (row_at _ r k b p hb))

theorem norm_at (c : Dev nD) (t : Fin cfg0.N) (k : Fin 1024) : iblk m c 1 t (ix2 0 k) = m ((c.tc : Thread nD τ).loc main_arg1) (ix2 0 k) :=
  (read1_at t _ k).trans ((congrFun (host_gain (F := Ideal) (fun b => m (c, b))) _).trans (gain_at _ k))

theorem cols_at (c : Dev nD) (t : Fin cfg0.N) (k : Fin 1024) (j : Fin 6144) : iblk m c 2 t (ix2 k j) = m ((c.tc : Thread nD τ).loc main_arg2) (ix3 0 k j) :=
  (read2_at t _ k j).trans ((congrFun (host_weight (F := Ideal) (fun b => m (c, b))) _).trans (weight_at _ k j))

/-- A point's projections are its rows' projections. -/
theorem entry_at (c : Dev nD) (t : Fin cfg0.N) (a : Fin 512) (r : Fin 16384) (b : Fin 8) (p : Fin 2048) (hr : r.val = 512 * t.val + a.val) (hb : r.val = 2048 * b.val + p.val) (j : Fin 6144) :
    entry (iblk m c 0 t) (iblk m c 1 t) (iblk m c 2 t) a j
      = ProjectReference.entry (m ((c.tc : Thread nD τ).loc main_arg0)) (m ((c.tc : Thread nD τ).loc main_arg1)) (m ((c.tc : Thread nD τ).loc main_arg2)) b p j := by
  have ex := funext fun k => rows_at m c t a k r b p hr hb
  have eg := funext fun k => norm_at m c t k
  have ew := funext fun k => funext fun j => cols_at m c t k j
  exact congr (congr (congr (congrArg Project.proj ex) eg) ew) rfl

/-! What the results hold after the run: the reference's arrays. -/

abbrev whole3 (c : Dev nD) : Vec Ideal S16384x512 .f32 :=
  Cert.ProjectReferenceIdeal.Read.val_main_v33 (F := Ideal) (m ((c.tc : Thread nD τ).loc main_arg0)) (m ((c.tc : Thread nD τ).loc main_arg1)) (m ((c.tc : Thread nD τ).loc main_arg2))
abbrev whole4 (c : Dev nD) : Vec Ideal S16384x512 .bf16 :=
  Cert.ProjectReferenceIdeal.Read.val_main_v37 (F := Ideal) (m ((c.tc : Thread nD τ).loc main_arg0)) (m ((c.tc : Thread nD τ).loc main_arg1)) (m ((c.tc : Thread nD τ).loc main_arg2))
abbrev whole5 (c : Dev nD) : Vec Ideal S2x8x512x2048 .f32 :=
  Cert.ProjectReferenceIdeal.Read.val_main_v39 (F := Ideal) (m ((c.tc : Thread nD τ).loc main_arg0)) (m ((c.tc : Thread nD τ).loc main_arg1)) (m ((c.tc : Thread nD τ).loc main_arg2))
abbrev whole6 (c : Dev nD) : Vec Ideal S2x8x512x2048 .f32 :=
  Cert.ProjectReferenceIdeal.Read.val_main_v41 (F := Ideal) (m ((c.tc : Thread nD τ).loc main_arg0)) (m ((c.tc : Thread nD τ).loc main_arg1)) (m ((c.tc : Thread nD τ).loc main_arg2))
abbrev whole7 (c : Dev nD) : Vec Ideal S16384x512 .f32 :=
  Cert.ProjectReferenceIdeal.Read.val_main_v42 (F := Ideal) (m ((c.tc : Thread nD τ).loc main_arg0)) (m ((c.tc : Thread nD τ).loc main_arg1)) (m ((c.tc : Thread nD τ).loc main_arg2))
abbrev whole8 (c : Dev nD) : Vec Ideal S16384x3072 .bf16 :=
  Cert.ProjectReferenceIdeal.Read.val_main_v50 (F := Ideal) (m ((c.tc : Thread nD τ).loc main_arg0)) (m ((c.tc : Thread nD τ).loc main_arg1)) (m ((c.tc : Thread nD τ).loc main_arg2))

theorem point3 (c : Dev nD) (t : Fin cfg0.N) (a : Fin 512) (f : Fin 512) (r : Fin 16384) (b : Fin 8) (p : Fin 2048) (hr : r.val = 512 * t.val + a.val) (hb : r.val = 2048 * b.val + p.val) :
    k0_pay3 (iblk m c 0 t) (iblk m c 1 t) (cols 0 (by norm_num) (iblk m c 2 t)) (cols 512 (by norm_num) (iblk m c 2 t)) (ix2 a f) = whole3 m c (ix2 r f) :=
  (u_block _ _ _ a f ⟨f.val, by omega⟩ ⟨512 + f.val, by omega⟩ rfl rfl).trans ((congr (congrArg Project.gated (entry_at m c t a r b p hr hb _)) (entry_at m c t a r b p hr hb _)).trans (ProjectReference.u_apply _ _ _ r b p hb f _ _ rfl rfl).symm)

theorem flushed3_eq (c : Dev nD) (t : Fin cfg0.N) : (dats m 0 c).flushed 3 t = ((cfg0.win 3).blk t).view.read (Elt Ideal) (whole3 m c) := by
  refine (flushed3_A m c t).trans ((congrArg ((cfg0.win 3).cut (grid0.coords t)) (out3_eq c (grid0.coords t) _ _ _ _ _ _ _ _ _ _ _ _ _ _ _ _ _ _ _ _ _ _ _)).trans ?_)
  refine funext fun (y : S512x512.Idx) => ?_
  obtain ⟨a, f, rfl⟩ : ∃ (a : Fin 512) (f : Fin 512), y = ix2 a f := ⟨y 0, y 1, funext fun x => by fin_cases x <;> rfl⟩
  have ht : t.val < 32 := t.isLt
  exact (point3 m c t a f ⟨512 * t.val + a.val, by omega⟩ ⟨(512 * t.val + a.val) / 2048, by omega⟩ ⟨(512 * t.val + a.val) % 2048, Nat.mod_lt _ (by norm_num)⟩ rfl (Nat.div_add_mod _ _).symm).trans (read3_at t (whole3 m c) a f _ rfl).symm

theorem cover3 (i : S16384x512.Idx) : ∃ t : Fin cfg0.N, (cfg0.win 3).flush t = true ∧ i ∈ ((cfg0.win 3).blk t).view.set := by
  have h0 : (i 0).val < 16384 := (i 0).isLt
  have h1 : (i 1).val < 512 := (i 1).isLt
  have ht : (i 0).val / 512 < cfg0.N := (by omega : (i 0).val / 512 < 32)
  refine ⟨⟨(i 0).val / 512, ht⟩, flush3 _, ?_⟩
  obtain ⟨e0, e1⟩ := index3 ⟨(i 0).val / 512, ht⟩
  refine (Finset.ext_iff.mp (View.set_slice_whole main_v7_0 (win0_3.rect _)) i).mpr ((Pipeline.Window.mem_rect_iff win0_3 _ i rfl).mpr fun x => ?_)
  fin_cases x
  · show win0_3.index _ 0 * 512 ≤ (i 0).val ∧ (i 0).val < win0_3.index _ 0 * 512 + 512
    rw [e0]
    show (i 0).val / 512 * 512 ≤ _ ∧ _ < (i 0).val / 512 * 512 + 512
    omega
  · show win0_3.index _ 1 * 512 ≤ (i 1).val ∧ (i 1).val < win0_3.index _ 1 * 512 + 512
    omega

theorem result3_eq (c : Dev nD) : (dats m 0 c).arrAt 3 cfg0.N = whole3 m c :=
  (dats m 0 c).arrAt_eq_of_cover 3 (whole3 m c) (fun t _ => flushed3_eq m c t) cover3

theorem point4 (c : Dev nD) (t : Fin cfg0.N) (a : Fin 512) (f : Fin 512) (r : Fin 16384) (b : Fin 8) (p : Fin 2048) (hr : r.val = 512 * t.val + a.val) (hb : r.val = 2048 * b.val + p.val) :
    k0_pay4 (iblk m c 0 t) (iblk m c 1 t) (cols 1024 (by norm_num) (iblk m c 2 t)) (ix2 a f) = whole4 m c (ix2 r f) :=
  (q_block _ _ _ a f ⟨1024 + f.val, by omega⟩ rfl).trans ((congrArg Project.scaled (entry_at m c t a r b p hr hb _)).trans (ProjectReference.q_apply _ _ _ r b p hb f _ rfl).symm)

theorem flushed4_eq (c : Dev nD) (t : Fin cfg0.N) : (dats m 0 c).flushed 4 t = ((cfg0.win 4).blk t).view.read (Elt Ideal) (whole4 m c) := by
  refine (flushed4_A m c t).trans ((congrArg ((cfg0.win 4).cut (grid0.coords t)) (out4_eq c (grid0.coords t) _ _ _ _ _ _ _ _ _ _ _ _ _ _ _ _ _ _ _ _ _ _ _)).trans ?_)
  refine funext fun (y : S512x512.Idx) => ?_
  obtain ⟨a, f, rfl⟩ : ∃ (a : Fin 512) (f : Fin 512), y = ix2 a f := ⟨y 0, y 1, funext fun x => by fin_cases x <;> rfl⟩
  have ht : t.val < 32 := t.isLt
  exact (point4 m c t a f ⟨512 * t.val + a.val, by omega⟩ ⟨(512 * t.val + a.val) / 2048, by omega⟩ ⟨(512 * t.val + a.val) % 2048, Nat.mod_lt _ (by norm_num)⟩ rfl (Nat.div_add_mod _ _).symm).trans (read4_at t (whole4 m c) a f _ rfl).symm

theorem cover4 (i : S16384x512.Idx) : ∃ t : Fin cfg0.N, (cfg0.win 4).flush t = true ∧ i ∈ ((cfg0.win 4).blk t).view.set := by
  have h0 : (i 0).val < 16384 := (i 0).isLt
  have h1 : (i 1).val < 512 := (i 1).isLt
  have ht : (i 0).val / 512 < cfg0.N := (by omega : (i 0).val / 512 < 32)
  refine ⟨⟨(i 0).val / 512, ht⟩, flush4 _, ?_⟩
  obtain ⟨e0, e1⟩ := index4 ⟨(i 0).val / 512, ht⟩
  refine (Finset.ext_iff.mp (View.set_slice_whole main_v7_1 (win0_4.rect _)) i).mpr ((Pipeline.Window.mem_rect_iff win0_4 _ i rfl).mpr fun x => ?_)
  fin_cases x
  · show win0_4.index _ 0 * 512 ≤ (i 0).val ∧ (i 0).val < win0_4.index _ 0 * 512 + 512
    rw [e0]
    show (i 0).val / 512 * 512 ≤ _ ∧ _ < (i 0).val / 512 * 512 + 512
    omega
  · show win0_4.index _ 1 * 512 ≤ (i 1).val ∧ (i 1).val < win0_4.index _ 1 * 512 + 512
    omega

theorem result4_eq (c : Dev nD) : (dats m 0 c).arrAt 4 cfg0.N = whole4 m c :=
  (dats m 0 c).arrAt_eq_of_cover 4 (whole4 m c) (fun t _ => flushed4_eq m c t) cover4

theorem point7 (c : Dev nD) (t : Fin cfg0.N) (a : Fin 512) (f : Fin 512) (r : Fin 16384) (b : Fin 8) (p : Fin 2048) (hr : r.val = 512 * t.val + a.val) (hb : r.val = 2048 * b.val + p.val) :
    k0_pay9 (k0_pay2 (iblk m c 0 t) (iblk m c 1 t)) (cols 2560 (by norm_num) (iblk m c 2 t)) (ix2 a f) = whole7 m c (ix2 r f) :=
  (p_block _ _ _ a f ⟨2560 + f.val, by omega⟩ rfl).trans ((entry_at m c t a r b p hr hb _).trans (ProjectReference.p_apply _ _ _ r b p hb f _ rfl).symm)

theorem flushed7_eq (c : Dev nD) (t : Fin cfg0.N) : (dats m 0 c).flushed 7 t = ((cfg0.win 7).blk t).view.read (Elt Ideal) (whole7 m c) := by
  refine (flushed7_A m c t).trans ((congrArg ((cfg0.win 7).cut (grid0.coords t)) (out7_eq c (grid0.coords t) _ _ _ _ _ _ _ _ _ _ _ _ _ _ _ _ _ _ _ _ _ _ _)).trans ?_)
  refine funext fun (y : S512x512.Idx) => ?_
  obtain ⟨a, f, rfl⟩ : ∃ (a : Fin 512) (f : Fin 512), y = ix2 a f := ⟨y 0, y 1, funext fun x => by fin_cases x <;> rfl⟩
  have ht : t.val < 32 := t.isLt
  exact (point7 m c t a f ⟨512 * t.val + a.val, by omega⟩ ⟨(512 * t.val + a.val) / 2048, by omega⟩ ⟨(512 * t.val + a.val) % 2048, Nat.mod_lt _ (by norm_num)⟩ rfl (Nat.div_add_mod _ _).symm).trans (read7_at t (whole7 m c) a f _ rfl).symm

theorem cover7 (i : S16384x512.Idx) : ∃ t : Fin cfg0.N, (cfg0.win 7).flush t = true ∧ i ∈ ((cfg0.win 7).blk t).view.set := by
  have h0 : (i 0).val < 16384 := (i 0).isLt
  have h1 : (i 1).val < 512 := (i 1).isLt
  have ht : (i 0).val / 512 < cfg0.N := (by omega : (i 0).val / 512 < 32)
  refine ⟨⟨(i 0).val / 512, ht⟩, flush7 _, ?_⟩
  obtain ⟨e0, e1⟩ := index7 ⟨(i 0).val / 512, ht⟩
  refine (Finset.ext_iff.mp (View.set_slice_whole main_v7_4 (win0_7.rect _)) i).mpr ((Pipeline.Window.mem_rect_iff win0_7 _ i rfl).mpr fun x => ?_)
  fin_cases x
  · show win0_7.index _ 0 * 512 ≤ (i 0).val ∧ (i 0).val < win0_7.index _ 0 * 512 + 512
    rw [e0]
    show (i 0).val / 512 * 512 ≤ _ ∧ _ < (i 0).val / 512 * 512 + 512
    omega
  · show win0_7.index _ 1 * 512 ≤ (i 1).val ∧ (i 1).val < win0_7.index _ 1 * 512 + 512
    omega

theorem result7_eq (c : Dev nD) : (dats m 0 c).arrAt 7 cfg0.N = whole7 m c :=
  (dats m 0 c).arrAt_eq_of_cover 7 (whole7 m c) (fun t _ => flushed7_eq m c t) cover7

theorem point8 (c : Dev nD) (t : Fin cfg0.N) (a : Fin 512) (f : Fin 3072) (r : Fin 16384) (b : Fin 8) (p : Fin 2048) (hr : r.val = 512 * t.val + a.val) (hb : r.val = 2048 * b.val + p.val) :
    gates (k0_pay2 (iblk m c 0 t) (iblk m c 1 t)) (iblk m c 2 t) (ix2 a f) = whole8 m c (ix2 r f) :=
  (g_block _ _ _ a f ⟨3072 + f.val, by omega⟩ rfl).trans ((congrArg Ideal.logistic (entry_at m c t a r b p hr hb _)).trans (ProjectReference.g_apply _ _ _ r b p hb f _ rfl).symm)

theorem flushed8_eq (c : Dev nD) (t : Fin cfg0.N) : (dats m 0 c).flushed 8 t = ((cfg0.win 8).blk t).view.read (Elt Ideal) (whole8 m c) := by
  refine (flushed8_A m c t).trans ((congrArg ((cfg0.win 8).cut (grid0.coords t)) (out8_eq c (grid0.coords t) _ _ _ _ _ _ _ _ _ _ _ _ _ _ _ _ _ _ _ _ _ _ _)).trans ?_)
  refine funext fun (y : S512x3072.Idx) => ?_
  obtain ⟨a, f, rfl⟩ : ∃ (a : Fin 512) (f : Fin 3072), y = ix2 a f := ⟨y 0, y 1, funext fun x => by fin_cases x <;> rfl⟩
  have ht : t.val < 32 := t.isLt
  exact (point8 m c t a f ⟨512 * t.val + a.val, by omega⟩ ⟨(512 * t.val + a.val) / 2048, by omega⟩ ⟨(512 * t.val + a.val) % 2048, Nat.mod_lt _ (by norm_num)⟩ rfl (Nat.div_add_mod _ _).symm).trans (read8_at t (whole8 m c) a f _ rfl).symm

theorem cover8 (i : S16384x3072.Idx) : ∃ t : Fin cfg0.N, (cfg0.win 8).flush t = true ∧ i ∈ ((cfg0.win 8).blk t).view.set := by
  have h0 : (i 0).val < 16384 := (i 0).isLt
  have h1 : (i 1).val < 3072 := (i 1).isLt
  have ht : (i 0).val / 512 < cfg0.N := (by omega : (i 0).val / 512 < 32)
  refine ⟨⟨(i 0).val / 512, ht⟩, flush8 _, ?_⟩
  obtain ⟨e0, e1⟩ := index8 ⟨(i 0).val / 512, ht⟩
  refine (Finset.ext_iff.mp (View.set_slice_whole main_v7_5 (win0_8.rect _)) i).mpr ((Pipeline.Window.mem_rect_iff win0_8 _ i rfl).mpr fun x => ?_)
  fin_cases x
  · show win0_8.index _ 0 * 512 ≤ (i 0).val ∧ (i 0).val < win0_8.index _ 0 * 512 + 512
    rw [e0]
    show (i 0).val / 512 * 512 ≤ _ ∧ _ < (i 0).val / 512 * 512 + 512
    omega
  · show win0_8.index _ 1 * 3072 ≤ (i 1).val ∧ (i 1).val < win0_8.index _ 1 * 3072 + 3072
    omega

theorem result8_eq (c : Dev nD) : (dats m 0 c).arrAt 8 cfg0.N = whole8 m c :=
  (dats m 0 c).arrAt_eq_of_cover 8 (whole8 m c) (fun t _ => flushed8_eq m c t) cover8

/-- The first layer's plane, an entry at a time. -/
theorem plane5 (c : Dev nD) (b : Fin 8) (f : Fin 512) (p : Fin 2048) : (dats m 0 c).arrAt 5 cfg0.N (ix4 0 b f p) = whole5 m c (ix4 0 b f p) := by
  have ht : 4 * b.val + p.val / 512 < cfg0.N := (by omega : 4 * b.val + p.val / 512 < 32)
  have q := congrFun ((blocks5 m c ⟨_, ht⟩ (flush5 _)).trans ((flushed5_A m c ⟨_, ht⟩).trans (congrArg ((cfg0.win 5).cut (grid0.coords ⟨_, ht⟩)) (out5_eq c (grid0.coords ⟨_, ht⟩) _ _ _ _ _ _ _ _ _ _ _ _ _ _ _ _ _ _ _ _ _ _ _))))
    (ix4 0 0 f ⟨p.val % 512, Nat.mod_lt _ (by norm_num)⟩)
  refine (read5_at ⟨_, ht⟩ _ f ⟨p.val % 512, Nat.mod_lt _ (by norm_num)⟩ b p (by show b.val = (4 * b.val + p.val / 512) / 4; omega) (by show p.val = 512 * ((4 * b.val + p.val / 512) % 4) + p.val % 512; omega)).symm.trans (q.trans ?_)
  refine (k_block _ _ _ ⟨p.val % 512, Nat.mod_lt _ (by norm_num)⟩ f ⟨1536 + f.val, by omega⟩ rfl).trans (Eq.trans ?_ (ProjectReference.k_apply _ _ _ b p f 0 ⟨1536 + f.val, by omega⟩ rfl).symm)
  exact entry_at m c ⟨_, ht⟩ _ ⟨2048 * b.val + p.val, by omega⟩ b p (by show 2048 * b.val + p.val = 512 * (4 * b.val + p.val / 512) + p.val % 512; omega) rfl _

/-- The first layer's plane, an entry at a time. -/
theorem plane6 (c : Dev nD) (b : Fin 8) (f : Fin 512) (p : Fin 2048) : (dats m 0 c).arrAt 6 cfg0.N (ix4 0 b f p) = whole6 m c (ix4 0 b f p) := by
  have ht : 4 * b.val + p.val / 512 < cfg0.N := (by omega : 4 * b.val + p.val / 512 < 32)
  have q := congrFun ((blocks6 m c ⟨_, ht⟩ (flush6 _)).trans ((flushed6_A m c ⟨_, ht⟩).trans (congrArg ((cfg0.win 6).cut (grid0.coords ⟨_, ht⟩)) (out6_eq c (grid0.coords ⟨_, ht⟩) _ _ _ _ _ _ _ _ _ _ _ _ _ _ _ _ _ _ _ _ _ _ _))))
    (ix4 0 0 f ⟨p.val % 512, Nat.mod_lt _ (by norm_num)⟩)
  refine (read6_at ⟨_, ht⟩ _ f ⟨p.val % 512, Nat.mod_lt _ (by norm_num)⟩ b p (by show b.val = (4 * b.val + p.val / 512) / 4; omega) (by show p.val = 512 * ((4 * b.val + p.val / 512) % 4) + p.val % 512; omega)).symm.trans (q.trans ?_)
  refine (v_block _ _ _ ⟨p.val % 512, Nat.mod_lt _ (by norm_num)⟩ f ⟨2048 + f.val, by omega⟩ rfl).trans (Eq.trans ?_ (ProjectReference.v_apply _ _ _ b p f 0 ⟨2048 + f.val, by omega⟩ rfl).symm)
  exact entry_at m c ⟨_, ht⟩ _ ⟨2048 * b.val + p.val, by omega⟩ b p (by show 2048 * b.val + p.val = 512 * (4 * b.val + p.val / 512) + p.val % 512; omega) rfl _

end Run

end Cert.Proof.ProjectIdeal

namespace Cert.Proof

open Idealize.ShloMosaic Idealize.SL.Sem

section Mask

variable (x0 : FVec Ideal Cert.On_layer_0.S8x2048x1024 .f32) (x1 : FVec Ideal Cert.On_layer_0.S2x1024 .f32) (x2 : FVec Ideal Cert.On_layer_0.S2x1024x6144 .f32) (i : Cert.On_layer_0.S2x8x512x2048.Idx)

theorem layer_word (h : IntOp.cmpi .slt (BitVec.ofNat 32 (i 0).val) (BitVec.ofNat 32 1) = 1#1) : (i 0).val = 0 := by
  have h0 : (i 0).val < 2 := (i 0).isLt
  have q := (WordCmp.cmpi_slt_ofNat_eq_one_iff (w := 32) (by omega) (by norm_num)).mp h
  omega

theorem layer_keys (h : (Cert.On_layer_0.fn x0 x1 x2).2.2.1 i = 1#1) : (i 0).val = 0 :=
  layer_word i ((congrArg (IntOp.cmpi .slt (BitVec.ofNat 32 (i 0).val)) (Routing.bc0 Cert.On_layer_0.Facts.bcast_S_S2x8x512x2048 _ i).symm).trans h)

theorem layer_values (h : (Cert.On_layer_0.fn x0 x1 x2).2.2.2.1 i = 1#1) : (i 0).val = 0 := layer_keys x0 x1 x2 i h

end Mask

/-- The projection call's results are its reference's, the planes at the first layer. -/
theorem algebraic_project : Cert.algebraic_ProjectIdeal_ProjectReferenceIdeal_on_layer_0 := fun m g m' g' _ hm =>
  ⟨ProjectIdeal.whole3 m, ProjectIdeal.whole4 m, ProjectIdeal.whole5 m, ProjectIdeal.whole6 m, ProjectIdeal.whole7 m, ProjectIdeal.whole8 m,
    (θ_run _ _ _).mono (fun r h c => by
      obtain ⟨h3, h4, h5, h6, h7, h8, hk⟩ := h c
      refine ⟨fun i _ => congrFun (h3.trans (ProjectIdeal.result3_eq m c)) i, fun i _ => congrFun (h4.trans (ProjectIdeal.result4_eq m c)) i, fun i hi => ?_, fun i hi => ?_,
        fun i _ => congrFun (h7.trans (ProjectIdeal.result7_eq m c)) i, fun i _ => congrFun (h8.trans (ProjectIdeal.result8_eq m c)) i, hk⟩
      · have e0 := layer_keys _ _ _ i hi
        obtain ⟨b, f, p, rfl⟩ : ∃ (b : Fin 8) (f : Fin 512) (p : Fin 2048), i = ix4 0 b f p := ⟨i 1, i 2, i 3, funext fun x => by
          fin_cases x
          · exact Fin.ext e0
          all_goals rfl⟩
        exact (congrFun h5 _).trans (ProjectIdeal.plane5 m c b f p)
      · have e0 := layer_values _ _ _ i hi
        obtain ⟨b, f, p, rfl⟩ : ∃ (b : Fin 8) (f : Fin 512) (p : Fin 2048), i = ix4 0 b f p := ⟨i 1, i 2, i 3, funext fun x => by
          fin_cases x
          · exact Fin.ext e0
          all_goals rfl⟩
        exact (congrFun h6 _).trans (ProjectIdeal.plane6 m c b f p)) (Cert.ProjectIdeal.Value.run_blocks m g),
    (θ_run _ _ _).mono (fun r h c => by
      obtain ⟨h0, h1, h2⟩ := hm c
      obtain ⟨h3, h4, h5, h6, h7, h8, hk⟩ := h c
      refine ⟨fun i _ => congrFun (h3.trans ((Cert.ProjectReferenceIdeal.Read.val_main_v33_eq _ _ _).trans ?_)) i, fun i _ => congrFun (h4.trans ((Cert.ProjectReferenceIdeal.Read.val_main_v37_eq _ _ _).trans ?_)) i,
        fun i _ => congrFun (h5.trans ((Cert.ProjectReferenceIdeal.Read.val_main_v39_eq _ _ _).trans ?_)) i, fun i _ => congrFun (h6.trans ((Cert.ProjectReferenceIdeal.Read.val_main_v41_eq _ _ _).trans ?_)) i,
        fun i _ => congrFun (h7.trans ((Cert.ProjectReferenceIdeal.Read.val_main_v42_eq _ _ _).trans ?_)) i, fun i _ => congrFun (h8.trans ((Cert.ProjectReferenceIdeal.Read.val_main_v50_eq _ _ _).trans ?_)) i, hk⟩
      all_goals rw [h0, h1, h2]) (Cert.ProjectReferenceIdeal.Value.run m' g')⟩

theorem frame_project : Cert.quiescent_Project := fun m g _ => Cert.Project.Gen.frame m g

theorem frame_projectIdeal : Cert.quiescent_ProjectIdeal := fun m g _ => Cert.ProjectIdeal.Gen.frame m g

theorem frame_projectReferenceIdeal : Cert.quiescent_ProjectReferenceIdeal := fun m g _ =>
  (θ_run _ _ _).mono (fun r h => ⟨fun c => by
    obtain ⟨h3, h4, h5, h6, h7, h8, hk⟩ := h c
    exact hk, sem_eq_zero_of_no_sems rfl r.2⟩) (Cert.ProjectReferenceIdeal.Value.run m g)

end Cert.Proof

end
-- ==== Proof.lean ====
module

public import proofs.«01_k».proof.Proof.Frames
public import proofs.«01_k».proof.Proof.Reference
public import proofs.«01_k».proof.Proof.Result
public import proofs.«01_k».proof.Proof.ExpertFrames
public import proofs.«01_k».proof.Proof.ExpertResult
public import proofs.«01_k».proof.Proof.DenseArray
public import proofs.«01_k».proof.Proof.ProjectArray
public import proofs.«01_k».proof.Proof.Gen.Kernel
public import proofs.«01_k».proof.Proof.Gen.KernelIdeal
public import proofs.«01_k».proof.Proof.Gen.ReferenceIdeal
public import proofs.«01_k».proof.Proof.Gen.Expert
public import proofs.«01_k».proof.Proof.Gen.ExpertIdeal
public import proofs.«01_k».proof.Proof.Gen.ExpertReferenceIdeal
public import proofs.«01_k».proof.Proof.Gen.Pre_sent
public import proofs.«01_k».proof.Proof.Gen.On_sent_rows
public import proofs.«01_k».proof.Proof.Gen.Dense
public import proofs.«01_k».proof.Proof.Gen.DenseIdeal
public import proofs.«01_k».proof.Proof.Gen.DenseReferenceIdeal
public import proofs.«01_k».proof.Proof.Gen.Project
public import proofs.«01_k».proof.Proof.Gen.ProjectIdeal
public import proofs.«01_k».proof.Proof.Gen.ProjectReferenceIdeal
public import proofs.«01_k».proof.Proof.Gen.On_layer_0
public import proofs.«01_k».proof.Defs

@[expose] public section

noncomputable section

namespace Cert.Proof

open Idealize.ShloMosaic Idealize.SL.Sem

/-- The named constant is within its type's rounding of the kernel's word. -/
theorem preserves : Cert.preserves_Kernel_KernelIdeal := IdealRules.named_const.statement Cert.KernelIdeal.κ "nlog2e" .f32 0xBFB8AA3B#32 _ rfl

/-- The kernel's result is the reference's. -/
theorem algebraic : Cert.algebraic_KernelIdeal_ReferenceIdeal := fun m g m' g' _ hm =>
  ⟨KernelIdeal.whole m, KernelIdeal.run_value m g,
    (θ_run _ _ _).mono (fun r h c => by
      obtain ⟨h0, h1, h2, h3⟩ := hm c
      refine ⟨(h c).1.trans ((Cert.ReferenceIdeal.Read.val_main_v28_eq m' c).trans ?_), (h c).2⟩
      rw [h0, h1, h2, h3]) (Cert.ReferenceIdeal.Value.run m' g')⟩

theorem claim : Cert.Claim := ⟨Cert.Kernel.Gen.facts, Cert.KernelIdeal.Gen.facts, Cert.ReferenceIdeal.Gen.facts,
  Cert.Expert.Gen.facts, Cert.ExpertIdeal.Gen.facts, Cert.ExpertReferenceIdeal.Gen.facts,
  Cert.Dense.Gen.facts, Cert.DenseIdeal.Gen.facts, Cert.DenseReferenceIdeal.Gen.facts,
  Cert.Project.Gen.facts, Cert.ProjectIdeal.Gen.facts, Cert.ProjectReferenceIdeal.Gen.facts, Cert.Pre_sent.Gen.facts, Cert.On_sent_rows.Gen.facts, Cert.On_layer_0.Gen.facts,
  frame_kernel, frame_kernelIdeal, frame_referenceIdeal, frame_expert, frame_expertIdeal, frame_expertReferenceIdeal,
  frame_dense, frame_denseIdeal, frame_denseReferenceIdeal, frame_project, frame_projectIdeal, frame_projectReferenceIdeal,
  preserves, algebraic, trivial, algebraic_expert, trivial, algebraic_dense, trivial, algebraic_project⟩

end Cert.Proof

end
